-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x8192 : Shape := ⟨3, ![1, 512, 8192]⟩
abbrev S4096x8192 : Shape := ⟨2, ![4096, 8192]⟩
abbrev S128x8192 : Shape := ⟨2, ![128, 8192]⟩
abbrev S8192x16 : Shape := ⟨2, ![8192, 16]⟩
abbrev S16x8192 : Shape := ⟨2, ![16, 8192]⟩
abbrev S512x8192 : Shape := ⟨2, ![512, 8192]⟩
abbrev S4096x512 : Shape := ⟨2, ![4096, 512]⟩
abbrev S128x512 : Shape := ⟨2, ![128, 512]⟩
abbrev S16x512 : Shape := ⟨2, ![16, 512]⟩
abbrev S512x512 : Shape := ⟨2, ![512, 512]⟩
abbrev S2x1024x512 : Shape := ⟨3, ![2, 1024, 512]⟩
abbrev S512x16 : Shape := ⟨2, ![512, 16]⟩
abbrev S32x128 : Shape := ⟨2, ![32, 128]⟩
abbrev S16x128 : Shape := ⟨2, ![16, 128]⟩
abbrev S1x128 : Shape := ⟨2, ![1, 128]⟩
abbrev S32x128x1 : Shape := ⟨3, ![32, 128, 1]⟩
abbrev S8x128 : Shape := ⟨2, ![8, 128]⟩
abbrev S16x128x1 : Shape := ⟨3, ![16, 128, 1]⟩
abbrev S1x16x128 : Shape := ⟨3, ![1, 16, 128]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S1x512x8192, .bf16⟩
  | .hbm, ⟨1, _⟩ => ⟨S4096x8192, .i8⟩
  | .hbm, ⟨2, _⟩ => ⟨S128x8192, .f32⟩
  | .hbm, ⟨3, _⟩ => ⟨S8192x16, .bf16⟩
  | .hbm, ⟨4, _⟩ => ⟨S16x8192, .bf16⟩
  | .hbm, ⟨5, _⟩ => ⟨S512x8192, .bf16⟩
  | .hbm, ⟨6, _⟩ => ⟨S512x8192, .bf16⟩
  | .local _ .vmem, ⟨0, _⟩ => ⟨S512x8192, .bf16⟩
  | .local _ .vmem, ⟨1, _⟩ => ⟨S4096x512, .i8⟩
  | .local _ .vmem, ⟨2, _⟩ => ⟨S4096x512, .i8⟩
  | .local _ .vmem, ⟨3, _⟩ => ⟨S128x512, .f32⟩
  | .local _ .vmem, ⟨4, _⟩ => ⟨S128x512, .f32⟩
  | .local _ .vmem, ⟨5, _⟩ => ⟨S8192x16, .bf16⟩
  | .local _ .vmem, ⟨6, _⟩ => ⟨S16x512, .bf16⟩
  | .local _ .vmem, ⟨7, _⟩ => ⟨S16x512, .bf16⟩
  | .local _ .vmem, ⟨8, _⟩ => ⟨S512x512, .bf16⟩
  | .local _ .vmem, ⟨9, _⟩ => ⟨S512x512, .bf16⟩
  | .local _ .vmem, ⟨10, _⟩ => ⟨S2x1024x512, .bf16⟩
  | .local _ .vmem, ⟨11, _⟩ => ⟨S512x16, .bf16⟩
  | _, _ => ⟨S1x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_23 : BitVec 32 := 0#32
  let c16_i32_24 : BitVec 32 := 16#32
  let v78 : BitVec 32 := Scalar.addi c0_i32_23 c16_i32_24
  let c1_i32_25 : BitVec 32 := 1#32
  ⟨c0_i32_23, v78, c1_i32_25⟩
def k0_mult1 (k0_t1 : Fin k0_t1_loop.trips) : BitVec 32 :=
  let c0_i32_99 : BitVec 32 := 0#32
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let v138 : BitVec 32 := Scalar.addi c0_i32_99 v137
  let c32_i32 : BitVec 32 := 32#32
  let v139 : BitVec 32 := Scalar.muli v138 c32_i32
  v139
def k0_off1 (k0_t1 : Fin k0_t1_loop.trips) : Fin 2 → Nat :=
  let c0_i32_99 : BitVec 32 := 0#32
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let v138 : BitVec 32 := Scalar.addi c0_i32_99 v137
  let c32_i32 : BitVec 32 := 32#32
  let v139 : BitVec 32 := Scalar.muli v138 c32_i32
  let v140 : BitVec 32 := v139
  let v141 : Index := Scalar.indexCast v140
  let c0_100 : Index := 0#32
  ![v141.toNat, 0]
def k0_off2 (k0_t1 : Fin k0_t1_loop.trips) : Fin 2 → Nat :=
  let c0_i32_99 : BitVec 32 := 0#32
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let v138 : BitVec 32 := Scalar.addi c0_i32_99 v137
  let v143 : Index := Scalar.indexCast v138
  let c0_101 : Index := 0#32
  ![v143.toNat, 0]
def k0_mult2 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32 : BitVec 32 := 64#32
  let v225 : BitVec 32 := Scalar.muli v137 c64_i32
  let c0_i32_112 : BitVec 32 := 0#32
  let v226 : BitVec 32 := Scalar.addi v225 c0_i32_112
  v226
def k0_off3 (k0_t1 : Fin k0_t1_loop.trips) (c0_i32_112 : BitVec 32) : Fin 3 → Nat :=
  let c0_113 : Index := 0#32
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32 : BitVec 32 := 64#32
  let v225 : BitVec 32 := Scalar.muli v137 c64_i32
  let v226 : BitVec 32 := Scalar.addi v225 c0_i32_112
  let v227 : BitVec 32 := v226
  let v228 : Index := Scalar.indexCast v227
  let c0_114 : Index := 0#32
  ![0, v228.toNat, 0]
def k0_mult3 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_115 : BitVec 32 := 64#32
  let v232 : BitVec 32 := Scalar.muli v137 c64_i32_115
  let c16_i32_116 : BitVec 32 := 16#32
  let v233 : BitVec 32 := Scalar.addi v232 c16_i32_116
  v233
def k0_mult4 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_119 : BitVec 32 := 64#32
  let v239 : BitVec 32 := Scalar.muli v137 c64_i32_119
  let c32_i32_120 : BitVec 32 := 32#32
  let v240 : BitVec 32 := Scalar.addi v239 c32_i32_120
  v240
def k0_mult5 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_123 : BitVec 32 := 64#32
  let v246 : BitVec 32 := Scalar.muli v137 c64_i32_123
  let c48_i32 : BitVec 32 := 48#32
  let v247 : BitVec 32 := Scalar.addi v246 c48_i32
  v247
def k0_off4 (k0_t1 : Fin k0_t1_loop.trips) : Fin 2 → Nat :=
  let c0_i32_99 : BitVec 32 := 0#32
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let v138 : BitVec 32 := Scalar.addi c0_i32_99 v137
  let c32_i32 : BitVec 32 := 32#32
  let v139 : BitVec 32 := Scalar.muli v138 c32_i32
  let v140 : BitVec 32 := v139
  let v253 : Index := Scalar.indexCast v140
  let c128 : Index := 128#32
  ![v253.toNat, 128]
def k0_off5 (k0_t1 : Fin k0_t1_loop.trips) : Fin 2 → Nat :=
  let c0_i32_99 : BitVec 32 := 0#32
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let v138 : BitVec 32 := Scalar.addi c0_i32_99 v137
  let v255 : Index := Scalar.indexCast v138
  let c128_126 : Index := 128#32
  ![v255.toNat, 128]
def k0_mult6 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_141 : BitVec 32 := 64#32
  let v337 : BitVec 32 := Scalar.muli v137 c64_i32_141
  let c0_i32_142 : BitVec 32 := 0#32
  let v338 : BitVec 32 := Scalar.addi v337 c0_i32_142
  v338
def k0_off6 (k0_t1 : Fin k0_t1_loop.trips) (c0_i32_142 : BitVec 32) : Fin 3 → Nat :=
  let c0_143 : Index := 0#32
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_141 : BitVec 32 := 64#32
  let v337 : BitVec 32 := Scalar.muli v137 c64_i32_141
  let v338 : BitVec 32 := Scalar.addi v337 c0_i32_142
  let v339 : BitVec 32 := v338
  let v340 : Index := Scalar.indexCast v339
  let c128_144 : Index := 128#32
  ![0, v340.toNat, 128]
def k0_mult7 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_145 : BitVec 32 := 64#32
  let v344 : BitVec 32 := Scalar.muli v137 c64_i32_145
  let c16_i32_146 : BitVec 32 := 16#32
  let v345 : BitVec 32 := Scalar.addi v344 c16_i32_146
  v345
def k0_mult8 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_149 : BitVec 32 := 64#32
  let v351 : BitVec 32 := Scalar.muli v137 c64_i32_149
  let c32_i32_150 : BitVec 32 := 32#32
  let v352 : BitVec 32 := Scalar.addi v351 c32_i32_150
  v352
def k0_mult9 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_153 : BitVec 32 := 64#32
  let v358 : BitVec 32 := Scalar.muli v137 c64_i32_153
  let c48_i32_154 : BitVec 32 := 48#32
  let v359 : BitVec 32 := Scalar.addi v358 c48_i32_154
  v359
def k0_off7 (k0_t1 : Fin k0_t1_loop.trips) : Fin 2 → Nat :=
  let c0_i32_99 : BitVec 32 := 0#32
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let v138 : BitVec 32 := Scalar.addi c0_i32_99 v137
  let c32_i32 : BitVec 32 := 32#32
  let v139 : BitVec 32 := Scalar.muli v138 c32_i32
  let v140 : BitVec 32 := v139
  let v365 : Index := Scalar.indexCast v140
  let c256 : Index := 256#32
  ![v365.toNat, 256]
def k0_off8 (k0_t1 : Fin k0_t1_loop.trips) : Fin 2 → Nat :=
  let c0_i32_99 : BitVec 32 := 0#32
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let v138 : BitVec 32 := Scalar.addi c0_i32_99 v137
  let v367 : Index := Scalar.indexCast v138
  let c256_157 : Index := 256#32
  ![v367.toNat, 256]
def k0_mult10 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_172 : BitVec 32 := 64#32
  let v449 : BitVec 32 := Scalar.muli v137 c64_i32_172
  let c0_i32_173 : BitVec 32 := 0#32
  let v450 : BitVec 32 := Scalar.addi v449 c0_i32_173
  v450
def k0_off9 (k0_t1 : Fin k0_t1_loop.trips) (c0_i32_173 : BitVec 32) : Fin 3 → Nat :=
  let c0_174 : Index := 0#32
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_172 : BitVec 32 := 64#32
  let v449 : BitVec 32 := Scalar.muli v137 c64_i32_172
  let v450 : BitVec 32 := Scalar.addi v449 c0_i32_173
  let v451 : BitVec 32 := v450
  let v452 : Index := Scalar.indexCast v451
  let c256_175 : Index := 256#32
  ![0, v452.toNat, 256]
def k0_mult11 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_176 : BitVec 32 := 64#32
  let v456 : BitVec 32 := Scalar.muli v137 c64_i32_176
  let c16_i32_177 : BitVec 32 := 16#32
  let v457 : BitVec 32 := Scalar.addi v456 c16_i32_177
  v457
def k0_mult12 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_180 : BitVec 32 := 64#32
  let v463 : BitVec 32 := Scalar.muli v137 c64_i32_180
  let c32_i32_181 : BitVec 32 := 32#32
  let v464 : BitVec 32 := Scalar.addi v463 c32_i32_181
  v464
def k0_mult13 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_184 : BitVec 32 := 64#32
  let v470 : BitVec 32 := Scalar.muli v137 c64_i32_184
  let c48_i32_185 : BitVec 32 := 48#32
  let v471 : BitVec 32 := Scalar.addi v470 c48_i32_185
  v471
def k0_off10 (k0_t1 : Fin k0_t1_loop.trips) : Fin 2 → Nat :=
  let c0_i32_99 : BitVec 32 := 0#32
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let v138 : BitVec 32 := Scalar.addi c0_i32_99 v137
  let c32_i32 : BitVec 32 := 32#32
  let v139 : BitVec 32 := Scalar.muli v138 c32_i32
  let v140 : BitVec 32 := v139
  let v477 : Index := Scalar.indexCast v140
  let c384 : Index := 384#32
  ![v477.toNat, 384]
def k0_off11 (k0_t1 : Fin k0_t1_loop.trips) : Fin 2 → Nat :=
  let c0_i32_99 : BitVec 32 := 0#32
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let v138 : BitVec 32 := Scalar.addi c0_i32_99 v137
  let v479 : Index := Scalar.indexCast v138
  let c384_188 : Index := 384#32
  ![v479.toNat, 384]
def k0_mult14 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_203 : BitVec 32 := 64#32
  let v561 : BitVec 32 := Scalar.muli v137 c64_i32_203
  let c0_i32_204 : BitVec 32 := 0#32
  let v562 : BitVec 32 := Scalar.addi v561 c0_i32_204
  v562
def k0_off12 (k0_t1 : Fin k0_t1_loop.trips) (c0_i32_204 : BitVec 32) : Fin 3 → Nat :=
  let c0_205 : Index := 0#32
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_203 : BitVec 32 := 64#32
  let v561 : BitVec 32 := Scalar.muli v137 c64_i32_203
  let v562 : BitVec 32 := Scalar.addi v561 c0_i32_204
  let v563 : BitVec 32 := v562
  let v564 : Index := Scalar.indexCast v563
  let c384_206 : Index := 384#32
  ![0, v564.toNat, 384]
def k0_mult15 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_207 : BitVec 32 := 64#32
  let v568 : BitVec 32 := Scalar.muli v137 c64_i32_207
  let c16_i32_208 : BitVec 32 := 16#32
  let v569 : BitVec 32 := Scalar.addi v568 c16_i32_208
  v569
def k0_mult16 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_211 : BitVec 32 := 64#32
  let v575 : BitVec 32 := Scalar.muli v137 c64_i32_211
  let c32_i32_212 : BitVec 32 := 32#32
  let v576 : BitVec 32 := Scalar.addi v575 c32_i32_212
  v576
def k0_mult17 (k0_t1 : Fin k0_t1_loop.trips) : BitVec 32 :=
  let c0_i32_98 : BitVec 32 := 0#32
  let c0_i32_23 : BitVec 32 := 0#32
  let c1_i32_25 : BitVec 32 := 1#32
  let arg9 : BitVec 32 := Scf.iv c0_i32_23 c1_i32_25 k0_t1
  let c1_i32_97 : BitVec 32 := 1#32
  let v136 : BitVec 32 := Scalar.muli arg9 c1_i32_97
  let v137 : BitVec 32 := Scalar.addi c0_i32_98 v136
  let c64_i32_215 : BitVec 32 := 64#32
  let v582 : BitVec 32 := Scalar.muli v137 c64_i32_215
  let c48_i32_216 : BitVec 32 := 48#32
  let v583 : BitVec 32 := Scalar.addi v582 c48_i32_216
  v583
@[reducible] def k0_t2_loop : Scf.Loop 32 :=
  let c0_i32_33 : BitVec 32 := 0#32
  let c16_i32_34 : BitVec 32 := 16#32
  let v85 : BitVec 32 := Scalar.addi c0_i32_33 c16_i32_34
  let c1_i32_35 : BitVec 32 := 1#32
  ⟨c0_i32_33, v85, c1_i32_35⟩
def k0_mult18 (k0_t2 : Fin k0_t2_loop.trips) : BitVec 32 :=
  let c16_i32_99 : BitVec 32 := 16#32
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let v138 : BitVec 32 := Scalar.addi c16_i32_99 v137
  let c32_i32 : BitVec 32 := 32#32
  let v139 : BitVec 32 := Scalar.muli v138 c32_i32
  v139
def k0_off13 (k0_t2 : Fin k0_t2_loop.trips) : Fin 2 → Nat :=
  let c16_i32_99 : BitVec 32 := 16#32
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let v138 : BitVec 32 := Scalar.addi c16_i32_99 v137
  let c32_i32 : BitVec 32 := 32#32
  let v139 : BitVec 32 := Scalar.muli v138 c32_i32
  let v140 : BitVec 32 := v139
  let v141 : Index := Scalar.indexCast v140
  let c0_100 : Index := 0#32
  ![v141.toNat, 0]
def k0_off14 (k0_t2 : Fin k0_t2_loop.trips) : Fin 2 → Nat :=
  let c16_i32_99 : BitVec 32 := 16#32
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let v138 : BitVec 32 := Scalar.addi c16_i32_99 v137
  let v143 : Index := Scalar.indexCast v138
  let c0_101 : Index := 0#32
  ![v143.toNat, 0]
def k0_mult19 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32 : BitVec 32 := 64#32
  let v225 : BitVec 32 := Scalar.muli v137 c64_i32
  let c0_i32_112 : BitVec 32 := 0#32
  let v226 : BitVec 32 := Scalar.addi v225 c0_i32_112
  v226
def k0_off15 (k0_t2 : Fin k0_t2_loop.trips) (c0_i32_112 : BitVec 32) : Fin 3 → Nat :=
  let c1_113 : Index := 1#32
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32 : BitVec 32 := 64#32
  let v225 : BitVec 32 := Scalar.muli v137 c64_i32
  let v226 : BitVec 32 := Scalar.addi v225 c0_i32_112
  let v227 : BitVec 32 := v226
  let v228 : Index := Scalar.indexCast v227
  let c0_114 : Index := 0#32
  ![1, v228.toNat, 0]
def k0_mult20 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_115 : BitVec 32 := 64#32
  let v232 : BitVec 32 := Scalar.muli v137 c64_i32_115
  let c16_i32_116 : BitVec 32 := 16#32
  let v233 : BitVec 32 := Scalar.addi v232 c16_i32_116
  v233
def k0_mult21 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_119 : BitVec 32 := 64#32
  let v239 : BitVec 32 := Scalar.muli v137 c64_i32_119
  let c32_i32_120 : BitVec 32 := 32#32
  let v240 : BitVec 32 := Scalar.addi v239 c32_i32_120
  v240
def k0_mult22 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_123 : BitVec 32 := 64#32
  let v246 : BitVec 32 := Scalar.muli v137 c64_i32_123
  let c48_i32 : BitVec 32 := 48#32
  let v247 : BitVec 32 := Scalar.addi v246 c48_i32
  v247
def k0_off16 (k0_t2 : Fin k0_t2_loop.trips) : Fin 2 → Nat :=
  let c16_i32_99 : BitVec 32 := 16#32
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let v138 : BitVec 32 := Scalar.addi c16_i32_99 v137
  let c32_i32 : BitVec 32 := 32#32
  let v139 : BitVec 32 := Scalar.muli v138 c32_i32
  let v140 : BitVec 32 := v139
  let v253 : Index := Scalar.indexCast v140
  let c128 : Index := 128#32
  ![v253.toNat, 128]
def k0_off17 (k0_t2 : Fin k0_t2_loop.trips) : Fin 2 → Nat :=
  let c16_i32_99 : BitVec 32 := 16#32
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let v138 : BitVec 32 := Scalar.addi c16_i32_99 v137
  let v255 : Index := Scalar.indexCast v138
  let c128_126 : Index := 128#32
  ![v255.toNat, 128]
def k0_mult23 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_141 : BitVec 32 := 64#32
  let v337 : BitVec 32 := Scalar.muli v137 c64_i32_141
  let c0_i32_142 : BitVec 32 := 0#32
  let v338 : BitVec 32 := Scalar.addi v337 c0_i32_142
  v338
def k0_off18 (k0_t2 : Fin k0_t2_loop.trips) (c0_i32_142 : BitVec 32) : Fin 3 → Nat :=
  let c1_143 : Index := 1#32
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_141 : BitVec 32 := 64#32
  let v337 : BitVec 32 := Scalar.muli v137 c64_i32_141
  let v338 : BitVec 32 := Scalar.addi v337 c0_i32_142
  let v339 : BitVec 32 := v338
  let v340 : Index := Scalar.indexCast v339
  let c128_144 : Index := 128#32
  ![1, v340.toNat, 128]
def k0_mult24 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_145 : BitVec 32 := 64#32
  let v344 : BitVec 32 := Scalar.muli v137 c64_i32_145
  let c16_i32_146 : BitVec 32 := 16#32
  let v345 : BitVec 32 := Scalar.addi v344 c16_i32_146
  v345
def k0_mult25 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_149 : BitVec 32 := 64#32
  let v351 : BitVec 32 := Scalar.muli v137 c64_i32_149
  let c32_i32_150 : BitVec 32 := 32#32
  let v352 : BitVec 32 := Scalar.addi v351 c32_i32_150
  v352
def k0_mult26 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_153 : BitVec 32 := 64#32
  let v358 : BitVec 32 := Scalar.muli v137 c64_i32_153
  let c48_i32_154 : BitVec 32 := 48#32
  let v359 : BitVec 32 := Scalar.addi v358 c48_i32_154
  v359
def k0_off19 (k0_t2 : Fin k0_t2_loop.trips) : Fin 2 → Nat :=
  let c16_i32_99 : BitVec 32 := 16#32
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let v138 : BitVec 32 := Scalar.addi c16_i32_99 v137
  let c32_i32 : BitVec 32 := 32#32
  let v139 : BitVec 32 := Scalar.muli v138 c32_i32
  let v140 : BitVec 32 := v139
  let v365 : Index := Scalar.indexCast v140
  let c256 : Index := 256#32
  ![v365.toNat, 256]
def k0_off20 (k0_t2 : Fin k0_t2_loop.trips) : Fin 2 → Nat :=
  let c16_i32_99 : BitVec 32 := 16#32
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let v138 : BitVec 32 := Scalar.addi c16_i32_99 v137
  let v367 : Index := Scalar.indexCast v138
  let c256_157 : Index := 256#32
  ![v367.toNat, 256]
def k0_mult27 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_172 : BitVec 32 := 64#32
  let v449 : BitVec 32 := Scalar.muli v137 c64_i32_172
  let c0_i32_173 : BitVec 32 := 0#32
  let v450 : BitVec 32 := Scalar.addi v449 c0_i32_173
  v450
def k0_off21 (k0_t2 : Fin k0_t2_loop.trips) (c0_i32_173 : BitVec 32) : Fin 3 → Nat :=
  let c1_174 : Index := 1#32
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_172 : BitVec 32 := 64#32
  let v449 : BitVec 32 := Scalar.muli v137 c64_i32_172
  let v450 : BitVec 32 := Scalar.addi v449 c0_i32_173
  let v451 : BitVec 32 := v450
  let v452 : Index := Scalar.indexCast v451
  let c256_175 : Index := 256#32
  ![1, v452.toNat, 256]
def k0_mult28 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_176 : BitVec 32 := 64#32
  let v456 : BitVec 32 := Scalar.muli v137 c64_i32_176
  let c16_i32_177 : BitVec 32 := 16#32
  let v457 : BitVec 32 := Scalar.addi v456 c16_i32_177
  v457
def k0_mult29 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_180 : BitVec 32 := 64#32
  let v463 : BitVec 32 := Scalar.muli v137 c64_i32_180
  let c32_i32_181 : BitVec 32 := 32#32
  let v464 : BitVec 32 := Scalar.addi v463 c32_i32_181
  v464
def k0_mult30 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_184 : BitVec 32 := 64#32
  let v470 : BitVec 32 := Scalar.muli v137 c64_i32_184
  let c48_i32_185 : BitVec 32 := 48#32
  let v471 : BitVec 32 := Scalar.addi v470 c48_i32_185
  v471
def k0_off22 (k0_t2 : Fin k0_t2_loop.trips) : Fin 2 → Nat :=
  let c16_i32_99 : BitVec 32 := 16#32
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let v138 : BitVec 32 := Scalar.addi c16_i32_99 v137
  let c32_i32 : BitVec 32 := 32#32
  let v139 : BitVec 32 := Scalar.muli v138 c32_i32
  let v140 : BitVec 32 := v139
  let v477 : Index := Scalar.indexCast v140
  let c384 : Index := 384#32
  ![v477.toNat, 384]
def k0_off23 (k0_t2 : Fin k0_t2_loop.trips) : Fin 2 → Nat :=
  let c16_i32_99 : BitVec 32 := 16#32
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let v138 : BitVec 32 := Scalar.addi c16_i32_99 v137
  let v479 : Index := Scalar.indexCast v138
  let c384_188 : Index := 384#32
  ![v479.toNat, 384]
def k0_mult31 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_203 : BitVec 32 := 64#32
  let v561 : BitVec 32 := Scalar.muli v137 c64_i32_203
  let c0_i32_204 : BitVec 32 := 0#32
  let v562 : BitVec 32 := Scalar.addi v561 c0_i32_204
  v562
def k0_off24 (k0_t2 : Fin k0_t2_loop.trips) (c0_i32_204 : BitVec 32) : Fin 3 → Nat :=
  let c1_205 : Index := 1#32
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_203 : BitVec 32 := 64#32
  let v561 : BitVec 32 := Scalar.muli v137 c64_i32_203
  let v562 : BitVec 32 := Scalar.addi v561 c0_i32_204
  let v563 : BitVec 32 := v562
  let v564 : Index := Scalar.indexCast v563
  let c384_206 : Index := 384#32
  ![1, v564.toNat, 384]
def k0_mult32 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_207 : BitVec 32 := 64#32
  let v568 : BitVec 32 := Scalar.muli v137 c64_i32_207
  let c16_i32_208 : BitVec 32 := 16#32
  let v569 : BitVec 32 := Scalar.addi v568 c16_i32_208
  v569
def k0_mult33 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_211 : BitVec 32 := 64#32
  let v575 : BitVec 32 := Scalar.muli v137 c64_i32_211
  let c32_i32_212 : BitVec 32 := 32#32
  let v576 : BitVec 32 := Scalar.addi v575 c32_i32_212
  v576
def k0_mult34 (k0_t2 : Fin k0_t2_loop.trips) : BitVec 32 :=
  let c0_i32_98 : BitVec 32 := 0#32
  let c0_i32_33 : BitVec 32 := 0#32
  let c1_i32_35 : BitVec 32 := 1#32
  let arg9 : BitVec 32 := Scf.iv c0_i32_33 c1_i32_35 k0_t2
  let c1_i32_97 : BitVec 32 := 1#32
  let v136 : BitVec 32 := Scalar.muli arg9 c1_i32_97
  let v137 : BitVec 32 := Scalar.addi c0_i32_98 v136
  let c64_i32_215 : BitVec 32 := 64#32
  let v582 : BitVec 32 := Scalar.muli v137 c64_i32_215
  let c48_i32_216 : BitVec 32 := 48#32
  let v583 : BitVec 32 := Scalar.addi v582 c48_i32_216
  v583
@[reducible] def k0_t3_loop : Scf.Loop 32 :=
  let c0_i32_41 : BitVec 32 := 0#32
  let c16_i32_42 : BitVec 32 := 16#32
  let v92 : BitVec 32 := Scalar.addi c0_i32_41 c16_i32_42
  let c1_i32_43 : BitVec 32 := 1#32
  ⟨c0_i32_41, v92, c1_i32_43⟩
def k0_mult35 (k0_t3 : Fin k0_t3_loop.trips) : BitVec 32 :=
  let c32_i32 : BitVec 32 := 32#32
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let v138 : BitVec 32 := Scalar.addi c32_i32 v137
  let c32_i32_99 : BitVec 32 := 32#32
  let v139 : BitVec 32 := Scalar.muli v138 c32_i32_99
  v139
def k0_off25 (k0_t3 : Fin k0_t3_loop.trips) : Fin 2 → Nat :=
  let c32_i32 : BitVec 32 := 32#32
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let v138 : BitVec 32 := Scalar.addi c32_i32 v137
  let c32_i32_99 : BitVec 32 := 32#32
  let v139 : BitVec 32 := Scalar.muli v138 c32_i32_99
  let v140 : BitVec 32 := v139
  let v141 : Index := Scalar.indexCast v140
  let c0_100 : Index := 0#32
  ![v141.toNat, 0]
def k0_off26 (k0_t3 : Fin k0_t3_loop.trips) : Fin 2 → Nat :=
  let c32_i32 : BitVec 32 := 32#32
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let v138 : BitVec 32 := Scalar.addi c32_i32 v137
  let v143 : Index := Scalar.indexCast v138
  let c0_101 : Index := 0#32
  ![v143.toNat, 0]
def k0_mult36 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32 : BitVec 32 := 64#32
  let v225 : BitVec 32 := Scalar.muli v137 c64_i32
  let c0_i32_112 : BitVec 32 := 0#32
  let v226 : BitVec 32 := Scalar.addi v225 c0_i32_112
  v226
def k0_off27 (k0_t3 : Fin k0_t3_loop.trips) (c0_i32_112 : BitVec 32) : Fin 3 → Nat :=
  let c0_113 : Index := 0#32
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32 : BitVec 32 := 64#32
  let v225 : BitVec 32 := Scalar.muli v137 c64_i32
  let v226 : BitVec 32 := Scalar.addi v225 c0_i32_112
  let v227 : BitVec 32 := v226
  let v228 : Index := Scalar.indexCast v227
  let c0_114 : Index := 0#32
  ![0, v228.toNat, 0]
def k0_mult37 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_115 : BitVec 32 := 64#32
  let v232 : BitVec 32 := Scalar.muli v137 c64_i32_115
  let c16_i32_116 : BitVec 32 := 16#32
  let v233 : BitVec 32 := Scalar.addi v232 c16_i32_116
  v233
def k0_mult38 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_119 : BitVec 32 := 64#32
  let v239 : BitVec 32 := Scalar.muli v137 c64_i32_119
  let c32_i32_120 : BitVec 32 := 32#32
  let v240 : BitVec 32 := Scalar.addi v239 c32_i32_120
  v240
def k0_mult39 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_123 : BitVec 32 := 64#32
  let v246 : BitVec 32 := Scalar.muli v137 c64_i32_123
  let c48_i32 : BitVec 32 := 48#32
  let v247 : BitVec 32 := Scalar.addi v246 c48_i32
  v247
def k0_off28 (k0_t3 : Fin k0_t3_loop.trips) : Fin 2 → Nat :=
  let c32_i32 : BitVec 32 := 32#32
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let v138 : BitVec 32 := Scalar.addi c32_i32 v137
  let c32_i32_99 : BitVec 32 := 32#32
  let v139 : BitVec 32 := Scalar.muli v138 c32_i32_99
  let v140 : BitVec 32 := v139
  let v253 : Index := Scalar.indexCast v140
  let c128 : Index := 128#32
  ![v253.toNat, 128]
def k0_off29 (k0_t3 : Fin k0_t3_loop.trips) : Fin 2 → Nat :=
  let c32_i32 : BitVec 32 := 32#32
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let v138 : BitVec 32 := Scalar.addi c32_i32 v137
  let v255 : Index := Scalar.indexCast v138
  let c128_126 : Index := 128#32
  ![v255.toNat, 128]
def k0_mult40 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_141 : BitVec 32 := 64#32
  let v337 : BitVec 32 := Scalar.muli v137 c64_i32_141
  let c0_i32_142 : BitVec 32 := 0#32
  let v338 : BitVec 32 := Scalar.addi v337 c0_i32_142
  v338
def k0_off30 (k0_t3 : Fin k0_t3_loop.trips) (c0_i32_142 : BitVec 32) : Fin 3 → Nat :=
  let c0_143 : Index := 0#32
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_141 : BitVec 32 := 64#32
  let v337 : BitVec 32 := Scalar.muli v137 c64_i32_141
  let v338 : BitVec 32 := Scalar.addi v337 c0_i32_142
  let v339 : BitVec 32 := v338
  let v340 : Index := Scalar.indexCast v339
  let c128_144 : Index := 128#32
  ![0, v340.toNat, 128]
def k0_mult41 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_145 : BitVec 32 := 64#32
  let v344 : BitVec 32 := Scalar.muli v137 c64_i32_145
  let c16_i32_146 : BitVec 32 := 16#32
  let v345 : BitVec 32 := Scalar.addi v344 c16_i32_146
  v345
def k0_mult42 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_149 : BitVec 32 := 64#32
  let v351 : BitVec 32 := Scalar.muli v137 c64_i32_149
  let c32_i32_150 : BitVec 32 := 32#32
  let v352 : BitVec 32 := Scalar.addi v351 c32_i32_150
  v352
def k0_mult43 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_153 : BitVec 32 := 64#32
  let v358 : BitVec 32 := Scalar.muli v137 c64_i32_153
  let c48_i32_154 : BitVec 32 := 48#32
  let v359 : BitVec 32 := Scalar.addi v358 c48_i32_154
  v359
def k0_off31 (k0_t3 : Fin k0_t3_loop.trips) : Fin 2 → Nat :=
  let c32_i32 : BitVec 32 := 32#32
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let v138 : BitVec 32 := Scalar.addi c32_i32 v137
  let c32_i32_99 : BitVec 32 := 32#32
  let v139 : BitVec 32 := Scalar.muli v138 c32_i32_99
  let v140 : BitVec 32 := v139
  let v365 : Index := Scalar.indexCast v140
  let c256 : Index := 256#32
  ![v365.toNat, 256]
def k0_off32 (k0_t3 : Fin k0_t3_loop.trips) : Fin 2 → Nat :=
  let c32_i32 : BitVec 32 := 32#32
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let v138 : BitVec 32 := Scalar.addi c32_i32 v137
  let v367 : Index := Scalar.indexCast v138
  let c256_157 : Index := 256#32
  ![v367.toNat, 256]
def k0_mult44 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_172 : BitVec 32 := 64#32
  let v449 : BitVec 32 := Scalar.muli v137 c64_i32_172
  let c0_i32_173 : BitVec 32 := 0#32
  let v450 : BitVec 32 := Scalar.addi v449 c0_i32_173
  v450
def k0_off33 (k0_t3 : Fin k0_t3_loop.trips) (c0_i32_173 : BitVec 32) : Fin 3 → Nat :=
  let c0_174 : Index := 0#32
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_172 : BitVec 32 := 64#32
  let v449 : BitVec 32 := Scalar.muli v137 c64_i32_172
  let v450 : BitVec 32 := Scalar.addi v449 c0_i32_173
  let v451 : BitVec 32 := v450
  let v452 : Index := Scalar.indexCast v451
  let c256_175 : Index := 256#32
  ![0, v452.toNat, 256]
def k0_mult45 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_176 : BitVec 32 := 64#32
  let v456 : BitVec 32 := Scalar.muli v137 c64_i32_176
  let c16_i32_177 : BitVec 32 := 16#32
  let v457 : BitVec 32 := Scalar.addi v456 c16_i32_177
  v457
def k0_mult46 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_180 : BitVec 32 := 64#32
  let v463 : BitVec 32 := Scalar.muli v137 c64_i32_180
  let c32_i32_181 : BitVec 32 := 32#32
  let v464 : BitVec 32 := Scalar.addi v463 c32_i32_181
  v464
def k0_mult47 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_184 : BitVec 32 := 64#32
  let v470 : BitVec 32 := Scalar.muli v137 c64_i32_184
  let c48_i32_185 : BitVec 32 := 48#32
  let v471 : BitVec 32 := Scalar.addi v470 c48_i32_185
  v471
def k0_off34 (k0_t3 : Fin k0_t3_loop.trips) : Fin 2 → Nat :=
  let c32_i32 : BitVec 32 := 32#32
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let v138 : BitVec 32 := Scalar.addi c32_i32 v137
  let c32_i32_99 : BitVec 32 := 32#32
  let v139 : BitVec 32 := Scalar.muli v138 c32_i32_99
  let v140 : BitVec 32 := v139
  let v477 : Index := Scalar.indexCast v140
  let c384 : Index := 384#32
  ![v477.toNat, 384]
def k0_off35 (k0_t3 : Fin k0_t3_loop.trips) : Fin 2 → Nat :=
  let c32_i32 : BitVec 32 := 32#32
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let v138 : BitVec 32 := Scalar.addi c32_i32 v137
  let v479 : Index := Scalar.indexCast v138
  let c384_188 : Index := 384#32
  ![v479.toNat, 384]
def k0_mult48 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_203 : BitVec 32 := 64#32
  let v561 : BitVec 32 := Scalar.muli v137 c64_i32_203
  let c0_i32_204 : BitVec 32 := 0#32
  let v562 : BitVec 32 := Scalar.addi v561 c0_i32_204
  v562
def k0_off36 (k0_t3 : Fin k0_t3_loop.trips) (c0_i32_204 : BitVec 32) : Fin 3 → Nat :=
  let c0_205 : Index := 0#32
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_203 : BitVec 32 := 64#32
  let v561 : BitVec 32 := Scalar.muli v137 c64_i32_203
  let v562 : BitVec 32 := Scalar.addi v561 c0_i32_204
  let v563 : BitVec 32 := v562
  let v564 : Index := Scalar.indexCast v563
  let c384_206 : Index := 384#32
  ![0, v564.toNat, 384]
def k0_mult49 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_207 : BitVec 32 := 64#32
  let v568 : BitVec 32 := Scalar.muli v137 c64_i32_207
  let c16_i32_208 : BitVec 32 := 16#32
  let v569 : BitVec 32 := Scalar.addi v568 c16_i32_208
  v569
def k0_mult50 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_211 : BitVec 32 := 64#32
  let v575 : BitVec 32 := Scalar.muli v137 c64_i32_211
  let c32_i32_212 : BitVec 32 := 32#32
  let v576 : BitVec 32 := Scalar.addi v575 c32_i32_212
  v576
def k0_mult51 (k0_t3 : Fin k0_t3_loop.trips) : BitVec 32 :=
  let c0_i32_98 : BitVec 32 := 0#32
  let c0_i32_41 : BitVec 32 := 0#32
  let c1_i32_43 : BitVec 32 := 1#32
  let arg9 : BitVec 32 := Scf.iv c0_i32_41 c1_i32_43 k0_t3
  let c1_i32_97 : BitVec 32 := 1#32
  let v136 : BitVec 32 := Scalar.muli arg9 c1_i32_97
  let v137 : BitVec 32 := Scalar.addi c0_i32_98 v136
  let c64_i32_215 : BitVec 32 := 64#32
  let v582 : BitVec 32 := Scalar.muli v137 c64_i32_215
  let c48_i32_216 : BitVec 32 := 48#32
  let v583 : BitVec 32 := Scalar.addi v582 c48_i32_216
  v583
@[reducible] def k0_t4_loop : Scf.Loop 32 :=
  let c0_i32_50 : BitVec 32 := 0#32
  let c16_i32_51 : BitVec 32 := 16#32
  let v99 : BitVec 32 := Scalar.addi c0_i32_50 c16_i32_51
  let c1_i32_52 : BitVec 32 := 1#32
  ⟨c0_i32_50, v99, c1_i32_52⟩
def k0_mult52 (k0_t4 : Fin k0_t4_loop.trips) : BitVec 32 :=
  let c48_i32 : BitVec 32 := 48#32
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let v138 : BitVec 32 := Scalar.addi c48_i32 v137
  let c32_i32 : BitVec 32 := 32#32
  let v139 : BitVec 32 := Scalar.muli v138 c32_i32
  v139
def k0_off37 (k0_t4 : Fin k0_t4_loop.trips) : Fin 2 → Nat :=
  let c48_i32 : BitVec 32 := 48#32
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let v138 : BitVec 32 := Scalar.addi c48_i32 v137
  let c32_i32 : BitVec 32 := 32#32
  let v139 : BitVec 32 := Scalar.muli v138 c32_i32
  let v140 : BitVec 32 := v139
  let v141 : Index := Scalar.indexCast v140
  let c0_99 : Index := 0#32
  ![v141.toNat, 0]
def k0_off38 (k0_t4 : Fin k0_t4_loop.trips) : Fin 2 → Nat :=
  let c48_i32 : BitVec 32 := 48#32
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let v138 : BitVec 32 := Scalar.addi c48_i32 v137
  let v143 : Index := Scalar.indexCast v138
  let c0_100 : Index := 0#32
  ![v143.toNat, 0]
def k0_mult53 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32 : BitVec 32 := 64#32
  let v225 : BitVec 32 := Scalar.muli v137 c64_i32
  let c0_i32_111 : BitVec 32 := 0#32
  let v226 : BitVec 32 := Scalar.addi v225 c0_i32_111
  v226
def k0_off39 (k0_t4 : Fin k0_t4_loop.trips) (c0_i32_111 : BitVec 32) : Fin 3 → Nat :=
  let c1_112 : Index := 1#32
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32 : BitVec 32 := 64#32
  let v225 : BitVec 32 := Scalar.muli v137 c64_i32
  let v226 : BitVec 32 := Scalar.addi v225 c0_i32_111
  let v227 : BitVec 32 := v226
  let v228 : Index := Scalar.indexCast v227
  let c0_113 : Index := 0#32
  ![1, v228.toNat, 0]
def k0_mult54 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_114 : BitVec 32 := 64#32
  let v232 : BitVec 32 := Scalar.muli v137 c64_i32_114
  let c16_i32_115 : BitVec 32 := 16#32
  let v233 : BitVec 32 := Scalar.addi v232 c16_i32_115
  v233
def k0_mult55 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_118 : BitVec 32 := 64#32
  let v239 : BitVec 32 := Scalar.muli v137 c64_i32_118
  let c32_i32_119 : BitVec 32 := 32#32
  let v240 : BitVec 32 := Scalar.addi v239 c32_i32_119
  v240
def k0_mult56 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_122 : BitVec 32 := 64#32
  let v246 : BitVec 32 := Scalar.muli v137 c64_i32_122
  let c48_i32_123 : BitVec 32 := 48#32
  let v247 : BitVec 32 := Scalar.addi v246 c48_i32_123
  v247
def k0_off40 (k0_t4 : Fin k0_t4_loop.trips) : Fin 2 → Nat :=
  let c48_i32 : BitVec 32 := 48#32
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let v138 : BitVec 32 := Scalar.addi c48_i32 v137
  let c32_i32 : BitVec 32 := 32#32
  let v139 : BitVec 32 := Scalar.muli v138 c32_i32
  let v140 : BitVec 32 := v139
  let v253 : Index := Scalar.indexCast v140
  let c128 : Index := 128#32
  ![v253.toNat, 128]
def k0_off41 (k0_t4 : Fin k0_t4_loop.trips) : Fin 2 → Nat :=
  let c48_i32 : BitVec 32 := 48#32
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let v138 : BitVec 32 := Scalar.addi c48_i32 v137
  let v255 : Index := Scalar.indexCast v138
  let c128_126 : Index := 128#32
  ![v255.toNat, 128]
def k0_mult57 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_141 : BitVec 32 := 64#32
  let v337 : BitVec 32 := Scalar.muli v137 c64_i32_141
  let c0_i32_142 : BitVec 32 := 0#32
  let v338 : BitVec 32 := Scalar.addi v337 c0_i32_142
  v338
def k0_off42 (k0_t4 : Fin k0_t4_loop.trips) (c0_i32_142 : BitVec 32) : Fin 3 → Nat :=
  let c1_143 : Index := 1#32
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_141 : BitVec 32 := 64#32
  let v337 : BitVec 32 := Scalar.muli v137 c64_i32_141
  let v338 : BitVec 32 := Scalar.addi v337 c0_i32_142
  let v339 : BitVec 32 := v338
  let v340 : Index := Scalar.indexCast v339
  let c128_144 : Index := 128#32
  ![1, v340.toNat, 128]
def k0_mult58 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_145 : BitVec 32 := 64#32
  let v344 : BitVec 32 := Scalar.muli v137 c64_i32_145
  let c16_i32_146 : BitVec 32 := 16#32
  let v345 : BitVec 32 := Scalar.addi v344 c16_i32_146
  v345
def k0_mult59 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_149 : BitVec 32 := 64#32
  let v351 : BitVec 32 := Scalar.muli v137 c64_i32_149
  let c32_i32_150 : BitVec 32 := 32#32
  let v352 : BitVec 32 := Scalar.addi v351 c32_i32_150
  v352
def k0_mult60 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_153 : BitVec 32 := 64#32
  let v358 : BitVec 32 := Scalar.muli v137 c64_i32_153
  let c48_i32_154 : BitVec 32 := 48#32
  let v359 : BitVec 32 := Scalar.addi v358 c48_i32_154
  v359
def k0_off43 (k0_t4 : Fin k0_t4_loop.trips) : Fin 2 → Nat :=
  let c48_i32 : BitVec 32 := 48#32
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let v138 : BitVec 32 := Scalar.addi c48_i32 v137
  let c32_i32 : BitVec 32 := 32#32
  let v139 : BitVec 32 := Scalar.muli v138 c32_i32
  let v140 : BitVec 32 := v139
  let v365 : Index := Scalar.indexCast v140
  let c256 : Index := 256#32
  ![v365.toNat, 256]
def k0_off44 (k0_t4 : Fin k0_t4_loop.trips) : Fin 2 → Nat :=
  let c48_i32 : BitVec 32 := 48#32
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let v138 : BitVec 32 := Scalar.addi c48_i32 v137
  let v367 : Index := Scalar.indexCast v138
  let c256_157 : Index := 256#32
  ![v367.toNat, 256]
def k0_mult61 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_172 : BitVec 32 := 64#32
  let v449 : BitVec 32 := Scalar.muli v137 c64_i32_172
  let c0_i32_173 : BitVec 32 := 0#32
  let v450 : BitVec 32 := Scalar.addi v449 c0_i32_173
  v450
def k0_off45 (k0_t4 : Fin k0_t4_loop.trips) (c0_i32_173 : BitVec 32) : Fin 3 → Nat :=
  let c1_174 : Index := 1#32
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_172 : BitVec 32 := 64#32
  let v449 : BitVec 32 := Scalar.muli v137 c64_i32_172
  let v450 : BitVec 32 := Scalar.addi v449 c0_i32_173
  let v451 : BitVec 32 := v450
  let v452 : Index := Scalar.indexCast v451
  let c256_175 : Index := 256#32
  ![1, v452.toNat, 256]
def k0_mult62 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_176 : BitVec 32 := 64#32
  let v456 : BitVec 32 := Scalar.muli v137 c64_i32_176
  let c16_i32_177 : BitVec 32 := 16#32
  let v457 : BitVec 32 := Scalar.addi v456 c16_i32_177
  v457
def k0_mult63 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_180 : BitVec 32 := 64#32
  let v463 : BitVec 32 := Scalar.muli v137 c64_i32_180
  let c32_i32_181 : BitVec 32 := 32#32
  let v464 : BitVec 32 := Scalar.addi v463 c32_i32_181
  v464
def k0_mult64 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_184 : BitVec 32 := 64#32
  let v470 : BitVec 32 := Scalar.muli v137 c64_i32_184
  let c48_i32_185 : BitVec 32 := 48#32
  let v471 : BitVec 32 := Scalar.addi v470 c48_i32_185
  v471
def k0_off46 (k0_t4 : Fin k0_t4_loop.trips) : Fin 2 → Nat :=
  let c48_i32 : BitVec 32 := 48#32
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let v138 : BitVec 32 := Scalar.addi c48_i32 v137
  let c32_i32 : BitVec 32 := 32#32
  let v139 : BitVec 32 := Scalar.muli v138 c32_i32
  let v140 : BitVec 32 := v139
  let v477 : Index := Scalar.indexCast v140
  let c384 : Index := 384#32
  ![v477.toNat, 384]
def k0_off47 (k0_t4 : Fin k0_t4_loop.trips) : Fin 2 → Nat :=
  let c48_i32 : BitVec 32 := 48#32
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let v138 : BitVec 32 := Scalar.addi c48_i32 v137
  let v479 : Index := Scalar.indexCast v138
  let c384_188 : Index := 384#32
  ![v479.toNat, 384]
def k0_mult65 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_203 : BitVec 32 := 64#32
  let v561 : BitVec 32 := Scalar.muli v137 c64_i32_203
  let c0_i32_204 : BitVec 32 := 0#32
  let v562 : BitVec 32 := Scalar.addi v561 c0_i32_204
  v562
def k0_off48 (k0_t4 : Fin k0_t4_loop.trips) (c0_i32_204 : BitVec 32) : Fin 3 → Nat :=
  let c1_205 : Index := 1#32
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_203 : BitVec 32 := 64#32
  let v561 : BitVec 32 := Scalar.muli v137 c64_i32_203
  let v562 : BitVec 32 := Scalar.addi v561 c0_i32_204
  let v563 : BitVec 32 := v562
  let v564 : Index := Scalar.indexCast v563
  let c384_206 : Index := 384#32
  ![1, v564.toNat, 384]
def k0_mult66 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_207 : BitVec 32 := 64#32
  let v568 : BitVec 32 := Scalar.muli v137 c64_i32_207
  let c16_i32_208 : BitVec 32 := 16#32
  let v569 : BitVec 32 := Scalar.addi v568 c16_i32_208
  v569
def k0_mult67 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_211 : BitVec 32 := 64#32
  let v575 : BitVec 32 := Scalar.muli v137 c64_i32_211
  let c32_i32_212 : BitVec 32 := 32#32
  let v576 : BitVec 32 := Scalar.addi v575 c32_i32_212
  v576
def k0_mult68 (k0_t4 : Fin k0_t4_loop.trips) : BitVec 32 :=
  let c0_i32_98 : BitVec 32 := 0#32
  let c0_i32_50 : BitVec 32 := 0#32
  let c1_i32_52 : BitVec 32 := 1#32
  let arg9 : BitVec 32 := Scf.iv c0_i32_50 c1_i32_52 k0_t4
  let c1_i32_97 : BitVec 32 := 1#32
  let v136 : BitVec 32 := Scalar.muli arg9 c1_i32_97
  let v137 : BitVec 32 := Scalar.addi c0_i32_98 v136
  let c64_i32_215 : BitVec 32 := 64#32
  let v582 : BitVec 32 := Scalar.muli v137 c64_i32_215
  let c48_i32_216 : BitVec 32 := 48#32
  let v583 : BitVec 32 := Scalar.addi v582 c48_i32_216
  v583
@[reducible] def k0_t5_loop : Scf.Loop 32 :=
  let c0_i32_59 : BitVec 32 := 0#32
  let c16_i32_60 : BitVec 32 := 16#32
  let v106 : BitVec 32 := Scalar.addi c0_i32_59 c16_i32_60
  let c1_i32_61 : BitVec 32 := 1#32
  ⟨c0_i32_59, v106, c1_i32_61⟩
def k0_mult69 (k0_t5 : Fin k0_t5_loop.trips) : BitVec 32 :=
  let c64_i32 : BitVec 32 := 64#32
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let v138 : BitVec 32 := Scalar.addi c64_i32 v137
  let c32_i32 : BitVec 32 := 32#32
  let v139 : BitVec 32 := Scalar.muli v138 c32_i32
  v139
def k0_off49 (k0_t5 : Fin k0_t5_loop.trips) : Fin 2 → Nat :=
  let c64_i32 : BitVec 32 := 64#32
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let v138 : BitVec 32 := Scalar.addi c64_i32 v137
  let c32_i32 : BitVec 32 := 32#32
  let v139 : BitVec 32 := Scalar.muli v138 c32_i32
  let v140 : BitVec 32 := v139
  let v141 : Index := Scalar.indexCast v140
  let c0_99 : Index := 0#32
  ![v141.toNat, 0]
def k0_off50 (k0_t5 : Fin k0_t5_loop.trips) : Fin 2 → Nat :=
  let c64_i32 : BitVec 32 := 64#32
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let v138 : BitVec 32 := Scalar.addi c64_i32 v137
  let v143 : Index := Scalar.indexCast v138
  let c0_100 : Index := 0#32
  ![v143.toNat, 0]
def k0_mult70 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_111 : BitVec 32 := 64#32
  let v225 : BitVec 32 := Scalar.muli v137 c64_i32_111
  let c0_i32_112 : BitVec 32 := 0#32
  let v226 : BitVec 32 := Scalar.addi v225 c0_i32_112
  v226
def k0_off51 (k0_t5 : Fin k0_t5_loop.trips) (c0_i32_112 : BitVec 32) : Fin 3 → Nat :=
  let c0_113 : Index := 0#32
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_111 : BitVec 32 := 64#32
  let v225 : BitVec 32 := Scalar.muli v137 c64_i32_111
  let v226 : BitVec 32 := Scalar.addi v225 c0_i32_112
  let v227 : BitVec 32 := v226
  let v228 : Index := Scalar.indexCast v227
  let c0_114 : Index := 0#32
  ![0, v228.toNat, 0]
def k0_mult71 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_115 : BitVec 32 := 64#32
  let v232 : BitVec 32 := Scalar.muli v137 c64_i32_115
  let c16_i32_116 : BitVec 32 := 16#32
  let v233 : BitVec 32 := Scalar.addi v232 c16_i32_116
  v233
def k0_mult72 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_119 : BitVec 32 := 64#32
  let v239 : BitVec 32 := Scalar.muli v137 c64_i32_119
  let c32_i32_120 : BitVec 32 := 32#32
  let v240 : BitVec 32 := Scalar.addi v239 c32_i32_120
  v240
def k0_mult73 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_123 : BitVec 32 := 64#32
  let v246 : BitVec 32 := Scalar.muli v137 c64_i32_123
  let c48_i32 : BitVec 32 := 48#32
  let v247 : BitVec 32 := Scalar.addi v246 c48_i32
  v247
def k0_off52 (k0_t5 : Fin k0_t5_loop.trips) : Fin 2 → Nat :=
  let c64_i32 : BitVec 32 := 64#32
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let v138 : BitVec 32 := Scalar.addi c64_i32 v137
  let c32_i32 : BitVec 32 := 32#32
  let v139 : BitVec 32 := Scalar.muli v138 c32_i32
  let v140 : BitVec 32 := v139
  let v253 : Index := Scalar.indexCast v140
  let c128 : Index := 128#32
  ![v253.toNat, 128]
def k0_off53 (k0_t5 : Fin k0_t5_loop.trips) : Fin 2 → Nat :=
  let c64_i32 : BitVec 32 := 64#32
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let v138 : BitVec 32 := Scalar.addi c64_i32 v137
  let v255 : Index := Scalar.indexCast v138
  let c128_126 : Index := 128#32
  ![v255.toNat, 128]
def k0_mult74 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_141 : BitVec 32 := 64#32
  let v337 : BitVec 32 := Scalar.muli v137 c64_i32_141
  let c0_i32_142 : BitVec 32 := 0#32
  let v338 : BitVec 32 := Scalar.addi v337 c0_i32_142
  v338
def k0_off54 (k0_t5 : Fin k0_t5_loop.trips) (c0_i32_142 : BitVec 32) : Fin 3 → Nat :=
  let c0_143 : Index := 0#32
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_141 : BitVec 32 := 64#32
  let v337 : BitVec 32 := Scalar.muli v137 c64_i32_141
  let v338 : BitVec 32 := Scalar.addi v337 c0_i32_142
  let v339 : BitVec 32 := v338
  let v340 : Index := Scalar.indexCast v339
  let c128_144 : Index := 128#32
  ![0, v340.toNat, 128]
def k0_mult75 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_145 : BitVec 32 := 64#32
  let v344 : BitVec 32 := Scalar.muli v137 c64_i32_145
  let c16_i32_146 : BitVec 32 := 16#32
  let v345 : BitVec 32 := Scalar.addi v344 c16_i32_146
  v345
def k0_mult76 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_149 : BitVec 32 := 64#32
  let v351 : BitVec 32 := Scalar.muli v137 c64_i32_149
  let c32_i32_150 : BitVec 32 := 32#32
  let v352 : BitVec 32 := Scalar.addi v351 c32_i32_150
  v352
def k0_mult77 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_153 : BitVec 32 := 64#32
  let v358 : BitVec 32 := Scalar.muli v137 c64_i32_153
  let c48_i32_154 : BitVec 32 := 48#32
  let v359 : BitVec 32 := Scalar.addi v358 c48_i32_154
  v359
def k0_off55 (k0_t5 : Fin k0_t5_loop.trips) : Fin 2 → Nat :=
  let c64_i32 : BitVec 32 := 64#32
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let v138 : BitVec 32 := Scalar.addi c64_i32 v137
  let c32_i32 : BitVec 32 := 32#32
  let v139 : BitVec 32 := Scalar.muli v138 c32_i32
  let v140 : BitVec 32 := v139
  let v365 : Index := Scalar.indexCast v140
  let c256 : Index := 256#32
  ![v365.toNat, 256]
def k0_off56 (k0_t5 : Fin k0_t5_loop.trips) : Fin 2 → Nat :=
  let c64_i32 : BitVec 32 := 64#32
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let v138 : BitVec 32 := Scalar.addi c64_i32 v137
  let v367 : Index := Scalar.indexCast v138
  let c256_157 : Index := 256#32
  ![v367.toNat, 256]
def k0_mult78 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_172 : BitVec 32 := 64#32
  let v449 : BitVec 32 := Scalar.muli v137 c64_i32_172
  let c0_i32_173 : BitVec 32 := 0#32
  let v450 : BitVec 32 := Scalar.addi v449 c0_i32_173
  v450
def k0_off57 (k0_t5 : Fin k0_t5_loop.trips) (c0_i32_173 : BitVec 32) : Fin 3 → Nat :=
  let c0_174 : Index := 0#32
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_172 : BitVec 32 := 64#32
  let v449 : BitVec 32 := Scalar.muli v137 c64_i32_172
  let v450 : BitVec 32 := Scalar.addi v449 c0_i32_173
  let v451 : BitVec 32 := v450
  let v452 : Index := Scalar.indexCast v451
  let c256_175 : Index := 256#32
  ![0, v452.toNat, 256]
def k0_mult79 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_176 : BitVec 32 := 64#32
  let v456 : BitVec 32 := Scalar.muli v137 c64_i32_176
  let c16_i32_177 : BitVec 32 := 16#32
  let v457 : BitVec 32 := Scalar.addi v456 c16_i32_177
  v457
def k0_mult80 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_180 : BitVec 32 := 64#32
  let v463 : BitVec 32 := Scalar.muli v137 c64_i32_180
  let c32_i32_181 : BitVec 32 := 32#32
  let v464 : BitVec 32 := Scalar.addi v463 c32_i32_181
  v464
def k0_mult81 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_184 : BitVec 32 := 64#32
  let v470 : BitVec 32 := Scalar.muli v137 c64_i32_184
  let c48_i32_185 : BitVec 32 := 48#32
  let v471 : BitVec 32 := Scalar.addi v470 c48_i32_185
  v471
def k0_off58 (k0_t5 : Fin k0_t5_loop.trips) : Fin 2 → Nat :=
  let c64_i32 : BitVec 32 := 64#32
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let v138 : BitVec 32 := Scalar.addi c64_i32 v137
  let c32_i32 : BitVec 32 := 32#32
  let v139 : BitVec 32 := Scalar.muli v138 c32_i32
  let v140 : BitVec 32 := v139
  let v477 : Index := Scalar.indexCast v140
  let c384 : Index := 384#32
  ![v477.toNat, 384]
def k0_off59 (k0_t5 : Fin k0_t5_loop.trips) : Fin 2 → Nat :=
  let c64_i32 : BitVec 32 := 64#32
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let v138 : BitVec 32 := Scalar.addi c64_i32 v137
  let v479 : Index := Scalar.indexCast v138
  let c384_188 : Index := 384#32
  ![v479.toNat, 384]
def k0_mult82 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_203 : BitVec 32 := 64#32
  let v561 : BitVec 32 := Scalar.muli v137 c64_i32_203
  let c0_i32_204 : BitVec 32 := 0#32
  let v562 : BitVec 32 := Scalar.addi v561 c0_i32_204
  v562
def k0_off60 (k0_t5 : Fin k0_t5_loop.trips) (c0_i32_204 : BitVec 32) : Fin 3 → Nat :=
  let c0_205 : Index := 0#32
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_203 : BitVec 32 := 64#32
  let v561 : BitVec 32 := Scalar.muli v137 c64_i32_203
  let v562 : BitVec 32 := Scalar.addi v561 c0_i32_204
  let v563 : BitVec 32 := v562
  let v564 : Index := Scalar.indexCast v563
  let c384_206 : Index := 384#32
  ![0, v564.toNat, 384]
def k0_mult83 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_207 : BitVec 32 := 64#32
  let v568 : BitVec 32 := Scalar.muli v137 c64_i32_207
  let c16_i32_208 : BitVec 32 := 16#32
  let v569 : BitVec 32 := Scalar.addi v568 c16_i32_208
  v569
def k0_mult84 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_211 : BitVec 32 := 64#32
  let v575 : BitVec 32 := Scalar.muli v137 c64_i32_211
  let c32_i32_212 : BitVec 32 := 32#32
  let v576 : BitVec 32 := Scalar.addi v575 c32_i32_212
  v576
def k0_mult85 (k0_t5 : Fin k0_t5_loop.trips) : BitVec 32 :=
  let c0_i32_98 : BitVec 32 := 0#32
  let c0_i32_59 : BitVec 32 := 0#32
  let c1_i32_61 : BitVec 32 := 1#32
  let arg9 : BitVec 32 := Scf.iv c0_i32_59 c1_i32_61 k0_t5
  let c1_i32_97 : BitVec 32 := 1#32
  let v136 : BitVec 32 := Scalar.muli arg9 c1_i32_97
  let v137 : BitVec 32 := Scalar.addi c0_i32_98 v136
  let c64_i32_215 : BitVec 32 := 64#32
  let v582 : BitVec 32 := Scalar.muli v137 c64_i32_215
  let c48_i32_216 : BitVec 32 := 48#32
  let v583 : BitVec 32 := Scalar.addi v582 c48_i32_216
  v583
@[reducible] def k0_t6_loop : Scf.Loop 32 :=
  let c0_i32_68 : BitVec 32 := 0#32
  let c16_i32_69 : BitVec 32 := 16#32
  let v113 : BitVec 32 := Scalar.addi c0_i32_68 c16_i32_69
  let c1_i32_70 : BitVec 32 := 1#32
  ⟨c0_i32_68, v113, c1_i32_70⟩
def k0_mult86 (k0_t6 : Fin k0_t6_loop.trips) : BitVec 32 :=
  let c80_i32 : BitVec 32 := 80#32
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let v138 : BitVec 32 := Scalar.addi c80_i32 v137
  let c32_i32 : BitVec 32 := 32#32
  let v139 : BitVec 32 := Scalar.muli v138 c32_i32
  v139
def k0_off61 (k0_t6 : Fin k0_t6_loop.trips) : Fin 2 → Nat :=
  let c80_i32 : BitVec 32 := 80#32
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let v138 : BitVec 32 := Scalar.addi c80_i32 v137
  let c32_i32 : BitVec 32 := 32#32
  let v139 : BitVec 32 := Scalar.muli v138 c32_i32
  let v140 : BitVec 32 := v139
  let v141 : Index := Scalar.indexCast v140
  let c0_99 : Index := 0#32
  ![v141.toNat, 0]
def k0_off62 (k0_t6 : Fin k0_t6_loop.trips) : Fin 2 → Nat :=
  let c80_i32 : BitVec 32 := 80#32
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let v138 : BitVec 32 := Scalar.addi c80_i32 v137
  let v143 : Index := Scalar.indexCast v138
  let c0_100 : Index := 0#32
  ![v143.toNat, 0]
def k0_mult87 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32 : BitVec 32 := 64#32
  let v225 : BitVec 32 := Scalar.muli v137 c64_i32
  let c0_i32_111 : BitVec 32 := 0#32
  let v226 : BitVec 32 := Scalar.addi v225 c0_i32_111
  v226
def k0_off63 (k0_t6 : Fin k0_t6_loop.trips) (c0_i32_111 : BitVec 32) : Fin 3 → Nat :=
  let c1_112 : Index := 1#32
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32 : BitVec 32 := 64#32
  let v225 : BitVec 32 := Scalar.muli v137 c64_i32
  let v226 : BitVec 32 := Scalar.addi v225 c0_i32_111
  let v227 : BitVec 32 := v226
  let v228 : Index := Scalar.indexCast v227
  let c0_113 : Index := 0#32
  ![1, v228.toNat, 0]
def k0_mult88 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_114 : BitVec 32 := 64#32
  let v232 : BitVec 32 := Scalar.muli v137 c64_i32_114
  let c16_i32_115 : BitVec 32 := 16#32
  let v233 : BitVec 32 := Scalar.addi v232 c16_i32_115
  v233
def k0_mult89 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_118 : BitVec 32 := 64#32
  let v239 : BitVec 32 := Scalar.muli v137 c64_i32_118
  let c32_i32_119 : BitVec 32 := 32#32
  let v240 : BitVec 32 := Scalar.addi v239 c32_i32_119
  v240
def k0_mult90 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_122 : BitVec 32 := 64#32
  let v246 : BitVec 32 := Scalar.muli v137 c64_i32_122
  let c48_i32 : BitVec 32 := 48#32
  let v247 : BitVec 32 := Scalar.addi v246 c48_i32
  v247
def k0_off64 (k0_t6 : Fin k0_t6_loop.trips) : Fin 2 → Nat :=
  let c80_i32 : BitVec 32 := 80#32
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let v138 : BitVec 32 := Scalar.addi c80_i32 v137
  let c32_i32 : BitVec 32 := 32#32
  let v139 : BitVec 32 := Scalar.muli v138 c32_i32
  let v140 : BitVec 32 := v139
  let v253 : Index := Scalar.indexCast v140
  let c128 : Index := 128#32
  ![v253.toNat, 128]
def k0_off65 (k0_t6 : Fin k0_t6_loop.trips) : Fin 2 → Nat :=
  let c80_i32 : BitVec 32 := 80#32
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let v138 : BitVec 32 := Scalar.addi c80_i32 v137
  let v255 : Index := Scalar.indexCast v138
  let c128_125 : Index := 128#32
  ![v255.toNat, 128]
def k0_mult91 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_140 : BitVec 32 := 64#32
  let v337 : BitVec 32 := Scalar.muli v137 c64_i32_140
  let c0_i32_141 : BitVec 32 := 0#32
  let v338 : BitVec 32 := Scalar.addi v337 c0_i32_141
  v338
def k0_off66 (k0_t6 : Fin k0_t6_loop.trips) (c0_i32_141 : BitVec 32) : Fin 3 → Nat :=
  let c1_142 : Index := 1#32
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_140 : BitVec 32 := 64#32
  let v337 : BitVec 32 := Scalar.muli v137 c64_i32_140
  let v338 : BitVec 32 := Scalar.addi v337 c0_i32_141
  let v339 : BitVec 32 := v338
  let v340 : Index := Scalar.indexCast v339
  let c128_143 : Index := 128#32
  ![1, v340.toNat, 128]
def k0_mult92 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_144 : BitVec 32 := 64#32
  let v344 : BitVec 32 := Scalar.muli v137 c64_i32_144
  let c16_i32_145 : BitVec 32 := 16#32
  let v345 : BitVec 32 := Scalar.addi v344 c16_i32_145
  v345
def k0_mult93 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_148 : BitVec 32 := 64#32
  let v351 : BitVec 32 := Scalar.muli v137 c64_i32_148
  let c32_i32_149 : BitVec 32 := 32#32
  let v352 : BitVec 32 := Scalar.addi v351 c32_i32_149
  v352
def k0_mult94 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_152 : BitVec 32 := 64#32
  let v358 : BitVec 32 := Scalar.muli v137 c64_i32_152
  let c48_i32_153 : BitVec 32 := 48#32
  let v359 : BitVec 32 := Scalar.addi v358 c48_i32_153
  v359
def k0_off67 (k0_t6 : Fin k0_t6_loop.trips) : Fin 2 → Nat :=
  let c80_i32 : BitVec 32 := 80#32
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let v138 : BitVec 32 := Scalar.addi c80_i32 v137
  let c32_i32 : BitVec 32 := 32#32
  let v139 : BitVec 32 := Scalar.muli v138 c32_i32
  let v140 : BitVec 32 := v139
  let v365 : Index := Scalar.indexCast v140
  let c256 : Index := 256#32
  ![v365.toNat, 256]
def k0_off68 (k0_t6 : Fin k0_t6_loop.trips) : Fin 2 → Nat :=
  let c80_i32 : BitVec 32 := 80#32
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let v138 : BitVec 32 := Scalar.addi c80_i32 v137
  let v367 : Index := Scalar.indexCast v138
  let c256_156 : Index := 256#32
  ![v367.toNat, 256]
def k0_mult95 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_171 : BitVec 32 := 64#32
  let v449 : BitVec 32 := Scalar.muli v137 c64_i32_171
  let c0_i32_172 : BitVec 32 := 0#32
  let v450 : BitVec 32 := Scalar.addi v449 c0_i32_172
  v450
def k0_off69 (k0_t6 : Fin k0_t6_loop.trips) (c0_i32_172 : BitVec 32) : Fin 3 → Nat :=
  let c1_173 : Index := 1#32
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_171 : BitVec 32 := 64#32
  let v449 : BitVec 32 := Scalar.muli v137 c64_i32_171
  let v450 : BitVec 32 := Scalar.addi v449 c0_i32_172
  let v451 : BitVec 32 := v450
  let v452 : Index := Scalar.indexCast v451
  let c256_174 : Index := 256#32
  ![1, v452.toNat, 256]
def k0_mult96 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_175 : BitVec 32 := 64#32
  let v456 : BitVec 32 := Scalar.muli v137 c64_i32_175
  let c16_i32_176 : BitVec 32 := 16#32
  let v457 : BitVec 32 := Scalar.addi v456 c16_i32_176
  v457
def k0_mult97 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_179 : BitVec 32 := 64#32
  let v463 : BitVec 32 := Scalar.muli v137 c64_i32_179
  let c32_i32_180 : BitVec 32 := 32#32
  let v464 : BitVec 32 := Scalar.addi v463 c32_i32_180
  v464
def k0_mult98 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_183 : BitVec 32 := 64#32
  let v470 : BitVec 32 := Scalar.muli v137 c64_i32_183
  let c48_i32_184 : BitVec 32 := 48#32
  let v471 : BitVec 32 := Scalar.addi v470 c48_i32_184
  v471
def k0_off70 (k0_t6 : Fin k0_t6_loop.trips) : Fin 2 → Nat :=
  let c80_i32 : BitVec 32 := 80#32
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let v138 : BitVec 32 := Scalar.addi c80_i32 v137
  let c32_i32 : BitVec 32 := 32#32
  let v139 : BitVec 32 := Scalar.muli v138 c32_i32
  let v140 : BitVec 32 := v139
  let v477 : Index := Scalar.indexCast v140
  let c384 : Index := 384#32
  ![v477.toNat, 384]
def k0_off71 (k0_t6 : Fin k0_t6_loop.trips) : Fin 2 → Nat :=
  let c80_i32 : BitVec 32 := 80#32
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let v138 : BitVec 32 := Scalar.addi c80_i32 v137
  let v479 : Index := Scalar.indexCast v138
  let c384_187 : Index := 384#32
  ![v479.toNat, 384]
def k0_mult99 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_202 : BitVec 32 := 64#32
  let v561 : BitVec 32 := Scalar.muli v137 c64_i32_202
  let c0_i32_203 : BitVec 32 := 0#32
  let v562 : BitVec 32 := Scalar.addi v561 c0_i32_203
  v562
def k0_off72 (k0_t6 : Fin k0_t6_loop.trips) (c0_i32_203 : BitVec 32) : Fin 3 → Nat :=
  let c1_204 : Index := 1#32
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_202 : BitVec 32 := 64#32
  let v561 : BitVec 32 := Scalar.muli v137 c64_i32_202
  let v562 : BitVec 32 := Scalar.addi v561 c0_i32_203
  let v563 : BitVec 32 := v562
  let v564 : Index := Scalar.indexCast v563
  let c384_205 : Index := 384#32
  ![1, v564.toNat, 384]
def k0_mult100 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_206 : BitVec 32 := 64#32
  let v568 : BitVec 32 := Scalar.muli v137 c64_i32_206
  let c16_i32_207 : BitVec 32 := 16#32
  let v569 : BitVec 32 := Scalar.addi v568 c16_i32_207
  v569
def k0_mult101 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_210 : BitVec 32 := 64#32
  let v575 : BitVec 32 := Scalar.muli v137 c64_i32_210
  let c32_i32_211 : BitVec 32 := 32#32
  let v576 : BitVec 32 := Scalar.addi v575 c32_i32_211
  v576
def k0_mult102 (k0_t6 : Fin k0_t6_loop.trips) : BitVec 32 :=
  let c0_i32_98 : BitVec 32 := 0#32
  let c0_i32_68 : BitVec 32 := 0#32
  let c1_i32_70 : BitVec 32 := 1#32
  let arg9 : BitVec 32 := Scf.iv c0_i32_68 c1_i32_70 k0_t6
  let c1_i32_97 : BitVec 32 := 1#32
  let v136 : BitVec 32 := Scalar.muli arg9 c1_i32_97
  let v137 : BitVec 32 := Scalar.addi c0_i32_98 v136
  let c64_i32_214 : BitVec 32 := 64#32
  let v582 : BitVec 32 := Scalar.muli v137 c64_i32_214
  let c48_i32_215 : BitVec 32 := 48#32
  let v583 : BitVec 32 := Scalar.addi v582 c48_i32_215
  v583
@[reducible] def k0_t7_loop : Scf.Loop 32 :=
  let c0_i32_77 : BitVec 32 := 0#32
  let c16_i32_78 : BitVec 32 := 16#32
  let v120 : BitVec 32 := Scalar.addi c0_i32_77 c16_i32_78
  let c1_i32_79 : BitVec 32 := 1#32
  ⟨c0_i32_77, v120, c1_i32_79⟩
def k0_mult103 (k0_t7 : Fin k0_t7_loop.trips) : BitVec 32 :=
  let c96_i32 : BitVec 32 := 96#32
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let v138 : BitVec 32 := Scalar.addi c96_i32 v137
  let c32_i32 : BitVec 32 := 32#32
  let v139 : BitVec 32 := Scalar.muli v138 c32_i32
  v139
def k0_off73 (k0_t7 : Fin k0_t7_loop.trips) : Fin 2 → Nat :=
  let c96_i32 : BitVec 32 := 96#32
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let v138 : BitVec 32 := Scalar.addi c96_i32 v137
  let c32_i32 : BitVec 32 := 32#32
  let v139 : BitVec 32 := Scalar.muli v138 c32_i32
  let v140 : BitVec 32 := v139
  let v141 : Index := Scalar.indexCast v140
  let c0_99 : Index := 0#32
  ![v141.toNat, 0]
def k0_off74 (k0_t7 : Fin k0_t7_loop.trips) : Fin 2 → Nat :=
  let c96_i32 : BitVec 32 := 96#32
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let v138 : BitVec 32 := Scalar.addi c96_i32 v137
  let v143 : Index := Scalar.indexCast v138
  let c0_100 : Index := 0#32
  ![v143.toNat, 0]
def k0_mult104 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32 : BitVec 32 := 64#32
  let v225 : BitVec 32 := Scalar.muli v137 c64_i32
  let c0_i32_111 : BitVec 32 := 0#32
  let v226 : BitVec 32 := Scalar.addi v225 c0_i32_111
  v226
def k0_off75 (k0_t7 : Fin k0_t7_loop.trips) (c0_i32_111 : BitVec 32) : Fin 3 → Nat :=
  let c0_112 : Index := 0#32
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32 : BitVec 32 := 64#32
  let v225 : BitVec 32 := Scalar.muli v137 c64_i32
  let v226 : BitVec 32 := Scalar.addi v225 c0_i32_111
  let v227 : BitVec 32 := v226
  let v228 : Index := Scalar.indexCast v227
  let c0_113 : Index := 0#32
  ![0, v228.toNat, 0]
def k0_mult105 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_114 : BitVec 32 := 64#32
  let v232 : BitVec 32 := Scalar.muli v137 c64_i32_114
  let c16_i32_115 : BitVec 32 := 16#32
  let v233 : BitVec 32 := Scalar.addi v232 c16_i32_115
  v233
def k0_mult106 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_118 : BitVec 32 := 64#32
  let v239 : BitVec 32 := Scalar.muli v137 c64_i32_118
  let c32_i32_119 : BitVec 32 := 32#32
  let v240 : BitVec 32 := Scalar.addi v239 c32_i32_119
  v240
def k0_mult107 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_122 : BitVec 32 := 64#32
  let v246 : BitVec 32 := Scalar.muli v137 c64_i32_122
  let c48_i32 : BitVec 32 := 48#32
  let v247 : BitVec 32 := Scalar.addi v246 c48_i32
  v247
def k0_off76 (k0_t7 : Fin k0_t7_loop.trips) : Fin 2 → Nat :=
  let c96_i32 : BitVec 32 := 96#32
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let v138 : BitVec 32 := Scalar.addi c96_i32 v137
  let c32_i32 : BitVec 32 := 32#32
  let v139 : BitVec 32 := Scalar.muli v138 c32_i32
  let v140 : BitVec 32 := v139
  let v253 : Index := Scalar.indexCast v140
  let c128 : Index := 128#32
  ![v253.toNat, 128]
def k0_off77 (k0_t7 : Fin k0_t7_loop.trips) : Fin 2 → Nat :=
  let c96_i32 : BitVec 32 := 96#32
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let v138 : BitVec 32 := Scalar.addi c96_i32 v137
  let v255 : Index := Scalar.indexCast v138
  let c128_125 : Index := 128#32
  ![v255.toNat, 128]
def k0_mult108 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_140 : BitVec 32 := 64#32
  let v337 : BitVec 32 := Scalar.muli v137 c64_i32_140
  let c0_i32_141 : BitVec 32 := 0#32
  let v338 : BitVec 32 := Scalar.addi v337 c0_i32_141
  v338
def k0_off78 (k0_t7 : Fin k0_t7_loop.trips) (c0_i32_141 : BitVec 32) : Fin 3 → Nat :=
  let c0_142 : Index := 0#32
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_140 : BitVec 32 := 64#32
  let v337 : BitVec 32 := Scalar.muli v137 c64_i32_140
  let v338 : BitVec 32 := Scalar.addi v337 c0_i32_141
  let v339 : BitVec 32 := v338
  let v340 : Index := Scalar.indexCast v339
  let c128_143 : Index := 128#32
  ![0, v340.toNat, 128]
def k0_mult109 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_144 : BitVec 32 := 64#32
  let v344 : BitVec 32 := Scalar.muli v137 c64_i32_144
  let c16_i32_145 : BitVec 32 := 16#32
  let v345 : BitVec 32 := Scalar.addi v344 c16_i32_145
  v345
def k0_mult110 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_148 : BitVec 32 := 64#32
  let v351 : BitVec 32 := Scalar.muli v137 c64_i32_148
  let c32_i32_149 : BitVec 32 := 32#32
  let v352 : BitVec 32 := Scalar.addi v351 c32_i32_149
  v352
def k0_mult111 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_152 : BitVec 32 := 64#32
  let v358 : BitVec 32 := Scalar.muli v137 c64_i32_152
  let c48_i32_153 : BitVec 32 := 48#32
  let v359 : BitVec 32 := Scalar.addi v358 c48_i32_153
  v359
def k0_off79 (k0_t7 : Fin k0_t7_loop.trips) : Fin 2 → Nat :=
  let c96_i32 : BitVec 32 := 96#32
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let v138 : BitVec 32 := Scalar.addi c96_i32 v137
  let c32_i32 : BitVec 32 := 32#32
  let v139 : BitVec 32 := Scalar.muli v138 c32_i32
  let v140 : BitVec 32 := v139
  let v365 : Index := Scalar.indexCast v140
  let c256 : Index := 256#32
  ![v365.toNat, 256]
def k0_off80 (k0_t7 : Fin k0_t7_loop.trips) : Fin 2 → Nat :=
  let c96_i32 : BitVec 32 := 96#32
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let v138 : BitVec 32 := Scalar.addi c96_i32 v137
  let v367 : Index := Scalar.indexCast v138
  let c256_156 : Index := 256#32
  ![v367.toNat, 256]
def k0_mult112 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_171 : BitVec 32 := 64#32
  let v449 : BitVec 32 := Scalar.muli v137 c64_i32_171
  let c0_i32_172 : BitVec 32 := 0#32
  let v450 : BitVec 32 := Scalar.addi v449 c0_i32_172
  v450
def k0_off81 (k0_t7 : Fin k0_t7_loop.trips) (c0_i32_172 : BitVec 32) : Fin 3 → Nat :=
  let c0_173 : Index := 0#32
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_171 : BitVec 32 := 64#32
  let v449 : BitVec 32 := Scalar.muli v137 c64_i32_171
  let v450 : BitVec 32 := Scalar.addi v449 c0_i32_172
  let v451 : BitVec 32 := v450
  let v452 : Index := Scalar.indexCast v451
  let c256_174 : Index := 256#32
  ![0, v452.toNat, 256]
def k0_mult113 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_175 : BitVec 32 := 64#32
  let v456 : BitVec 32 := Scalar.muli v137 c64_i32_175
  let c16_i32_176 : BitVec 32 := 16#32
  let v457 : BitVec 32 := Scalar.addi v456 c16_i32_176
  v457
def k0_mult114 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_179 : BitVec 32 := 64#32
  let v463 : BitVec 32 := Scalar.muli v137 c64_i32_179
  let c32_i32_180 : BitVec 32 := 32#32
  let v464 : BitVec 32 := Scalar.addi v463 c32_i32_180
  v464
def k0_mult115 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_183 : BitVec 32 := 64#32
  let v470 : BitVec 32 := Scalar.muli v137 c64_i32_183
  let c48_i32_184 : BitVec 32 := 48#32
  let v471 : BitVec 32 := Scalar.addi v470 c48_i32_184
  v471
def k0_off82 (k0_t7 : Fin k0_t7_loop.trips) : Fin 2 → Nat :=
  let c96_i32 : BitVec 32 := 96#32
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let v138 : BitVec 32 := Scalar.addi c96_i32 v137
  let c32_i32 : BitVec 32 := 32#32
  let v139 : BitVec 32 := Scalar.muli v138 c32_i32
  let v140 : BitVec 32 := v139
  let v477 : Index := Scalar.indexCast v140
  let c384 : Index := 384#32
  ![v477.toNat, 384]
def k0_off83 (k0_t7 : Fin k0_t7_loop.trips) : Fin 2 → Nat :=
  let c96_i32 : BitVec 32 := 96#32
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let v138 : BitVec 32 := Scalar.addi c96_i32 v137
  let v479 : Index := Scalar.indexCast v138
  let c384_187 : Index := 384#32
  ![v479.toNat, 384]
def k0_mult116 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_202 : BitVec 32 := 64#32
  let v561 : BitVec 32 := Scalar.muli v137 c64_i32_202
  let c0_i32_203 : BitVec 32 := 0#32
  let v562 : BitVec 32 := Scalar.addi v561 c0_i32_203
  v562
def k0_off84 (k0_t7 : Fin k0_t7_loop.trips) (c0_i32_203 : BitVec 32) : Fin 3 → Nat :=
  let c0_204 : Index := 0#32
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_202 : BitVec 32 := 64#32
  let v561 : BitVec 32 := Scalar.muli v137 c64_i32_202
  let v562 : BitVec 32 := Scalar.addi v561 c0_i32_203
  let v563 : BitVec 32 := v562
  let v564 : Index := Scalar.indexCast v563
  let c384_205 : Index := 384#32
  ![0, v564.toNat, 384]
def k0_mult117 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_206 : BitVec 32 := 64#32
  let v568 : BitVec 32 := Scalar.muli v137 c64_i32_206
  let c16_i32_207 : BitVec 32 := 16#32
  let v569 : BitVec 32 := Scalar.addi v568 c16_i32_207
  v569
def k0_mult118 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_210 : BitVec 32 := 64#32
  let v575 : BitVec 32 := Scalar.muli v137 c64_i32_210
  let c32_i32_211 : BitVec 32 := 32#32
  let v576 : BitVec 32 := Scalar.addi v575 c32_i32_211
  v576
def k0_mult119 (k0_t7 : Fin k0_t7_loop.trips) : BitVec 32 :=
  let c0_i32_98 : BitVec 32 := 0#32
  let c0_i32_77 : BitVec 32 := 0#32
  let c1_i32_79 : BitVec 32 := 1#32
  let arg9 : BitVec 32 := Scf.iv c0_i32_77 c1_i32_79 k0_t7
  let c1_i32_97 : BitVec 32 := 1#32
  let v136 : BitVec 32 := Scalar.muli arg9 c1_i32_97
  let v137 : BitVec 32 := Scalar.addi c0_i32_98 v136
  let c64_i32_214 : BitVec 32 := 64#32
  let v582 : BitVec 32 := Scalar.muli v137 c64_i32_214
  let c48_i32_215 : BitVec 32 := 48#32
  let v583 : BitVec 32 := Scalar.addi v582 c48_i32_215
  v583
@[reducible] def k0_t8_loop : Scf.Loop 32 :=
  let c0_i32_86 : BitVec 32 := 0#32
  let c16_i32_87 : BitVec 32 := 16#32
  let v127 : BitVec 32 := Scalar.addi c0_i32_86 c16_i32_87
  let c1_i32_88 : BitVec 32 := 1#32
  ⟨c0_i32_86, v127, c1_i32_88⟩
def k0_mult120 (k0_t8 : Fin k0_t8_loop.trips) : BitVec 32 :=
  let c112_i32 : BitVec 32 := 112#32
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let v138 : BitVec 32 := Scalar.addi c112_i32 v137
  let c32_i32 : BitVec 32 := 32#32
  let v139 : BitVec 32 := Scalar.muli v138 c32_i32
  v139
def k0_off85 (k0_t8 : Fin k0_t8_loop.trips) : Fin 2 → Nat :=
  let c112_i32 : BitVec 32 := 112#32
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let v138 : BitVec 32 := Scalar.addi c112_i32 v137
  let c32_i32 : BitVec 32 := 32#32
  let v139 : BitVec 32 := Scalar.muli v138 c32_i32
  let v140 : BitVec 32 := v139
  let v141 : Index := Scalar.indexCast v140
  let c0_99 : Index := 0#32
  ![v141.toNat, 0]
def k0_off86 (k0_t8 : Fin k0_t8_loop.trips) : Fin 2 → Nat :=
  let c112_i32 : BitVec 32 := 112#32
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let v138 : BitVec 32 := Scalar.addi c112_i32 v137
  let v143 : Index := Scalar.indexCast v138
  let c0_100 : Index := 0#32
  ![v143.toNat, 0]
def k0_mult121 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32 : BitVec 32 := 64#32
  let v225 : BitVec 32 := Scalar.muli v137 c64_i32
  let c0_i32_111 : BitVec 32 := 0#32
  let v226 : BitVec 32 := Scalar.addi v225 c0_i32_111
  v226
def k0_off87 (k0_t8 : Fin k0_t8_loop.trips) (c0_i32_111 : BitVec 32) : Fin 3 → Nat :=
  let c1_112 : Index := 1#32
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32 : BitVec 32 := 64#32
  let v225 : BitVec 32 := Scalar.muli v137 c64_i32
  let v226 : BitVec 32 := Scalar.addi v225 c0_i32_111
  let v227 : BitVec 32 := v226
  let v228 : Index := Scalar.indexCast v227
  let c0_113 : Index := 0#32
  ![1, v228.toNat, 0]
def k0_mult122 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_114 : BitVec 32 := 64#32
  let v232 : BitVec 32 := Scalar.muli v137 c64_i32_114
  let c16_i32_115 : BitVec 32 := 16#32
  let v233 : BitVec 32 := Scalar.addi v232 c16_i32_115
  v233
def k0_mult123 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_118 : BitVec 32 := 64#32
  let v239 : BitVec 32 := Scalar.muli v137 c64_i32_118
  let c32_i32_119 : BitVec 32 := 32#32
  let v240 : BitVec 32 := Scalar.addi v239 c32_i32_119
  v240
def k0_mult124 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_122 : BitVec 32 := 64#32
  let v246 : BitVec 32 := Scalar.muli v137 c64_i32_122
  let c48_i32 : BitVec 32 := 48#32
  let v247 : BitVec 32 := Scalar.addi v246 c48_i32
  v247
def k0_off88 (k0_t8 : Fin k0_t8_loop.trips) : Fin 2 → Nat :=
  let c112_i32 : BitVec 32 := 112#32
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let v138 : BitVec 32 := Scalar.addi c112_i32 v137
  let c32_i32 : BitVec 32 := 32#32
  let v139 : BitVec 32 := Scalar.muli v138 c32_i32
  let v140 : BitVec 32 := v139
  let v253 : Index := Scalar.indexCast v140
  let c128 : Index := 128#32
  ![v253.toNat, 128]
def k0_off89 (k0_t8 : Fin k0_t8_loop.trips) : Fin 2 → Nat :=
  let c112_i32 : BitVec 32 := 112#32
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let v138 : BitVec 32 := Scalar.addi c112_i32 v137
  let v255 : Index := Scalar.indexCast v138
  let c128_125 : Index := 128#32
  ![v255.toNat, 128]
def k0_mult125 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_140 : BitVec 32 := 64#32
  let v337 : BitVec 32 := Scalar.muli v137 c64_i32_140
  let c0_i32_141 : BitVec 32 := 0#32
  let v338 : BitVec 32 := Scalar.addi v337 c0_i32_141
  v338
def k0_off90 (k0_t8 : Fin k0_t8_loop.trips) (c0_i32_141 : BitVec 32) : Fin 3 → Nat :=
  let c1_142 : Index := 1#32
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_140 : BitVec 32 := 64#32
  let v337 : BitVec 32 := Scalar.muli v137 c64_i32_140
  let v338 : BitVec 32 := Scalar.addi v337 c0_i32_141
  let v339 : BitVec 32 := v338
  let v340 : Index := Scalar.indexCast v339
  let c128_143 : Index := 128#32
  ![1, v340.toNat, 128]
def k0_mult126 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_144 : BitVec 32 := 64#32
  let v344 : BitVec 32 := Scalar.muli v137 c64_i32_144
  let c16_i32_145 : BitVec 32 := 16#32
  let v345 : BitVec 32 := Scalar.addi v344 c16_i32_145
  v345
def k0_mult127 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_148 : BitVec 32 := 64#32
  let v351 : BitVec 32 := Scalar.muli v137 c64_i32_148
  let c32_i32_149 : BitVec 32 := 32#32
  let v352 : BitVec 32 := Scalar.addi v351 c32_i32_149
  v352
def k0_mult128 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_152 : BitVec 32 := 64#32
  let v358 : BitVec 32 := Scalar.muli v137 c64_i32_152
  let c48_i32_153 : BitVec 32 := 48#32
  let v359 : BitVec 32 := Scalar.addi v358 c48_i32_153
  v359
def k0_off91 (k0_t8 : Fin k0_t8_loop.trips) : Fin 2 → Nat :=
  let c112_i32 : BitVec 32 := 112#32
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let v138 : BitVec 32 := Scalar.addi c112_i32 v137
  let c32_i32 : BitVec 32 := 32#32
  let v139 : BitVec 32 := Scalar.muli v138 c32_i32
  let v140 : BitVec 32 := v139
  let v365 : Index := Scalar.indexCast v140
  let c256 : Index := 256#32
  ![v365.toNat, 256]
def k0_off92 (k0_t8 : Fin k0_t8_loop.trips) : Fin 2 → Nat :=
  let c112_i32 : BitVec 32 := 112#32
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let v138 : BitVec 32 := Scalar.addi c112_i32 v137
  let v367 : Index := Scalar.indexCast v138
  let c256_156 : Index := 256#32
  ![v367.toNat, 256]
def k0_mult129 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_171 : BitVec 32 := 64#32
  let v449 : BitVec 32 := Scalar.muli v137 c64_i32_171
  let c0_i32_172 : BitVec 32 := 0#32
  let v450 : BitVec 32 := Scalar.addi v449 c0_i32_172
  v450
def k0_off93 (k0_t8 : Fin k0_t8_loop.trips) (c0_i32_172 : BitVec 32) : Fin 3 → Nat :=
  let c1_173 : Index := 1#32
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_171 : BitVec 32 := 64#32
  let v449 : BitVec 32 := Scalar.muli v137 c64_i32_171
  let v450 : BitVec 32 := Scalar.addi v449 c0_i32_172
  let v451 : BitVec 32 := v450
  let v452 : Index := Scalar.indexCast v451
  let c256_174 : Index := 256#32
  ![1, v452.toNat, 256]
def k0_mult130 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_175 : BitVec 32 := 64#32
  let v456 : BitVec 32 := Scalar.muli v137 c64_i32_175
  let c16_i32_176 : BitVec 32 := 16#32
  let v457 : BitVec 32 := Scalar.addi v456 c16_i32_176
  v457
def k0_mult131 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_179 : BitVec 32 := 64#32
  let v463 : BitVec 32 := Scalar.muli v137 c64_i32_179
  let c32_i32_180 : BitVec 32 := 32#32
  let v464 : BitVec 32 := Scalar.addi v463 c32_i32_180
  v464
def k0_mult132 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_183 : BitVec 32 := 64#32
  let v470 : BitVec 32 := Scalar.muli v137 c64_i32_183
  let c48_i32_184 : BitVec 32 := 48#32
  let v471 : BitVec 32 := Scalar.addi v470 c48_i32_184
  v471
def k0_off94 (k0_t8 : Fin k0_t8_loop.trips) : Fin 2 → Nat :=
  let c112_i32 : BitVec 32 := 112#32
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let v138 : BitVec 32 := Scalar.addi c112_i32 v137
  let c32_i32 : BitVec 32 := 32#32
  let v139 : BitVec 32 := Scalar.muli v138 c32_i32
  let v140 : BitVec 32 := v139
  let v477 : Index := Scalar.indexCast v140
  let c384 : Index := 384#32
  ![v477.toNat, 384]
def k0_off95 (k0_t8 : Fin k0_t8_loop.trips) : Fin 2 → Nat :=
  let c112_i32 : BitVec 32 := 112#32
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let v138 : BitVec 32 := Scalar.addi c112_i32 v137
  let v479 : Index := Scalar.indexCast v138
  let c384_187 : Index := 384#32
  ![v479.toNat, 384]
def k0_mult133 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_202 : BitVec 32 := 64#32
  let v561 : BitVec 32 := Scalar.muli v137 c64_i32_202
  let c0_i32_203 : BitVec 32 := 0#32
  let v562 : BitVec 32 := Scalar.addi v561 c0_i32_203
  v562
def k0_off96 (k0_t8 : Fin k0_t8_loop.trips) (c0_i32_203 : BitVec 32) : Fin 3 → Nat :=
  let c1_204 : Index := 1#32
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_202 : BitVec 32 := 64#32
  let v561 : BitVec 32 := Scalar.muli v137 c64_i32_202
  let v562 : BitVec 32 := Scalar.addi v561 c0_i32_203
  let v563 : BitVec 32 := v562
  let v564 : Index := Scalar.indexCast v563
  let c384_205 : Index := 384#32
  ![1, v564.toNat, 384]
def k0_mult134 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_206 : BitVec 32 := 64#32
  let v568 : BitVec 32 := Scalar.muli v137 c64_i32_206
  let c16_i32_207 : BitVec 32 := 16#32
  let v569 : BitVec 32 := Scalar.addi v568 c16_i32_207
  v569
def k0_mult135 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_210 : BitVec 32 := 64#32
  let v575 : BitVec 32 := Scalar.muli v137 c64_i32_210
  let c32_i32_211 : BitVec 32 := 32#32
  let v576 : BitVec 32 := Scalar.addi v575 c32_i32_211
  v576
def k0_mult136 (k0_t8 : Fin k0_t8_loop.trips) : BitVec 32 :=
  let c0_i32_98 : BitVec 32 := 0#32
  let c0_i32_86 : BitVec 32 := 0#32
  let c1_i32_88 : BitVec 32 := 1#32
  let arg9 : BitVec 32 := Scf.iv c0_i32_86 c1_i32_88 k0_t8
  let c1_i32_97 : BitVec 32 := 1#32
  let v136 : BitVec 32 := Scalar.muli arg9 c1_i32_97
  let v137 : BitVec 32 := Scalar.addi c0_i32_98 v136
  let c64_i32_214 : BitVec 32 := 64#32
  let v582 : BitVec 32 := Scalar.muli v137 c64_i32_214
  let c48_i32_215 : BitVec 32 := 48#32
  let v583 : BitVec 32 := Scalar.addi v582 c48_i32_215
  v583
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x512x8192 : Shape := ⟨3, ![1, 512, 8192]⟩
abbrev S4096x8192 : Shape := ⟨2, ![4096, 8192]⟩
abbrev S128x8192 : Shape := ⟨2, ![128, 8192]⟩
abbrev S8192x16 : Shape := ⟨2, ![8192, 16]⟩
abbrev S16x8192 : Shape := ⟨2, ![16, 8192]⟩
abbrev S_ : Shape := ⟨0, ![]⟩
abbrev S128x32x8192 : Shape := ⟨3, ![128, 32, 8192]⟩
abbrev S128x1x8192 : Shape := ⟨3, ![128, 1, 8192]⟩
abbrev S512x8192 : Shape := ⟨2, ![512, 8192]⟩
abbrev S512x4096x2 : Shape := ⟨3, ![512, 4096, 2]⟩
abbrev S2x512x4096 : Shape := ⟨3, ![2, 512, 4096]⟩
abbrev S1x512x4096 : Shape := ⟨3, ![1, 512, 4096]⟩
abbrev S512x4096 : Shape := ⟨2, ![512, 4096]⟩
abbrev S512x16 : Shape := ⟨2, ![512, 16]⟩

abbrev nBuf : Space → Nat
  | .hbm => 185
  | .vmem => 0
  | .smem => 0
  | _ => 0

abbrev hbmTy0_0 (i : Nat) : BufTy := match i % 128 with
  | 0 => ⟨S1x512x8192, .bf16⟩
  | 1 => ⟨S4096x8192, .i8⟩
  | 2 => ⟨S128x8192, .f32⟩
  | 3 => ⟨S8192x16, .bf16⟩
  | 4 => ⟨S16x8192, .bf16⟩
  | 5 => ⟨S128x8192, .bf16⟩
  | 6 => ⟨S4096x8192, .i32⟩
  | 7 => ⟨S_, .i32⟩
  | 8 => ⟨S4096x8192, .i32⟩
  | 9 => ⟨S4096x8192, .i32⟩
  | 10 => ⟨S_, .i32⟩
  | 11 => ⟨S4096x8192, .i32⟩
  | 12 => ⟨S4096x8192, .i32⟩
  | 13 => ⟨S_, .i32⟩
  | 14 => ⟨S4096x8192, .i32⟩
  | 15 => ⟨S4096x8192, .i1⟩
  | 16 => ⟨S_, .i32⟩
  | 17 => ⟨S4096x8192, .i32⟩
  | 18 => ⟨S4096x8192, .i32⟩
  | 19 => ⟨S_, .i32⟩
  | 20 => ⟨S4096x8192, .i32⟩
  | 21 => ⟨S4096x8192, .i1⟩
  | 22 => ⟨S_, .i32⟩
  | 23 => ⟨S4096x8192, .i32⟩
  | 24 => ⟨S4096x8192, .i32⟩
  | 25 => ⟨S_, .i32⟩
  | 26 => ⟨S4096x8192, .i32⟩
  | 27 => ⟨S4096x8192, .i1⟩
  | 28 => ⟨S_, .i32⟩
  | 29 => ⟨S4096x8192, .i32⟩
  | 30 => ⟨S4096x8192, .i32⟩
  | 31 => ⟨S_, .i32⟩
  | 32 => ⟨S4096x8192, .i32⟩
  | 33 => ⟨S4096x8192, .i1⟩
  | 34 => ⟨S_, .f32⟩
  | 35 => ⟨S4096x8192, .f32⟩
  | 36 => ⟨S_, .f32⟩
  | 37 => ⟨S4096x8192, .f32⟩
  | 38 => ⟨S4096x8192, .f32⟩
  | 39 => ⟨S_, .f32⟩
  | 40 => ⟨S4096x8192, .f32⟩
  | 41 => ⟨S_, .f32⟩
  | 42 => ⟨S4096x8192, .f32⟩
  | 43 => ⟨S4096x8192, .f32⟩
  | 44 => ⟨S4096x8192, .f32⟩
  | 45 => ⟨S_, .f32⟩
  | 46 => ⟨S4096x8192, .f32⟩
  | 47 => ⟨S_, .f32⟩
  | 48 => ⟨S4096x8192, .f32⟩
  | 49 => ⟨S4096x8192, .f32⟩
  | 50 => ⟨S_, .f32⟩
  | 51 => ⟨S4096x8192, .f32⟩
  | 52 => ⟨S_, .f32⟩
  | 53 => ⟨S4096x8192, .f32⟩
  | 54 => ⟨S4096x8192, .f32⟩
  | 55 => ⟨S4096x8192, .f32⟩
  | 56 => ⟨S4096x8192, .f32⟩
  | 57 => ⟨S_, .f32⟩
  | 58 => ⟨S4096x8192, .f32⟩
  | 59 => ⟨S_, .f32⟩
  | 60 => ⟨S4096x8192, .f32⟩
  | 61 => ⟨S4096x8192, .f32⟩
  | 62 => ⟨S_, .f32⟩
  | 63 => ⟨S4096x8192, .f32⟩
  | 64 => ⟨S_, .f32⟩
  | 65 => ⟨S4096x8192, .f32⟩
  | 66 => ⟨S4096x8192, .f32⟩
  | 67 => ⟨S4096x8192, .f32⟩
  | 68 => ⟨S_, .f32⟩
  | 69 => ⟨S4096x8192, .f32⟩
  | 70 => ⟨S_, .f32⟩
  | 71 => ⟨S4096x8192, .f32⟩
  | 72 => ⟨S4096x8192, .f32⟩
  | 73 => ⟨S_, .f32⟩
  | 74 => ⟨S4096x8192, .f32⟩
  | 75 => ⟨S_, .f32⟩
  | 76 => ⟨S4096x8192, .f32⟩
  | 77 => ⟨S4096x8192, .f32⟩
  | 78 => ⟨S4096x8192, .f32⟩
  | 79 => ⟨S4096x8192, .f32⟩
  | 80 => ⟨S4096x8192, .f32⟩
  | 81 => ⟨S4096x8192, .bf16⟩
  | 82 => ⟨S128x32x8192, .bf16⟩
  | 83 => ⟨S128x1x8192, .bf16⟩
  | 84 => ⟨S128x32x8192, .bf16⟩
  | 85 => ⟨S128x32x8192, .bf16⟩
  | 86 => ⟨S4096x8192, .bf16⟩
  | 87 => ⟨S_, .i32⟩
  | 88 => ⟨S4096x8192, .i32⟩
  | 89 => ⟨S4096x8192, .i32⟩
  | 90 => ⟨S_, .i32⟩
  | 91 => ⟨S4096x8192, .i32⟩
  | 92 => ⟨S4096x8192, .i32⟩
  | 93 => ⟨S_, .i32⟩
  | 94 => ⟨S4096x8192, .i32⟩
  | 95 => ⟨S4096x8192, .i1⟩
  | 96 => ⟨S_, .i32⟩
  | 97 => ⟨S4096x8192, .i32⟩
  | 98 => ⟨S4096x8192, .i32⟩
  | 99 => ⟨S_, .i32⟩
  | 100 => ⟨S4096x8192, .i32⟩
  | 101 => ⟨S4096x8192, .i1⟩
  | 102 => ⟨S_, .i32⟩
  | 103 => ⟨S4096x8192, .i32⟩
  | 104 => ⟨S4096x8192, .i32⟩
  | 105 => ⟨S_, .i32⟩
  | 106 => ⟨S4096x8192, .i32⟩
  | 107 => ⟨S4096x8192, .i1⟩
  | 108 => ⟨S_, .i32⟩
  | 109 => ⟨S4096x8192, .i32⟩
  | 110 => ⟨S4096x8192, .i32⟩
  | 111 => ⟨S_, .i32⟩
  | 112 => ⟨S4096x8192, .i32⟩
  | 113 => ⟨S4096x8192, .i1⟩
  | 114 => ⟨S_, .f32⟩
  | 115 => ⟨S4096x8192, .f32⟩
  | 116 => ⟨S_, .f32⟩
  | 117 => ⟨S4096x8192, .f32⟩
  | 118 => ⟨S4096x8192, .f32⟩
  | 119 => ⟨S_, .f32⟩
  | 120 => ⟨S4096x8192, .f32⟩
  | 121 => ⟨S_, .f32⟩
  | 122 => ⟨S4096x8192, .f32⟩
  | 123 => ⟨S4096x8192, .f32⟩
  | 124 => ⟨S4096x8192, .f32⟩
  | 125 => ⟨S_, .f32⟩
  | 126 => ⟨S4096x8192, .f32⟩
  | 127 => ⟨S_, .f32⟩
  | _ => ⟨S1x512x8192, .bf16⟩

abbrev hbmTy0_1 (i : Nat) : BufTy := match i % 128 with
  | 0 => ⟨S4096x8192, .f32⟩
  | 1 => ⟨S4096x8192, .f32⟩
  | 2 => ⟨S_, .f32⟩
  | 3 => ⟨S4096x8192, .f32⟩
  | 4 => ⟨S_, .f32⟩
  | 5 => ⟨S4096x8192, .f32⟩
  | 6 => ⟨S4096x8192, .f32⟩
  | 7 => ⟨S4096x8192, .f32⟩
  | 8 => ⟨S4096x8192, .f32⟩
  | 9 => ⟨S_, .f32⟩
  | 10 => ⟨S4096x8192, .f32⟩
  | 11 => ⟨S_, .f32⟩
  | 12 => ⟨S4096x8192, .f32⟩
  | 13 => ⟨S4096x8192, .f32⟩
  | 14 => ⟨S_, .f32⟩
  | 15 => ⟨S4096x8192, .f32⟩
  | 16 => ⟨S_, .f32⟩
  | 17 => ⟨S4096x8192, .f32⟩
  | 18 => ⟨S4096x8192, .f32⟩
  | 19 => ⟨S4096x8192, .f32⟩
  | 20 => ⟨S_, .f32⟩
  | 21 => ⟨S4096x8192, .f32⟩
  | 22 => ⟨S_, .f32⟩
  | 23 => ⟨S4096x8192, .f32⟩
  | 24 => ⟨S4096x8192, .f32⟩
  | 25 => ⟨S_, .f32⟩
  | 26 => ⟨S4096x8192, .f32⟩
  | 27 => ⟨S_, .f32⟩
  | 28 => ⟨S4096x8192, .f32⟩
  | 29 => ⟨S4096x8192, .f32⟩
  | 30 => ⟨S4096x8192, .f32⟩
  | 31 => ⟨S4096x8192, .f32⟩
  | 32 => ⟨S4096x8192, .f32⟩
  | 33 => ⟨S4096x8192, .bf16⟩
  | 34 => ⟨S128x32x8192, .bf16⟩
  | 35 => ⟨S128x1x8192, .bf16⟩
  | 36 => ⟨S128x32x8192, .bf16⟩
  | 37 => ⟨S128x32x8192, .bf16⟩
  | 38 => ⟨S4096x8192, .bf16⟩
  | 39 => ⟨S512x8192, .bf16⟩
  | 40 => ⟨S512x4096x2, .bf16⟩
  | 41 => ⟨S2x512x4096, .bf16⟩
  | 42 => ⟨S1x512x4096, .bf16⟩
  | 43 => ⟨S512x4096, .bf16⟩
  | 44 => ⟨S1x512x4096, .bf16⟩
  | 45 => ⟨S512x4096, .bf16⟩
  | 46 => ⟨S512x8192, .f32⟩
  | 47 => ⟨S512x8192, .f32⟩
  | 48 => ⟨S512x8192, .f32⟩
  | 49 => ⟨S512x16, .f32⟩
  | 50 => ⟨S512x16, .bf16⟩
  | 51 => ⟨S512x8192, .f32⟩
  | 52 => ⟨S_, .f32⟩
  | 53 => ⟨S512x8192, .f32⟩
  | 54 => ⟨S512x8192, .f32⟩
  | 55 => ⟨S512x8192, .f32⟩
  | 56 => ⟨S512x8192, .bf16⟩
  | _ => ⟨S1x512x8192, .bf16⟩

abbrev hbmTy (i : Nat) : BufTy := match i / 128 with
  | 0 => hbmTy0_0 i
  | 1 => hbmTy0_1 i
  | _ => ⟨S1x512x8192, .bf16⟩

abbrev bufTy : (tb : Table) → Fin (tcTables nBuf tb) → BufTy
  | .hbm, ⟨i, _⟩ => hbmTy i
  | _, _ => ⟨S1x512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_c_5 : Ref sig .tc := ⟨.hbm, 25, rfl⟩
abbrev main_v14 : Ref sig .tc := ⟨.hbm, 26, rfl⟩
abbrev main_v15 : Ref sig .tc := ⟨.hbm, 27, rfl⟩
abbrev main_c_6 : Ref sig .tc := ⟨.hbm, 28, rfl⟩
abbrev main_v16 : Ref sig .tc := ⟨.hbm, 29, rfl⟩
abbrev main_v17 : Ref sig .tc := ⟨.hbm, 30, rfl⟩
abbrev main_c_7 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_cst_8 : Ref sig .tc := ⟨.hbm, 36, rfl⟩
abbrev main_v21 : Ref sig .tc := ⟨.hbm, 37, rfl⟩
abbrev main_v22 : Ref sig .tc := ⟨.hbm, 38, rfl⟩
abbrev main_cst_9 : Ref sig .tc := ⟨.hbm, 39, rfl⟩
abbrev main_v23 : Ref sig .tc := ⟨.hbm, 40, rfl⟩
abbrev main_cst_10 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_11 : Ref sig .tc := ⟨.hbm, 45, rfl⟩
abbrev main_v27 : Ref sig .tc := ⟨.hbm, 46, rfl⟩
abbrev main_cst_12 : Ref sig .tc := ⟨.hbm, 47, rfl⟩
abbrev main_v28 : Ref sig .tc := ⟨.hbm, 48, rfl⟩
abbrev main_v29 : Ref sig .tc := ⟨.hbm, 49, rfl⟩
abbrev main_cst_13 : Ref sig .tc := ⟨.hbm, 50, rfl⟩
abbrev main_v30 : Ref sig .tc := ⟨.hbm, 51, rfl⟩
abbrev main_cst_14 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_15 : Ref sig .tc := ⟨.hbm, 57, rfl⟩
abbrev main_v35 : Ref sig .tc := ⟨.hbm, 58, rfl⟩
abbrev main_cst_16 : Ref sig .tc := ⟨.hbm, 59, rfl⟩
abbrev main_v36 : Ref sig .tc := ⟨.hbm, 60, rfl⟩
abbrev main_v37 : Ref sig .tc := ⟨.hbm, 61, rfl⟩
abbrev main_cst_17 : Ref sig .tc := ⟨.hbm, 62, rfl⟩
abbrev main_v38 : Ref sig .tc := ⟨.hbm, 63, rfl⟩
abbrev main_cst_18 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_19 : Ref sig .tc := ⟨.hbm, 68, rfl⟩
abbrev main_v42 : Ref sig .tc := ⟨.hbm, 69, rfl⟩
abbrev main_cst_20 : Ref sig .tc := ⟨.hbm, 70, rfl⟩
abbrev main_v43 : Ref sig .tc := ⟨.hbm, 71, rfl⟩
abbrev main_v44 : Ref sig .tc := ⟨.hbm, 72, rfl⟩
abbrev main_cst_21 : Ref sig .tc := ⟨.hbm, 73, rfl⟩
abbrev main_v45 : Ref sig .tc := ⟨.hbm, 74, rfl⟩
abbrev main_cst_22 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_23 : Ref sig .tc := ⟨.hbm, 87, rfl⟩
abbrev main_v57 : Ref sig .tc := ⟨.hbm, 88, rfl⟩
abbrev main_v58 : Ref sig .tc := ⟨.hbm, 89, rfl⟩
abbrev main_c_24 : Ref sig .tc := ⟨.hbm, 90, rfl⟩
abbrev main_v59 : Ref sig .tc := ⟨.hbm, 91, rfl⟩
abbrev main_v60 : Ref sig .tc := ⟨.hbm, 92, rfl⟩
abbrev main_c_25 : Ref sig .tc := ⟨.hbm, 93, rfl⟩
abbrev main_v61 : Ref sig .tc := ⟨.hbm, 94, rfl⟩
abbrev main_v62 : Ref sig .tc := ⟨.hbm, 95, rfl⟩
abbrev main_c_26 : Ref sig .tc := ⟨.hbm, 96, rfl⟩
abbrev main_v63 : Ref sig .tc := ⟨.hbm, 97, rfl⟩
abbrev main_v64 : Ref sig .tc := ⟨.hbm, 98, rfl⟩
abbrev main_c_27 : Ref sig .tc := ⟨.hbm, 99, rfl⟩
abbrev main_v65 : Ref sig .tc := ⟨.hbm, 100, rfl⟩
abbrev main_v66 : Ref sig .tc := ⟨.hbm, 101, rfl⟩
abbrev main_c_28 : Ref sig .tc := ⟨.hbm, 102, rfl⟩
abbrev main_v67 : Ref sig .tc := ⟨.hbm, 103, rfl⟩
abbrev main_v68 : Ref sig .tc := ⟨.hbm, 104, rfl⟩
abbrev main_c_29 : Ref sig .tc := ⟨.hbm, 105, rfl⟩
abbrev main_v69 : Ref sig .tc := ⟨.hbm, 106, rfl⟩
abbrev main_v70 : Ref sig .tc := ⟨.hbm, 107, rfl⟩
abbrev main_c_30 : Ref sig .tc := ⟨.hbm, 108, rfl⟩
abbrev main_v71 : Ref sig .tc := ⟨.hbm, 109, rfl⟩
abbrev main_v72 : Ref sig .tc := ⟨.hbm, 110, rfl⟩
abbrev main_c_31 : Ref sig .tc := ⟨.hbm, 111, rfl⟩
abbrev main_v73 : Ref sig .tc := ⟨.hbm, 112, rfl⟩
abbrev main_v74 : Ref sig .tc := ⟨.hbm, 113, rfl⟩
abbrev main_cst_32 : Ref sig .tc := ⟨.hbm, 114, rfl⟩
abbrev main_v75 : Ref sig .tc := ⟨.hbm, 115, rfl⟩
abbrev main_cst_33 : Ref sig .tc := ⟨.hbm, 116, rfl⟩
abbrev main_v76 : Ref sig .tc := ⟨.hbm, 117, rfl⟩
abbrev main_v77 : Ref sig .tc := ⟨.hbm, 118, rfl⟩
abbrev main_cst_34 : Ref sig .tc := ⟨.hbm, 119, rfl⟩
abbrev main_v78 : Ref sig .tc := ⟨.hbm, 120, rfl⟩
abbrev main_cst_35 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_36 : Ref sig .tc := ⟨.hbm, 125, rfl⟩
abbrev main_v82 : Ref sig .tc := ⟨.hbm, 126, rfl⟩
abbrev main_cst_37 : Ref sig .tc := ⟨.hbm, 127, rfl⟩
abbrev main_v83 : Ref sig .tc := ⟨.hbm, 128, rfl⟩
abbrev main_v84 : Ref sig .tc := ⟨.hbm, 129, rfl⟩
abbrev main_cst_38 : Ref sig .tc := ⟨.hbm, 130, rfl⟩
abbrev main_v85 : Ref sig .tc := ⟨.hbm, 131, rfl⟩
abbrev main_cst_39 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_40 : Ref sig .tc := ⟨.hbm, 137, rfl⟩
abbrev main_v90 : Ref sig .tc := ⟨.hbm, 138, rfl⟩
abbrev main_cst_41 : Ref sig .tc := ⟨.hbm, 139, rfl⟩
abbrev main_v91 : Ref sig .tc := ⟨.hbm, 140, rfl⟩
abbrev main_v92 : Ref sig .tc := ⟨.hbm, 141, rfl⟩
abbrev main_cst_42 : Ref sig .tc := ⟨.hbm, 142, rfl⟩
abbrev main_v93 : Ref sig .tc := ⟨.hbm, 143, rfl⟩
abbrev main_cst_43 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_cst_44 : Ref sig .tc := ⟨.hbm, 148, rfl⟩
abbrev main_v97 : Ref sig .tc := ⟨.hbm, 149, rfl⟩
abbrev main_cst_45 : Ref sig .tc := ⟨.hbm, 150, rfl⟩
abbrev main_v98 : Ref sig .tc := ⟨.hbm, 151, rfl⟩
abbrev main_v99 : Ref sig .tc := ⟨.hbm, 152, rfl⟩
abbrev main_cst_46 : Ref sig .tc := ⟨.hbm, 153, rfl⟩
abbrev main_v100 : Ref sig .tc := ⟨.hbm, 154, rfl⟩
abbrev main_cst_47 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_48 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩

abbrev nD : Nat := 1
abbrev τ : Topo := Topo.v7x

variable {F : FTy → Type} [FloatOps F]
-- ==== Proof.K.Tile.lean ====
/- One 16-row tile of dequantised weights, read at an index.

   The kernel gathers packed bytes row by row, splits every byte into its two 4-bit codes on 32-bit words, spreads each
   code over a 16-bit half word, and gathers the scaled 16-entry table by the low byte of that half word. Read at row `i`
   and lane `l` this is the table entry at one nibble of one packed byte, times the scale of the lane. -/
module

public import proofs.«01_k».proof.Proof.Gen.Kernel.Skeleton
public import Idealize.ShloMosaic.Lib.BitcastFour
public import Idealize.ShloMosaic.Lib.BitcastPair
public import Idealize.ShloMosaic.Lib.Pipeline.Value
public import Idealize.ShloMosaic.Lib.ValueIdxCore

@[expose] public section

noncomputable section

namespace Cert.Kernel.Hand

open Idealize.ShloMosaic Idealize.ShloMosaic.TcCoe Cert.Kernel.Gen
open ValueIdx (ix2)

variable {F : FTy → Type} [FloatOps F]

/-- The 4-bit code that weight row `o` takes from its packed byte: the low nibble on even rows, the high one on odd. -/
def nib (b : BitVec 8) (o : ℕ) : BitVec 8 := if o % 2 = 0 then b &&& 15#8 else b >>> 4

theorem nib_lt (b : BitVec 8) (o : ℕ) : (nib b o).toNat < 16 := by
  unfold nib
  split
  · rw [BitVec.toNat_and]; exact lt_of_le_of_lt Nat.and_le_right (by decide)
  · rw [BitVec.toNat_ushiftRight, Nat.shiftRight_eq_div_pow]; have := b.isLt; omega

theorem nib_congr (b : BitVec 8) {o o' : ℕ} (h : o % 2 = o' % 2) : nib b o = nib b o' := by
  unfold nib; rw [h]

/-- An index vector as the gather takes it (through a trailing unit axis and back). -/
def through (v : IVec S32x128 32) : IVec S32x128 32 :=
  shapeCast S32x128 (shapeCast S32x128x1 v shapeCasts_S32x128_S32x128x1) shapeCasts_S32x128x1_S32x128

def through16 (v : IVec S16x128 32) : IVec S16x128 32 :=
  shapeCast S16x128 (shapeCast S16x128x1 v shapeCasts_S16x128_S16x128x1) shapeCasts_S16x128x1_S16x128

theorem through_eq (v : IVec S32x128 32) : through v = v := shapeCast_shapeCast _ _ _
theorem through16_eq (v : IVec S16x128 32) : through16 v = v := shapeCast_shapeCast _ _ _

/-- The 32 rows of codes of half a block, as bytes. -/
def codesVec (vh : IVec S32x128 32) (p : IVec S32x128 8) : IVec S32x128 8 :=
  bitcast S32x128 8
    (ori
      (andi (bitcast S8x128 32 (dynamicGather 0 p (through vh)) bitcasts_S32x128_w8_S8x128_w32) (broadcast S8x128 983055#32))
      (andi (shrsi (bitcast S8x128 32 (dynamicGather 0 p (through vh)) bitcasts_S32x128_w8_S8x128_w32) (broadcast S8x128 4#32))
        (broadcast S8x128 251662080#32)))
    bitcasts_S8x128_w32_S32x128_w8

/-- The 16 rows of table indices of a tile, from the codes of its half block. -/
def idxVec (vq : IVec S32x128 32) (codes : IVec S32x128 8) : IVec S16x128 32 :=
  andi
    (extsi 32
      (bitcast S16x128 16
        (ori (bitcast S8x128 32 (dynamicGather 0 codes (through vq)) bitcasts_S32x128_w8_S8x128_w32)
          (broadcast S8x128 268439552#32))
        bitcasts_S8x128_w32_S16x128_w16)
      natLt_16_32)
    (broadcast S16x128 255#32)

/-- The table with every lane multiplied by its scale. -/
def scaled (t : FVec F S16x128 .bf16) (s : FVec F S1x128 .f32) : FVec F S16x128 .bf16 :=
  mulf t (truncf .bf16
    (broadcastTo S16x128 (shapeCast S1x128 s shapeCasts_S1x128_S1x128) broadcasts_S1x128_S16x128) bitsLt_bf16_f32)

/-- A tile as the kernel stores it. -/
def tile (vh vq : IVec S32x128 32) (p : Vec F S32x128 .i8) (t : FVec F S16x128 .bf16) (s : Vec F S1x128 .f32) :
    FVec F S1x16x128 .bf16 :=
  shapeCast S1x16x128 (dynamicGather 0 (scaled t s) (through16 (idxVec vq (codesVec vh p)))) shapeCasts_S16x128_S1x16x128

/-! ## Bits -/

/-- Eight-bit rows of a 32-bit word vector: bit `i` of row `r` is bit `8 (r % 4) + i` of word row `r / 4`. -/
theorem bytes_getLsbD (x : IVec S8x128 32) (r : Fin 32) (l : Fin 128) (a : Fin 8) (ha : a.val = r.val / 4) (i : ℕ) (hi : i < 8) :
    (bitcast S32x128 8 x bitcasts_S8x128_w32_S32x128_w8 (ix2 r l)).getLsbD i
      = (x (ix2 a l)).getLsbD (8 * (r.val % 4) + i) := by
  rw [bitcast_getLsbD x _ _ i hi (by decide)]
  have hrow : Shape.row S32x128 (ix2 r l) = r.val := rfl
  have e2 : (Shape.row S32x128 (ix2 r l) * 8 + i) % 32 = 8 * (r.val % 4) + i := by rw [hrow]; omega
  rw [e2]
  congr 2
  funext c
  match c with
  | ⟨0, _⟩ =>
    refine Fin.ext ((Shape.Bitcasts.srcIdx_row _ _ _ _ ⟨0, Nat.zero_lt_two⟩ rfl).trans ?_)
    show (Shape.row S32x128 (ix2 r l) * 8 + i) / 32 = a.val
    rw [hrow]; omega
  | ⟨1, _⟩ => exact Fin.ext (Shape.Bitcasts.srcIdx_other _ _ _ _ ⟨1, Nat.one_lt_two⟩ (by show ¬ 1 + 2 = 2; omega))

/-- Sixteen-bit rows of a 32-bit word vector. -/
theorem halves_getLsbD (x : IVec S8x128 32) (r : Fin 16) (l : Fin 128) (a : Fin 8) (ha : a.val = r.val / 2) (i : ℕ) (hi : i < 16) :
    (bitcast S16x128 16 x bitcasts_S8x128_w32_S16x128_w16 (ix2 r l)).getLsbD i
      = (x (ix2 a l)).getLsbD (16 * (r.val % 2) + i) := by
  rw [bitcast_getLsbD x _ _ i hi (by decide)]
  have hrow : Shape.row S16x128 (ix2 r l) = r.val := rfl
  have e2 : (Shape.row S16x128 (ix2 r l) * 16 + i) % 32 = 16 * (r.val % 2) + i := by rw [hrow]; omega
  rw [e2]
  congr 2
  funext c
  match c with
  | ⟨0, _⟩ =>
    refine Fin.ext ((Shape.Bitcasts.srcIdx_row _ _ _ _ ⟨0, Nat.zero_lt_two⟩ rfl).trans ?_)
    show (Shape.row S16x128 (ix2 r l) * 16 + i) / 32 = a.val
    rw [hrow]; omega
  | ⟨1, _⟩ => exact Fin.ext (Shape.Bitcasts.srcIdx_other _ _ _ _ ⟨1, Nat.one_lt_two⟩ (by show ¬ 1 + 2 = 2; omega))

/-- A row gather read at an index. -/
theorem gather32_apply {α : Type} (x : S32x128.Idx → α) (v : IVec S32x128 32) (r : Fin 32) (l : Fin 128) (r' : Fin 32)
    (h : (v (ix2 r l)).toNat % 32 = r'.val) : dynamicGather 0 x v (ix2 r l) = x (ix2 r' l) := by
  unfold dynamicGather
  congr 1
  funext b
  match b with
  | ⟨0, _⟩ => exact Fin.ext h
  | ⟨1, _⟩ => rfl

theorem gather16_apply {α : Type} (x : S16x128.Idx → α) (v : IVec S16x128 32) (r : Fin 16) (l : Fin 128) (r' : Fin 16)
    (h : (v (ix2 r l)).toNat % 16 = r'.val) : dynamicGather 0 x v (ix2 r l) = x (ix2 r' l) := by
  unfold dynamicGather
  congr 1
  funext b
  match b with
  | ⟨0, _⟩ => exact Fin.ext h
  | ⟨1, _⟩ => rfl

/-- The bit of a word that the split leaves in byte `k` at place `i`. -/
theorem split_bit (w : BitVec 32) (k i : ℕ) (hk : k < 4) (hi : i < 8) :
    (IntOp.ori (IntOp.andi w 983055#32) (IntOp.andi (IntOp.shrsi .vector w 4#32) 251662080#32)).getLsbD (8 * k + i)
      = if i < 4 then w.getLsbD (8 * k + (if k % 2 = 0 then i else i + 4)) else false := by
  have hs : IntOp.shrsi .vector w 4#32 = w.sshiftRight' 4#32 := rfl
  rw [hs]
  unfold IntOp.ori IntOp.andi
  rw [BitVec.getLsbD_or, BitVec.getLsbD_and, BitVec.getLsbD_and, show w.sshiftRight' 4#32 = w.sshiftRight 4 from rfl, BitVec.getLsbD_sshiftRight]
  interval_cases k <;> interval_cases i <;> simp

/-- The codes read at a row: a nibble of the packed byte that the row gathers. -/
theorem codesVec_apply (vh : IVec S32x128 32) (p : IVec S32x128 8) (r : Fin 32) (l : Fin 128) (r' : Fin 32)
    (h : ∀ k : Fin 4, ∀ q : Fin 32, q.val = 4 * (r.val / 4) + k.val → q = r → (vh (ix2 q l)).toNat % 32 = r'.val) :
    codesVec vh p (ix2 r l) = nib (p (ix2 r' l)) r.val := by
  have hr := r.isLt
  apply BitVec.eq_of_getLsbD_eq
  intro i hi
  unfold codesVec
  rw [bytes_getLsbD _ r l ⟨r.val / 4, by omega⟩ rfl i hi]
  rw [show (ori
      (andi (bitcast S8x128 32 (dynamicGather 0 p (through vh)) bitcasts_S32x128_w8_S8x128_w32) (broadcast S8x128 983055#32))
      (andi (shrsi (bitcast S8x128 32 (dynamicGather 0 p (through vh)) bitcasts_S32x128_w8_S8x128_w32) (broadcast S8x128 4#32))
        (broadcast S8x128 251662080#32))) (ix2 (⟨r.val / 4, by omega⟩ : Fin 8) l)
    = IntOp.ori (IntOp.andi (bitcast S8x128 32 (dynamicGather 0 p (through vh)) bitcasts_S32x128_w8_S8x128_w32 (ix2 (⟨r.val / 4, by omega⟩ : Fin 8) l)) 983055#32)
        (IntOp.andi (IntOp.shrsi .vector (bitcast S8x128 32 (dynamicGather 0 p (through vh)) bitcasts_S32x128_w8_S8x128_w32 (ix2 (⟨r.val / 4, by omega⟩ : Fin 8) l)) 4#32) 251662080#32) from rfl]
  rw [split_bit _ _ _ (by omega) hi]
  have hg : dynamicGather 0 p (through vh) (ix2 r l) = p (ix2 r' l) := by
    rw [through_eq]
    exact gather32_apply p vh r l r' (h ⟨r.val % 4, by omega⟩ r (by show r.val = 4 * (r.val / 4) + r.val % 4; omega) rfl)
  have hbit : ∀ j, j < 8 → (bitcast S8x128 32 (dynamicGather 0 p (through vh)) bitcasts_S32x128_w8_S8x128_w32
      (ix2 (⟨r.val / 4, by omega⟩ : Fin 8) l)).getLsbD (8 * (r.val % 4) + j) = (p (ix2 r' l)).getLsbD j := by
    intro j hj
    refine (bitcast_8_32_getLsbD_ix2 (dynamicGather 0 p (through vh)) bitcasts_S32x128_w8_S8x128_w32 ⟨r.val / 4, by omega⟩ l
      (8 * (r.val % 4) + j) (by omega) r (by show r.val = 4 * (r.val / 4) + (8 * (r.val % 4) + j) / 8; omega)).trans ?_
    rw [hg]; congr 1; omega
  unfold nib
  by_cases h4 : i < 4
  · rw [if_pos h4]
    have e : r.val % 4 % 2 = r.val % 2 := by omega
    rw [e]
    by_cases h2 : r.val % 2 = 0
    · rw [if_pos h2, if_pos h2, hbit i hi, BitVec.getLsbD_and]
      have : (15#8 : BitVec 8).getLsbD i = true := by interval_cases i <;> rfl
      rw [this, Bool.and_true]
    · rw [if_neg h2, if_neg h2, hbit (i + 4) (by omega), BitVec.getLsbD_ushiftRight, Nat.add_comm]
  · rw [if_neg h4]
    by_cases h2 : r.val % 2 = 0
    · rw [if_pos h2, BitVec.getLsbD_and]
      have : (15#8 : BitVec 8).getLsbD i = false := by interval_cases i <;> first | rfl | omega
      rw [this, Bool.and_false]
    · rw [if_neg h2, BitVec.getLsbD_ushiftRight]
      exact (BitVec.getLsbD_of_ge _ _ (by omega)).symm

/-- The table index of a tile's row: the code that byte `2 i` gathers. -/
theorem idxVec_apply (vq : IVec S32x128 32) (codes : IVec S32x128 8) (i : Fin 16) (l : Fin 128) (r : Fin 32)
    (h : ∀ q : Fin 32, q.val = 2 * i.val → (vq (ix2 q l)).toNat % 32 = r.val) :
    idxVec vq codes (ix2 i l) = (codes (ix2 r l)).setWidth 32 := by
  have hi' := i.isLt
  have hg : dynamicGather 0 codes (through vq) (ix2 (⟨2 * i.val, by omega⟩ : Fin 32) l) = codes (ix2 r l) := by
    rw [through_eq]
    exact gather32_apply codes vq _ l r (h _ rfl)
  apply BitVec.eq_of_getLsbD_eq
  intro j hj
  have h255 : (255#32 : BitVec 32).getLsbD j = decide (j < 8) := by
    have : j < 32 := hj
    interval_cases j <;> rfl
  rw [BitVec.getLsbD_setWidth]
  show (((bitcast S16x128 16 (ori (bitcast S8x128 32 (dynamicGather 0 codes (through vq)) bitcasts_S32x128_w8_S8x128_w32)
          (broadcast S8x128 268439552#32)) bitcasts_S8x128_w32_S16x128_w16 (ix2 i l)).signExtend 32) &&& 255#32).getLsbD j = _
  rw [BitVec.getLsbD_and, h255]
  have h32 : decide (j < 32) = true := decide_eq_true hj
  by_cases h8 : j < 8
  · rw [BitVec.getLsbD_signExtend, if_pos (by omega : j < 16), h32, Bool.true_and, Bool.true_and]
    rw [halves_getLsbD _ i l ⟨i.val / 2, by omega⟩ rfl j (by omega)]
    show ((bitcast S8x128 32 (dynamicGather 0 codes (through vq)) bitcasts_S32x128_w8_S8x128_w32
      (ix2 (⟨i.val / 2, by omega⟩ : Fin 8) l) ||| 268439552#32).getLsbD (16 * (i.val % 2) + j) && decide (j < 8)) = _
    rw [BitVec.getLsbD_or]
    have hz : (268439552#32 : BitVec 32).getLsbD (16 * (i.val % 2) + j) = false := by
      have : i.val % 2 = 0 ∨ i.val % 2 = 1 := by omega
      rcases this with h | h <;> rw [h] <;> interval_cases j <;> rfl
    rw [hz, Bool.or_false]
    rw [decide_eq_true h8, Bool.and_true]
    refine (bitcast_8_32_getLsbD_ix2 (dynamicGather 0 codes (through vq)) bitcasts_S32x128_w8_S8x128_w32 ⟨i.val / 2, by omega⟩ l
      (16 * (i.val % 2) + j) (by omega)
      ⟨2 * i.val, by omega⟩ (by show 2 * i.val = 4 * (i.val / 2) + (16 * (i.val % 2) + j) / 8; omega)).trans ?_
    rw [hg]
    have : (16 * (i.val % 2) + j) % 8 = j := by omega
    rw [this]
  · rw [show decide (j < 8) = false from decide_eq_false h8, Bool.and_false, BitVec.getLsbD_of_ge _ j (by omega), Bool.and_false]

/-- A TILE READ AT AN INDEX: the table entry at the nibble of the packed byte, times the lane's scale. -/
theorem tile_apply (vh vq : IVec S32x128 32) (p : Vec F S32x128 .i8) (t : FVec F S16x128 .bf16) (s : Vec F S1x128 .f32)
    (z : Fin 1) (i : Fin 16) (l : Fin 128) (r r' : Fin 32)
    (hq : ∀ q : Fin 32, q.val = 2 * i.val → (vq (ix2 q l)).toNat % 32 = r.val)
    (hh : (vh (ix2 r l)).toNat % 32 = r'.val) :
    tile vh vq p t s (ValueIdx.ix3 z i l)
      = FloatOps.mulf (t (ix2 ⟨(nib (p (ix2 r' l)) r.val).toNat, nib_lt _ _⟩ l))
          (FloatOps.truncf .bf16 bitsLt_bf16_f32 (s (ix2 (0 : Fin 1) l))) := by
  unfold tile
  refine (shapeCast_addUnit_apply ![16, 128] _ _ _).trans ?_
  have e : (fun a : Fin 2 => (ValueIdx.ix3 z i l : S1x16x128.Idx) a.succ) = (ix2 i l : S16x128.Idx) := by
    funext a; match a with
    | ⟨0, _⟩ => rfl
    | ⟨1, _⟩ => rfl
  refine (congrArg _ e).trans ?_
  have hc := codesVec_apply vh p r l r' (fun _ q _ hq' => by rw [hq']; exact hh)
  rw [gather16_apply (scaled t s) _ i l ⟨(nib (p (ix2 r' l)) r.val).toNat, nib_lt _ _⟩ (by
    rw [through16_eq, idxVec_apply vq _ i l r hq, hc]
    show (BitVec.setWidth 32 (nib (p (ix2 r' l)) r.val)).toNat % 16 = (nib (p (ix2 r' l)) r.val).toNat
    have := nib_lt (p (ix2 r' l)) r.val
    rw [BitVec.toNat_setWidth]; omega)]
  unfold scaled
  rw [shapeCast_self]
  show FloatOps.mulf _ (FloatOps.truncf .bf16 bitsLt_bf16_f32 (broadcastTo S16x128 s broadcasts_S1x128_S16x128 (ix2 _ l))) = _
  rw [broadcastTo_apply s broadcasts_S1x128_S16x128 _ (ix2 (0 : Fin 1) l) (by
    intro a
    match a with
    | ⟨0, _⟩ => rfl
    | ⟨1, _⟩ => rfl)]

end Cert.Kernel.Hand
-- ==== Proof.K.Block.lean ====
/- The 16 tiles of one 64-row block of weights.

   Every trip of a dequantising loop writes 64 rows of one slot of the weight buffer as 16 tiles (4 groups of 128 lanes,
   4 tiles of 16 rows). Here: every element of such a tile is the dequantised weight of its row and column, and the 16
   tiles cover the 64 rows. -/
module

public import proofs.«01_k».proof.Proof.K.Tile
public import Idealize.ShloMosaic.Lib.Writes
public import Idealize.ShloMosaic.Lib.Pipeline.Kit
public import Idealize.ShloMosaic.Lib.Pipeline.ValueKit.Tiles

@[expose] public section

noncomputable section

namespace Cert.Kernel.Hand

open Idealize.ShloMosaic Idealize.ShloMosaic.TcCoe Cert.Kernel.Gen
open ValueIdx (ix2 ix3)

variable {F : FTy → Type} [FloatOps F]

/-- The dequantised weight of row `K` and column `n`, from the packed bytes, the scales and the table. -/
def wAt (X2 : Vec F S4096x512 .i8) (X3 : Vec F S128x512 .f32) (tbl : FVec F S16x128 .bf16) (K : Fin 8192) (n : Fin 512) : F .bf16 :=
  FloatOps.mulf
    (tbl (ix2 ⟨(nib (X2 (ix2 (⟨K.val / 2, by omega⟩ : Fin 4096) n)) K.val).toNat, nib_lt _ _⟩ (⟨n.val % 128, by omega⟩ : Fin 128)))
    (FloatOps.truncf .bf16 bitsLt_bf16_f32 (X3 (ix2 (⟨K.val / 64, by omega⟩ : Fin 128) n)))

/-- What the weight buffer holds, at any slot, after the rows of chunk `kc` are written. -/
def chunkAt (X2 : Vec F S4096x512 .i8) (X3 : Vec F S128x512 .f32) (tbl : FVec F S16x128 .bf16) (kc : Fin 8)
    (y : S2x1024x512.Idx) : F .bf16 :=
  wAt X2 X3 tbl ⟨1024 * kc.val + (y 1).val, by have : (y 1).val < 1024 := (y 1).isLt; omega⟩ (y 2)

/-- A gather's row index: row `q` takes row `q / 2 + 16 h`. -/
def IsDup (v : IVec S32x128 32) (h : ℕ) : Prop := ∀ (q : Fin 32) (l : Fin 128), (v (ix2 q l)).toNat = q.val / 2 + 16 * h

theorem chunkAt_at (X2 : Vec F S4096x512 .i8) (X3 : Vec F S128x512 .f32) (tbl : FVec F S16x128 .bf16) (kc : Fin 8)
    (y : S2x1024x512.Idx) (K : Fin 8192) (n : Fin 512) (hK : 1024 * kc.val + (y 1).val = K.val) (hn : (y 2).val = n.val) :
    chunkAt X2 X3 tbl kc y = wAt X2 X3 tbl K n := by
  unfold chunkAt
  rw [show (⟨1024 * kc.val + (y 1).val, by have : (y 1).val < 1024 := (y 1).isLt; omega⟩ : Fin 8192) = K from Fin.ext hK,
    show y 2 = n from Fin.ext hn]

theorem piece_agrees (arg2 : Memref sig .tc .vmem S4096x512 .i8) (arg3 : Memref sig .tc .vmem S128x512 .f32)
    (X2 : BufTy.Contents (Elt F) arg2.view.ty) (X3 : BufTy.Contents (Elt F) arg3.view.ty)
    (tbl : FVec F S16x128 .bf16) (vh vq : IVec S32x128 32) (h q : ℕ) (hh : h < 2) (hq : q < 2) (hvh : IsDup vh h) (hvq : IsDup vq q)
    (kc : Fin 8) (slot k l : ℕ) (hk : k < 16) (hl : l < 4)
    (off : Fin 3 → ℕ) (inb : ∀ a, off a + ![1, 16, 128] a ≤ S2x1024x512.size a)
    (hoff : off = ![slot, 64 * k + 16 * (2 * h + q), 128 * l])
    (off2 : Fin 2 → ℕ) (inb2 : ∀ a, off2 a + S32x128.size a ≤ S4096x512.size a) (hoff2 : off2 = ![32 * k + 512 * kc.val, 128 * l])
    (off3 : Fin 2 → ℕ) (inb3 : ∀ a, off3 a + S1x128.size a ≤ S128x512.size a) (hoff3 : off3 = ![k + 16 * kc.val, 128 * l])
    (x : S1x16x128.Idx) :
    tile vh vq (View.readAt (Elt F) arg2.view (Rect.unit (s := S4096x512) off2 S32x128.size inb2).toLoadRect X2) tbl
        (View.readAt (Elt F) arg3.view (Rect.unit (s := S128x512) off3 S1x128.size inb3).toLoadRect X3) x
      = chunkAt (View.read (Elt F) arg2.view X2) (View.read (Elt F) arg3.view X3) tbl kc
          ((Rect.unit (s := S2x1024x512) off ![1, 16, 128] inb).emb x) := by
  subst hoff hoff2 hoff3
  have hkc := kc.isLt
  obtain ⟨z, i, c, rfl⟩ : ∃ (z : Fin 1) (i : Fin 16) (c : Fin 128), x = ix3 z i c := ⟨x 0, x 1, x 2, ValueIdx.eq_ix3 x⟩
  have hi := i.isLt
  have hc := c.isLt
  rw [tile_apply vh vq _ tbl _ z i c ⟨16 * q + i.val, by omega⟩ ⟨16 * h + 8 * q + i.val / 2, by omega⟩
    (fun p hp => by rw [hvq p c, hp]; show (2 * i.val / 2 + 16 * q) % 32 = 16 * q + i.val; omega)
    (by rw [hvh _ c]; show ((16 * q + i.val) / 2 + 16 * h) % 32 = 16 * h + 8 * q + i.val / 2; omega)]
  have e1 : ((Rect.unit (s := S2x1024x512) ![slot, 64 * k + 16 * (2 * h + q), 128 * l] ![1, 16, 128] inb).emb (ix3 z i c) 1).val
      = 64 * k + 16 * (2 * h + q) + i.val := by
    refine (Rect.idx_unit_val _ _ _ _ _).trans ?_
    rfl
  have e2 : ((Rect.unit (s := S2x1024x512) ![slot, 64 * k + 16 * (2 * h + q), 128 * l] ![1, 16, 128] inb).emb (ix3 z i c) 2).val
      = 128 * l + c.val := by
    refine (Rect.idx_unit_val _ _ _ _ _).trans ?_
    rfl
  have hp : View.readAt (Elt F) arg2.view (Rect.unit (s := S4096x512) ![32 * k + 512 * kc.val, 128 * l] S32x128.size inb2).toLoadRect X2
      (ix2 (⟨16 * h + 8 * q + i.val / 2, by omega⟩ : Fin 32) c)
      = View.read (Elt F) arg2.view X2 (ix2 (⟨(1024 * kc.val + (64 * k + 16 * (2 * h + q) + i.val)) / 2, by omega⟩ : Fin 4096)
          (⟨128 * l + c.val, by omega⟩ : Fin 512)) := by
    show View.read (Elt F) arg2.view X2 _ = _
    congr 1
    funext a
    match a with
    | ⟨0, _⟩ =>
      refine Fin.ext ((Rect.idx_unit_val _ _ _ _ _).trans ?_)
      show 32 * k + 512 * kc.val + (16 * h + 8 * q + i.val / 2) = (1024 * kc.val + (64 * k + 16 * (2 * h + q) + i.val)) / 2
      omega
    | ⟨1, _⟩ => exact Fin.ext (Rect.idx_unit_val _ _ _ _ _)
  have hs : View.readAt (Elt F) arg3.view (Rect.unit (s := S128x512) ![k + 16 * kc.val, 128 * l] S1x128.size inb3).toLoadRect X3
      (ix2 (0 : Fin 1) c)
      = View.read (Elt F) arg3.view X3 (ix2 (⟨(1024 * kc.val + (64 * k + 16 * (2 * h + q) + i.val)) / 64, by omega⟩ : Fin 128)
          (⟨128 * l + c.val, by omega⟩ : Fin 512)) := by
    show View.read (Elt F) arg3.view X3 _ = _
    congr 1
    funext a
    match a with
    | ⟨0, _⟩ =>
      refine Fin.ext ((Rect.idx_unit_val _ _ _ _ _).trans ?_)
      show k + 16 * kc.val + 0 = (1024 * kc.val + (64 * k + 16 * (2 * h + q) + i.val)) / 64
      omega
    | ⟨1, _⟩ => exact Fin.ext (Rect.idx_unit_val _ _ _ _ _)
  rw [hp, hs]
  refine Eq.trans ?_ (chunkAt_at _ _ tbl kc _ ⟨1024 * kc.val + (64 * k + 16 * (2 * h + q) + i.val), by omega⟩ ⟨128 * l + c.val, by omega⟩
    (congrArg (1024 * kc.val + ·) e1) e2).symm
  unfold wAt
  congr 2
  funext a
  match a with
  | ⟨0, _⟩ =>
    refine Fin.ext ?_
    exact congrArg BitVec.toNat (nib_congr _ (by show (16 * q + i.val) % 2 = (1024 * kc.val + (64 * k + 16 * (2 * h + q) + i.val)) % 2; omega))
  | ⟨1, _⟩ => exact Fin.ext (by show c.val = (128 * l + c.val) % 128; omega)

/-- What a trip's tiles are to be: each agrees with `G`, and they cover 64 rows of the slot. -/
def Good (L : List (View.Piece (Elt F) S2x1024x512 .bf16)) (G : S2x1024x512.Idx → F .bf16) (slot k : ℕ) : Prop :=
  (∀ p ∈ L, ∀ x : p.1.shape.Idx, p.2 x = G (p.1.emb x)) ∧
    ∀ y : S2x1024x512.Idx, (y 0).val = slot → 64 * k ≤ (y 1).val → (y 1).val < 64 * k + 64 → ∃ p ∈ L, y ∈ p.1.set

theorem good16 (arg2 : Memref sig .tc .vmem S4096x512 .i8) (arg3 : Memref sig .tc .vmem S128x512 .f32)
    (X2 : BufTy.Contents (Elt F) arg2.view.ty) (X3 : BufTy.Contents (Elt F) arg3.view.ty)
    (tbl : FVec F S16x128 .bf16) (v4 v6 : IVec S32x128 32) (h4 : IsDup v4 0) (h6 : IsDup v6 1)
    (kc : Fin 8) (slot k : ℕ) (hk : k < 16)
    (off : Fin 4 → Fin 4 → Fin 3 → ℕ) (inb : ∀ l t a, off l t a + ![1, 16, 128] a ≤ S2x1024x512.size a)
    (hoff : ∀ l t, off l t = ![slot, 64 * k + 16 * t.val, 128 * l.val])
    (off2 : Fin 4 → Fin 2 → ℕ) (inb2 : ∀ l a, off2 l a + S32x128.size a ≤ S4096x512.size a)
    (hoff2 : ∀ l, off2 l = ![32 * k + 512 * kc.val, 128 * l.val])
    (off3 : Fin 4 → Fin 2 → ℕ) (inb3 : ∀ l a, off3 l a + S1x128.size a ≤ S128x512.size a)
    (hoff3 : ∀ l, off3 l = ![k + 16 * kc.val, 128 * l.val])
    (L : List (View.Piece (Elt F) S2x1024x512 .bf16))
    (hL : L = (([3, 2, 1, 0] : List (Fin 4)).flatMap fun l =>
      [⟨Rect.unit (s := S2x1024x512) (off l 3) ![1, 16, 128] (inb l 3),
          tile v6 v6 (View.readAt (Elt F) arg2.view (Rect.unit (s := S4096x512) (off2 l) S32x128.size (inb2 l)).toLoadRect X2) tbl
            (View.readAt (Elt F) arg3.view (Rect.unit (s := S128x512) (off3 l) S1x128.size (inb3 l)).toLoadRect X3)⟩,
       ⟨Rect.unit (s := S2x1024x512) (off l 2) ![1, 16, 128] (inb l 2),
          tile v6 v4 (View.readAt (Elt F) arg2.view (Rect.unit (s := S4096x512) (off2 l) S32x128.size (inb2 l)).toLoadRect X2) tbl
            (View.readAt (Elt F) arg3.view (Rect.unit (s := S128x512) (off3 l) S1x128.size (inb3 l)).toLoadRect X3)⟩,
       ⟨Rect.unit (s := S2x1024x512) (off l 1) ![1, 16, 128] (inb l 1),
          tile v4 v6 (View.readAt (Elt F) arg2.view (Rect.unit (s := S4096x512) (off2 l) S32x128.size (inb2 l)).toLoadRect X2) tbl
            (View.readAt (Elt F) arg3.view (Rect.unit (s := S128x512) (off3 l) S1x128.size (inb3 l)).toLoadRect X3)⟩,
       ⟨Rect.unit (s := S2x1024x512) (off l 0) ![1, 16, 128] (inb l 0),
          tile v4 v4 (View.readAt (Elt F) arg2.view (Rect.unit (s := S4096x512) (off2 l) S32x128.size (inb2 l)).toLoadRect X2) tbl
            (View.readAt (Elt F) arg3.view (Rect.unit (s := S128x512) (off3 l) S1x128.size (inb3 l)).toLoadRect X3)⟩])) :
    Good L (chunkAt (View.read (Elt F) arg2.view X2) (View.read (Elt F) arg3.view X3) tbl kc) slot k := by
  subst hL
  constructor
  · intro p hp
    obtain ⟨l, -, hp⟩ := List.mem_flatMap.1 hp
    simp only [List.mem_cons, List.not_mem_nil, or_false] at hp
    rcases hp with rfl | rfl | rfl | rfl
    · exact piece_agrees arg2 arg3 X2 X3 tbl v6 v6 1 1 (by omega) (by omega) h6 h6 kc slot k l.val hk l.isLt _ (inb l 3) (hoff l 3) _ (inb2 l) (hoff2 l) _ (inb3 l) (hoff3 l)
    · exact piece_agrees arg2 arg3 X2 X3 tbl v6 v4 1 0 (by omega) (by omega) h6 h4 kc slot k l.val hk l.isLt _ (inb l 2) (hoff l 2) _ (inb2 l) (hoff2 l) _ (inb3 l) (hoff3 l)
    · exact piece_agrees arg2 arg3 X2 X3 tbl v4 v6 0 1 (by omega) (by omega) h4 h6 kc slot k l.val hk l.isLt _ (inb l 1) (hoff l 1) _ (inb2 l) (hoff2 l) _ (inb3 l) (hoff3 l)
    · exact piece_agrees arg2 arg3 X2 X3 tbl v4 v4 0 0 (by omega) (by omega) h4 h4 kc slot k l.val hk l.isLt _ (inb l 0) (hoff l 0) _ (inb2 l) (hoff2 l) _ (inb3 l) (hoff3 l)
  · intro y h0 h1 h1'
    have h2 : (y 2).val < 512 := (y 2).isLt
    have mem : ∀ (l t : Fin 4), l.val = (y 2).val / 128 → t.val = ((y 1).val - 64 * k) / 16 →
        y ∈ (Rect.unit (s := S2x1024x512) (off l t) ![1, 16, 128] (inb l t)).set := by
      intro l t hl ht
      rw [Rect.mem_set_unit]
      intro a
      rw [hoff l t]
      match a with
      | ⟨0, _⟩ => exact ⟨le_of_eq h0.symm, by show (y 0).val < slot + 1; omega⟩
      | ⟨1, _⟩ => exact ⟨by show 64 * k + 16 * t.val ≤ (y 1).val; omega, by show (y 1).val < 64 * k + 16 * t.val + 16; omega⟩
      | ⟨2, _⟩ => exact ⟨by show 128 * l.val ≤ (y 2).val; omega, by show (y 2).val < 128 * l.val + 128; omega⟩
    have hl : ∀ l : Fin 4, l ∈ ([3, 2, 1, 0] : List (Fin 4)) := by decide
    obtain ⟨l, hle⟩ : ∃ l : Fin 4, l.val = (y 2).val / 128 := ⟨⟨(y 2).val / 128, by omega⟩, rfl⟩
    obtain ⟨t, hte⟩ : ∃ t : Fin 4, t.val = ((y 1).val - 64 * k) / 16 := ⟨⟨((y 1).val - 64 * k) / 16, by omega⟩, rfl⟩
    have m := mem l t hle hte
    match t, m with
    | ⟨3, _⟩, m => exact ⟨_, List.mem_flatMap.2 ⟨l, hl l, List.mem_cons_self⟩, m⟩
    | ⟨2, _⟩, m => exact ⟨_, List.mem_flatMap.2 ⟨l, hl l, List.mem_cons_of_mem _ List.mem_cons_self⟩, m⟩
    | ⟨1, _⟩, m => exact ⟨_, List.mem_flatMap.2 ⟨l, hl l, List.mem_cons_of_mem _ (List.mem_cons_of_mem _ List.mem_cons_self)⟩, m⟩
    | ⟨0, _⟩, m =>
      exact ⟨_, List.mem_flatMap.2 ⟨l, hl l, List.mem_cons_of_mem _ (List.mem_cons_of_mem _ (List.mem_cons_of_mem _ List.mem_cons_self))⟩, m⟩

/-- The tiles of the trips before `k`: every one agrees, and rows below `64 k` of the slot are covered. -/
def GoodUpTo (L : List (View.Piece (Elt F) S2x1024x512 .bf16)) (G : S2x1024x512.Idx → F .bf16) (slot k : ℕ) : Prop :=
  (∀ p ∈ L, ∀ x : p.1.shape.Idx, p.2 x = G (p.1.emb x)) ∧
    ∀ y : S2x1024x512.Idx, (y 0).val = slot → (y 1).val < 64 * k → ∃ p ∈ L, y ∈ p.1.set

theorem goodUpTo_nil (G : S2x1024x512.Idx → F .bf16) (slot : ℕ) : GoodUpTo (F := F) [] G slot 0 :=
  ⟨fun _ hp => absurd hp List.not_mem_nil, fun _ _ h => absurd h (by omega)⟩

theorem goodUpTo_succ {L L' : List (View.Piece (Elt F) S2x1024x512 .bf16)} {G : S2x1024x512.Idx → F .bf16} {slot k : ℕ}
    (h : Good L G slot k) (h' : GoodUpTo L' G slot k) : GoodUpTo (L ++ L') G slot (k + 1) := by
  refine ⟨fun p hp => (List.mem_append.1 hp).elim (h.1 p) (h'.1 p), fun y h0 h1 => ?_⟩
  by_cases hlt : (y 1).val < 64 * k
  · obtain ⟨p, hp, hy⟩ := h'.2 y h0 hlt
    exact ⟨p, List.mem_append_right _ hp, hy⟩
  · obtain ⟨p, hp, hy⟩ := h.2 y h0 (by omega) (by omega)
    exact ⟨p, List.mem_append_left _ hp, hy⟩

end Cert.Kernel.Hand
-- ==== Proof.K.Chunk1.lean ====
/- The dequantising loops, chunk by chunk: what the tiles written by the trips of a loop hold. -/
module

public import proofs.«01_k».proof.Proof.Gen.Kernel.Loops
public import proofs.«01_k».proof.Proof.K.Block

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open Idealize.SL.Sem Cert.Kernel.Gen

variable {F : FTy → Type} [FloatOps F]

/-! ## Chunk 0 -/

theorem good_t1 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v75 : FVec F S512x512 .f32) (cst_22 : F .f32) (X_arg2 : BufTy.Contents (Elt F) arg2.view.ty) (X_arg3 : BufTy.Contents (Elt F) arg3.view.ty) (k : Fin k0_t1_loop.trips) (h4 : IsDup v4 0) (h6 : IsDup v6 1) :
    Good (tripL_k0_t1 (F := F) 𝒱 c bd i arg1 harg1 arg2 harg2 arg3 harg3 arg4 harg4 arg5 harg5 arg6 harg6 arg7 harg7 arg8 harg8 v4 v6 v69 v75 cst_22 X_arg2 X_arg3 k)
      (chunkAt (View.read (Elt F) arg2.view X_arg2) (View.read (Elt F) arg3.view X_arg3) v69 0) 0 k.val := by
  have hk : k.val < 16 := Nat.lt_of_lt_of_le k.isLt k0_t1_abs.2.1
  refine good16 arg2 arg3 X_arg2 X_arg3 v69 v4 v6 h4 h6 0 0 k.val hk
    (fun l t => match l with | ⟨0, _⟩ => k0_off3 k (BitVec.ofNat 32 (16 * t.val)) | ⟨1, _⟩ => k0_off6 k (BitVec.ofNat 32 (16 * t.val)) | ⟨2, _⟩ => k0_off9 k (BitVec.ofNat 32 (16 * t.val)) | ⟨3, _⟩ => k0_off12 k (BitVec.ofNat 32 (16 * t.val)))
    (fun l t => match l with | ⟨0, _⟩ => k0_off3_inb k t | ⟨1, _⟩ => k0_off6_inb k t | ⟨2, _⟩ => k0_off9_inb k t | ⟨3, _⟩ => k0_off12_inb k t)
    (fun l t => match l with | ⟨0, _⟩ => k0_off3_eq k t | ⟨1, _⟩ => k0_off6_eq k t | ⟨2, _⟩ => k0_off9_eq k t | ⟨3, _⟩ => k0_off12_eq k t)
    (fun l => match l with | ⟨0, _⟩ => k0_off1 k | ⟨1, _⟩ => k0_off4 k | ⟨2, _⟩ => k0_off7 k | ⟨3, _⟩ => k0_off10 k)
    (fun l => match l with | ⟨0, _⟩ => k0_off1_inb k | ⟨1, _⟩ => k0_off4_inb k | ⟨2, _⟩ => k0_off7_inb k | ⟨3, _⟩ => k0_off10_inb k)
    (fun l => match l with | ⟨0, _⟩ => k0_off1_eq k | ⟨1, _⟩ => k0_off4_eq k | ⟨2, _⟩ => k0_off7_eq k | ⟨3, _⟩ => k0_off10_eq k)
    (fun l => match l with | ⟨0, _⟩ => k0_off2 k | ⟨1, _⟩ => k0_off5 k | ⟨2, _⟩ => k0_off8 k | ⟨3, _⟩ => k0_off11 k)
    (fun l => match l with | ⟨0, _⟩ => k0_off2_inb k | ⟨1, _⟩ => k0_off5_inb k | ⟨2, _⟩ => k0_off8_inb k | ⟨3, _⟩ => k0_off11_inb k)
    (fun l => match l with | ⟨0, _⟩ => k0_off2_eq k | ⟨1, _⟩ => k0_off5_eq k | ⟨2, _⟩ => k0_off8_eq k | ⟨3, _⟩ => k0_off11_eq k)
    _ ?_
  unfold tripL_k0_t1 trip_k0_t1
  rfl

theorem upTo_t1 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v75 : FVec F S512x512 .f32) (cst_22 : F .f32) (X_arg2 : BufTy.Contents (Elt F) arg2.view.ty) (X_arg3 : BufTy.Contents (Elt F) arg3.view.ty) (h4 : IsDup v4 0) (h6 : IsDup v6 1) (k : ℕ) (hk : k ≤ k0_t1_loop.trips) :
    GoodUpTo (pb_k0_t1 (F := F) 𝒱 c bd i arg1 harg1 arg2 harg2 arg3 harg3 arg4 harg4 arg5 harg5 arg6 harg6 arg7 harg7 arg8 harg8 v4 v6 v69 v75 cst_22 X_arg2 X_arg3 k)
      (chunkAt (View.read (Elt F) arg2.view X_arg2) (View.read (Elt F) arg3.view X_arg3) v69 0) 0 k := by
  induction k with
  | zero => exact goodUpTo_nil _ _
  | succ k ih =>
    rw [pb_k0_t1_succ (F := F) 𝒱 c bd i arg1 harg1 arg2 harg2 arg3 harg3 arg4 harg4 arg5 harg5 arg6 harg6 arg7 harg7 arg8 harg8 v4 v6 v69 v75 cst_22 X_arg2 X_arg3 ⟨k, hk⟩]
    exact goodUpTo_succ (good_t1 (F := F) 𝒱 c bd i arg1 harg1 arg2 harg2 arg3 harg3 arg4 harg4 arg5 harg5 arg6 harg6 arg7 harg7 arg8 harg8 v4 v6 v69 v75 cst_22 X_arg2 X_arg3 ⟨k, hk⟩ h4 h6) (ih (Nat.le_of_succ_le hk))

end Cert.Kernel.Hand
-- ==== Proof.K.Chunk2.lean ====
/- The dequantising loops, chunk by chunk: what the tiles written by the trips of a loop hold. -/
module

public import proofs.«01_k».proof.Proof.Gen.Kernel.Loops
public import proofs.«01_k».proof.Proof.K.Block

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open Idealize.SL.Sem Cert.Kernel.Gen

variable {F : FTy → Type} [FloatOps F]

/-! ## Chunk 1 -/

theorem good_t2 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v75 : FVec F S512x512 .f32) (cst_22 : F .f32) (X_arg2 : BufTy.Contents (Elt F) arg2.view.ty) (X_arg3 : BufTy.Contents (Elt F) arg3.view.ty) (k : Fin k0_t2_loop.trips) (h4 : IsDup v4 0) (h6 : IsDup v6 1) :
    Good (tripL_k0_t2 (F := F) 𝒱 c bd i arg1 harg1 arg2 harg2 arg3 harg3 arg4 harg4 arg5 harg5 arg6 harg6 arg7 harg7 arg8 harg8 v4 v6 v69 v75 cst_22 X_arg2 X_arg3 k)
      (chunkAt (View.read (Elt F) arg2.view X_arg2) (View.read (Elt F) arg3.view X_arg3) v69 1) 1 k.val := by
  have hk : k.val < 16 := Nat.lt_of_lt_of_le k.isLt k0_t2_abs.2.1
  refine good16 arg2 arg3 X_arg2 X_arg3 v69 v4 v6 h4 h6 1 1 k.val hk
    (fun l t => match l with | ⟨0, _⟩ => k0_off15 k (BitVec.ofNat 32 (16 * t.val)) | ⟨1, _⟩ => k0_off18 k (BitVec.ofNat 32 (16 * t.val)) | ⟨2, _⟩ => k0_off21 k (BitVec.ofNat 32 (16 * t.val)) | ⟨3, _⟩ => k0_off24 k (BitVec.ofNat 32 (16 * t.val)))
    (fun l t => match l with | ⟨0, _⟩ => k0_off15_inb k t | ⟨1, _⟩ => k0_off18_inb k t | ⟨2, _⟩ => k0_off21_inb k t | ⟨3, _⟩ => k0_off24_inb k t)
    (fun l t => match l with | ⟨0, _⟩ => k0_off15_eq k t | ⟨1, _⟩ => k0_off18_eq k t | ⟨2, _⟩ => k0_off21_eq k t | ⟨3, _⟩ => k0_off24_eq k t)
    (fun l => match l with | ⟨0, _⟩ => k0_off13 k | ⟨1, _⟩ => k0_off16 k | ⟨2, _⟩ => k0_off19 k | ⟨3, _⟩ => k0_off22 k)
    (fun l => match l with | ⟨0, _⟩ => k0_off13_inb k | ⟨1, _⟩ => k0_off16_inb k | ⟨2, _⟩ => k0_off19_inb k | ⟨3, _⟩ => k0_off22_inb k)
    (fun l => match l with | ⟨0, _⟩ => k0_off13_eq k | ⟨1, _⟩ => k0_off16_eq k | ⟨2, _⟩ => k0_off19_eq k | ⟨3, _⟩ => k0_off22_eq k)
    (fun l => match l with | ⟨0, _⟩ => k0_off14 k | ⟨1, _⟩ => k0_off17 k | ⟨2, _⟩ => k0_off20 k | ⟨3, _⟩ => k0_off23 k)
    (fun l => match l with | ⟨0, _⟩ => k0_off14_inb k | ⟨1, _⟩ => k0_off17_inb k | ⟨2, _⟩ => k0_off20_inb k | ⟨3, _⟩ => k0_off23_inb k)
    (fun l => match l with | ⟨0, _⟩ => k0_off14_eq k | ⟨1, _⟩ => k0_off17_eq k | ⟨2, _⟩ => k0_off20_eq k | ⟨3, _⟩ => k0_off23_eq k)
    _ ?_
  unfold tripL_k0_t2 trip_k0_t2
  rfl

theorem upTo_t2 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v75 : FVec F S512x512 .f32) (cst_22 : F .f32) (X_arg2 : BufTy.Contents (Elt F) arg2.view.ty) (X_arg3 : BufTy.Contents (Elt F) arg3.view.ty) (h4 : IsDup v4 0) (h6 : IsDup v6 1) (k : ℕ) (hk : k ≤ k0_t2_loop.trips) :
    GoodUpTo (pb_k0_t2 (F := F) 𝒱 c bd i arg1 harg1 arg2 harg2 arg3 harg3 arg4 harg4 arg5 harg5 arg6 harg6 arg7 harg7 arg8 harg8 v4 v6 v69 v75 cst_22 X_arg2 X_arg3 k)
      (chunkAt (View.read (Elt F) arg2.view X_arg2) (View.read (Elt F) arg3.view X_arg3) v69 1) 1 k := by
  induction k with
  | zero => exact goodUpTo_nil _ _
  | succ k ih =>
    rw [pb_k0_t2_succ (F := F) 𝒱 c bd i arg1 harg1 arg2 harg2 arg3 harg3 arg4 harg4 arg5 harg5 arg6 harg6 arg7 harg7 arg8 harg8 v4 v6 v69 v75 cst_22 X_arg2 X_arg3 ⟨k, hk⟩]
    exact goodUpTo_succ (good_t2 (F := F) 𝒱 c bd i arg1 harg1 arg2 harg2 arg3 harg3 arg4 harg4 arg5 harg5 arg6 harg6 arg7 harg7 arg8 harg8 v4 v6 v69 v75 cst_22 X_arg2 X_arg3 ⟨k, hk⟩ h4 h6) (ih (Nat.le_of_succ_le hk))

end Cert.Kernel.Hand
-- ==== Proof.K.Chunk3.lean ====
/- The dequantising loops, chunk by chunk: what the tiles written by the trips of a loop hold. -/
module

public import proofs.«01_k».proof.Proof.Gen.Kernel.Loops
public import proofs.«01_k».proof.Proof.K.Block

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open Idealize.SL.Sem Cert.Kernel.Gen

variable {F : FTy → Type} [FloatOps F]

/-! ## Chunk 2 -/

theorem good_t3 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v75 : FVec F S512x512 .f32) (cst_22 : F .f32) (X_arg2 : BufTy.Contents (Elt F) arg2.view.ty) (X_arg3 : BufTy.Contents (Elt F) arg3.view.ty) (k : Fin k0_t3_loop.trips) (h4 : IsDup v4 0) (h6 : IsDup v6 1) :
    Good (tripL_k0_t3 (F := F) 𝒱 c bd i arg1 harg1 arg2 harg2 arg3 harg3 arg4 harg4 arg5 harg5 arg6 harg6 arg7 harg7 arg8 harg8 v4 v6 v69 v75 cst_22 X_arg2 X_arg3 k)
      (chunkAt (View.read (Elt F) arg2.view X_arg2) (View.read (Elt F) arg3.view X_arg3) v69 2) 0 k.val := by
  have hk : k.val < 16 := Nat.lt_of_lt_of_le k.isLt k0_t3_abs.2.1
  refine good16 arg2 arg3 X_arg2 X_arg3 v69 v4 v6 h4 h6 2 0 k.val hk
    (fun l t => match l with | ⟨0, _⟩ => k0_off27 k (BitVec.ofNat 32 (16 * t.val)) | ⟨1, _⟩ => k0_off30 k (BitVec.ofNat 32 (16 * t.val)) | ⟨2, _⟩ => k0_off33 k (BitVec.ofNat 32 (16 * t.val)) | ⟨3, _⟩ => k0_off36 k (BitVec.ofNat 32 (16 * t.val)))
    (fun l t => match l with | ⟨0, _⟩ => k0_off27_inb k t | ⟨1, _⟩ => k0_off30_inb k t | ⟨2, _⟩ => k0_off33_inb k t | ⟨3, _⟩ => k0_off36_inb k t)
    (fun l t => match l with | ⟨0, _⟩ => k0_off27_eq k t | ⟨1, _⟩ => k0_off30_eq k t | ⟨2, _⟩ => k0_off33_eq k t | ⟨3, _⟩ => k0_off36_eq k t)
    (fun l => match l with | ⟨0, _⟩ => k0_off25 k | ⟨1, _⟩ => k0_off28 k | ⟨2, _⟩ => k0_off31 k | ⟨3, _⟩ => k0_off34 k)
    (fun l => match l with | ⟨0, _⟩ => k0_off25_inb k | ⟨1, _⟩ => k0_off28_inb k | ⟨2, _⟩ => k0_off31_inb k | ⟨3, _⟩ => k0_off34_inb k)
    (fun l => match l with | ⟨0, _⟩ => k0_off25_eq k | ⟨1, _⟩ => k0_off28_eq k | ⟨2, _⟩ => k0_off31_eq k | ⟨3, _⟩ => k0_off34_eq k)
    (fun l => match l with | ⟨0, _⟩ => k0_off26 k | ⟨1, _⟩ => k0_off29 k | ⟨2, _⟩ => k0_off32 k | ⟨3, _⟩ => k0_off35 k)
    (fun l => match l with | ⟨0, _⟩ => k0_off26_inb k | ⟨1, _⟩ => k0_off29_inb k | ⟨2, _⟩ => k0_off32_inb k | ⟨3, _⟩ => k0_off35_inb k)
    (fun l => match l with | ⟨0, _⟩ => k0_off26_eq k | ⟨1, _⟩ => k0_off29_eq k | ⟨2, _⟩ => k0_off32_eq k | ⟨3, _⟩ => k0_off35_eq k)
    _ ?_
  unfold tripL_k0_t3 trip_k0_t3
  rfl

theorem upTo_t3 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v75 : FVec F S512x512 .f32) (cst_22 : F .f32) (X_arg2 : BufTy.Contents (Elt F) arg2.view.ty) (X_arg3 : BufTy.Contents (Elt F) arg3.view.ty) (h4 : IsDup v4 0) (h6 : IsDup v6 1) (k : ℕ) (hk : k ≤ k0_t3_loop.trips) :
    GoodUpTo (pb_k0_t3 (F := F) 𝒱 c bd i arg1 harg1 arg2 harg2 arg3 harg3 arg4 harg4 arg5 harg5 arg6 harg6 arg7 harg7 arg8 harg8 v4 v6 v69 v75 cst_22 X_arg2 X_arg3 k)
      (chunkAt (View.read (Elt F) arg2.view X_arg2) (View.read (Elt F) arg3.view X_arg3) v69 2) 0 k := by
  induction k with
  | zero => exact goodUpTo_nil _ _
  | succ k ih =>
    rw [pb_k0_t3_succ (F := F) 𝒱 c bd i arg1 harg1 arg2 harg2 arg3 harg3 arg4 harg4 arg5 harg5 arg6 harg6 arg7 harg7 arg8 harg8 v4 v6 v69 v75 cst_22 X_arg2 X_arg3 ⟨k, hk⟩]
    exact goodUpTo_succ (good_t3 (F := F) 𝒱 c bd i arg1 harg1 arg2 harg2 arg3 harg3 arg4 harg4 arg5 harg5 arg6 harg6 arg7 harg7 arg8 harg8 v4 v6 v69 v75 cst_22 X_arg2 X_arg3 ⟨k, hk⟩ h4 h6) (ih (Nat.le_of_succ_le hk))

end Cert.Kernel.Hand
-- ==== Proof.K.Chunk4.lean ====
/- The dequantising loops, chunk by chunk: what the tiles written by the trips of a loop hold. -/
module

public import proofs.«01_k».proof.Proof.Gen.Kernel.Loops
public import proofs.«01_k».proof.Proof.K.Block

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open Idealize.SL.Sem Cert.Kernel.Gen

variable {F : FTy → Type} [FloatOps F]

/-! ## Chunk 3 -/

theorem good_t4 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (k : Fin k0_t4_loop.trips) (h4 : IsDup v4 0) (h6 : IsDup v6 1) :
    Good (tripL_k0_t4 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 3) 1 k.val := by
  have hk : k.val < 16 := Nat.lt_of_lt_of_le k.isLt k0_t4_abs.2.1
  refine good16 arg2 arg3 X_arg2 X_arg3 v69 v4 v6 h4 h6 3 1 k.val hk
    (fun l t => match l with | ⟨0, _⟩ => k0_off39 k (BitVec.ofNat 32 (16 * t.val)) | ⟨1, _⟩ => k0_off42 k (BitVec.ofNat 32 (16 * t.val)) | ⟨2, _⟩ => k0_off45 k (BitVec.ofNat 32 (16 * t.val)) | ⟨3, _⟩ => k0_off48 k (BitVec.ofNat 32 (16 * t.val)))
    (fun l t => match l with | ⟨0, _⟩ => k0_off39_inb k t | ⟨1, _⟩ => k0_off42_inb k t | ⟨2, _⟩ => k0_off45_inb k t | ⟨3, _⟩ => k0_off48_inb k t)
    (fun l t => match l with | ⟨0, _⟩ => k0_off39_eq k t | ⟨1, _⟩ => k0_off42_eq k t | ⟨2, _⟩ => k0_off45_eq k t | ⟨3, _⟩ => k0_off48_eq k t)
    (fun l => match l with | ⟨0, _⟩ => k0_off37 k | ⟨1, _⟩ => k0_off40 k | ⟨2, _⟩ => k0_off43 k | ⟨3, _⟩ => k0_off46 k)
    (fun l => match l with | ⟨0, _⟩ => k0_off37_inb k | ⟨1, _⟩ => k0_off40_inb k | ⟨2, _⟩ => k0_off43_inb k | ⟨3, _⟩ => k0_off46_inb k)
    (fun l => match l with | ⟨0, _⟩ => k0_off37_eq k | ⟨1, _⟩ => k0_off40_eq k | ⟨2, _⟩ => k0_off43_eq k | ⟨3, _⟩ => k0_off46_eq k)
    (fun l => match l with | ⟨0, _⟩ => k0_off38 k | ⟨1, _⟩ => k0_off41 k | ⟨2, _⟩ => k0_off44 k | ⟨3, _⟩ => k0_off47 k)
    (fun l => match l with | ⟨0, _⟩ => k0_off38_inb k | ⟨1, _⟩ => k0_off41_inb k | ⟨2, _⟩ => k0_off44_inb k | ⟨3, _⟩ => k0_off47_inb k)
    (fun l => match l with | ⟨0, _⟩ => k0_off38_eq k | ⟨1, _⟩ => k0_off41_eq k | ⟨2, _⟩ => k0_off44_eq k | ⟨3, _⟩ => k0_off47_eq k)
    _ ?_
  unfold tripL_k0_t4 trip_k0_t4
  rfl

theorem upTo_t4 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (h4 : IsDup v4 0) (h6 : IsDup v6 1) (k : ℕ) (hk : k ≤ k0_t4_loop.trips) :
    GoodUpTo (pb_k0_t4 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 3) 1 k := by
  induction k with
  | zero => exact goodUpTo_nil _ _
  | succ k ih =>
    rw [pb_k0_t4_succ (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩]
    exact goodUpTo_succ (good_t4 (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩ h4 h6) (ih (Nat.le_of_succ_le hk))

end Cert.Kernel.Hand
-- ==== Proof.K.Chunk5.lean ====
/- The dequantising loops, chunk by chunk: what the tiles written by the trips of a loop hold. -/
module

public import proofs.«01_k».proof.Proof.Gen.Kernel.Loops
public import proofs.«01_k».proof.Proof.K.Block

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open Idealize.SL.Sem Cert.Kernel.Gen

variable {F : FTy → Type} [FloatOps F]

/-! ## Chunk 4 -/

theorem good_t5 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (k : Fin k0_t5_loop.trips) (h4 : IsDup v4 0) (h6 : IsDup v6 1) :
    Good (tripL_k0_t5 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 4) 0 k.val := by
  have hk : k.val < 16 := Nat.lt_of_lt_of_le k.isLt k0_t5_abs.2.1
  refine good16 arg2 arg3 X_arg2 X_arg3 v69 v4 v6 h4 h6 4 0 k.val hk
    (fun l t => match l with | ⟨0, _⟩ => k0_off51 k (BitVec.ofNat 32 (16 * t.val)) | ⟨1, _⟩ => k0_off54 k (BitVec.ofNat 32 (16 * t.val)) | ⟨2, _⟩ => k0_off57 k (BitVec.ofNat 32 (16 * t.val)) | ⟨3, _⟩ => k0_off60 k (BitVec.ofNat 32 (16 * t.val)))
    (fun l t => match l with | ⟨0, _⟩ => k0_off51_inb k t | ⟨1, _⟩ => k0_off54_inb k t | ⟨2, _⟩ => k0_off57_inb k t | ⟨3, _⟩ => k0_off60_inb k t)
    (fun l t => match l with | ⟨0, _⟩ => k0_off51_eq k t | ⟨1, _⟩ => k0_off54_eq k t | ⟨2, _⟩ => k0_off57_eq k t | ⟨3, _⟩ => k0_off60_eq k t)
    (fun l => match l with | ⟨0, _⟩ => k0_off49 k | ⟨1, _⟩ => k0_off52 k | ⟨2, _⟩ => k0_off55 k | ⟨3, _⟩ => k0_off58 k)
    (fun l => match l with | ⟨0, _⟩ => k0_off49_inb k | ⟨1, _⟩ => k0_off52_inb k | ⟨2, _⟩ => k0_off55_inb k | ⟨3, _⟩ => k0_off58_inb k)
    (fun l => match l with | ⟨0, _⟩ => k0_off49_eq k | ⟨1, _⟩ => k0_off52_eq k | ⟨2, _⟩ => k0_off55_eq k | ⟨3, _⟩ => k0_off58_eq k)
    (fun l => match l with | ⟨0, _⟩ => k0_off50 k | ⟨1, _⟩ => k0_off53 k | ⟨2, _⟩ => k0_off56 k | ⟨3, _⟩ => k0_off59 k)
    (fun l => match l with | ⟨0, _⟩ => k0_off50_inb k | ⟨1, _⟩ => k0_off53_inb k | ⟨2, _⟩ => k0_off56_inb k | ⟨3, _⟩ => k0_off59_inb k)
    (fun l => match l with | ⟨0, _⟩ => k0_off50_eq k | ⟨1, _⟩ => k0_off53_eq k | ⟨2, _⟩ => k0_off56_eq k | ⟨3, _⟩ => k0_off59_eq k)
    _ ?_
  unfold tripL_k0_t5 trip_k0_t5
  rfl

theorem upTo_t5 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (h4 : IsDup v4 0) (h6 : IsDup v6 1) (k : ℕ) (hk : k ≤ k0_t5_loop.trips) :
    GoodUpTo (pb_k0_t5 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 4) 0 k := by
  induction k with
  | zero => exact goodUpTo_nil _ _
  | succ k ih =>
    rw [pb_k0_t5_succ (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩]
    exact goodUpTo_succ (good_t5 (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩ h4 h6) (ih (Nat.le_of_succ_le hk))

end Cert.Kernel.Hand
-- ==== Proof.K.Chunk6.lean ====
/- The dequantising loops, chunk by chunk: what the tiles written by the trips of a loop hold. -/
module

public import proofs.«01_k».proof.Proof.Gen.Kernel.Loops
public import proofs.«01_k».proof.Proof.K.Block

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open Idealize.SL.Sem Cert.Kernel.Gen

variable {F : FTy → Type} [FloatOps F]

/-! ## Chunk 5 -/

theorem good_t6 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (k : Fin k0_t6_loop.trips) (h4 : IsDup v4 0) (h6 : IsDup v6 1) :
    Good (tripL_k0_t6 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 5) 1 k.val := by
  have hk : k.val < 16 := Nat.lt_of_lt_of_le k.isLt k0_t6_abs.2.1
  refine good16 arg2 arg3 X_arg2 X_arg3 v69 v4 v6 h4 h6 5 1 k.val hk
    (fun l t => match l with | ⟨0, _⟩ => k0_off63 k (BitVec.ofNat 32 (16 * t.val)) | ⟨1, _⟩ => k0_off66 k (BitVec.ofNat 32 (16 * t.val)) | ⟨2, _⟩ => k0_off69 k (BitVec.ofNat 32 (16 * t.val)) | ⟨3, _⟩ => k0_off72 k (BitVec.ofNat 32 (16 * t.val)))
    (fun l t => match l with | ⟨0, _⟩ => k0_off63_inb k t | ⟨1, _⟩ => k0_off66_inb k t | ⟨2, _⟩ => k0_off69_inb k t | ⟨3, _⟩ => k0_off72_inb k t)
    (fun l t => match l with | ⟨0, _⟩ => k0_off63_eq k t | ⟨1, _⟩ => k0_off66_eq k t | ⟨2, _⟩ => k0_off69_eq k t | ⟨3, _⟩ => k0_off72_eq k t)
    (fun l => match l with | ⟨0, _⟩ => k0_off61 k | ⟨1, _⟩ => k0_off64 k | ⟨2, _⟩ => k0_off67 k | ⟨3, _⟩ => k0_off70 k)
    (fun l => match l with | ⟨0, _⟩ => k0_off61_inb k | ⟨1, _⟩ => k0_off64_inb k | ⟨2, _⟩ => k0_off67_inb k | ⟨3, _⟩ => k0_off70_inb k)
    (fun l => match l with | ⟨0, _⟩ => k0_off61_eq k | ⟨1, _⟩ => k0_off64_eq k | ⟨2, _⟩ => k0_off67_eq k | ⟨3, _⟩ => k0_off70_eq k)
    (fun l => match l with | ⟨0, _⟩ => k0_off62 k | ⟨1, _⟩ => k0_off65 k | ⟨2, _⟩ => k0_off68 k | ⟨3, _⟩ => k0_off71 k)
    (fun l => match l with | ⟨0, _⟩ => k0_off62_inb k | ⟨1, _⟩ => k0_off65_inb k | ⟨2, _⟩ => k0_off68_inb k | ⟨3, _⟩ => k0_off71_inb k)
    (fun l => match l with | ⟨0, _⟩ => k0_off62_eq k | ⟨1, _⟩ => k0_off65_eq k | ⟨2, _⟩ => k0_off68_eq k | ⟨3, _⟩ => k0_off71_eq k)
    _ ?_
  unfold tripL_k0_t6 trip_k0_t6
  rfl

theorem upTo_t6 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (h4 : IsDup v4 0) (h6 : IsDup v6 1) (k : ℕ) (hk : k ≤ k0_t6_loop.trips) :
    GoodUpTo (pb_k0_t6 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 5) 1 k := by
  induction k with
  | zero => exact goodUpTo_nil _ _
  | succ k ih =>
    rw [pb_k0_t6_succ (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩]
    exact goodUpTo_succ (good_t6 (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩ h4 h6) (ih (Nat.le_of_succ_le hk))

end Cert.Kernel.Hand
-- ==== Proof.K.Chunk7.lean ====
/- The dequantising loops, chunk by chunk: what the tiles written by the trips of a loop hold. -/
module

public import proofs.«01_k».proof.Proof.Gen.Kernel.Loops
public import proofs.«01_k».proof.Proof.K.Block

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open Idealize.SL.Sem Cert.Kernel.Gen

variable {F : FTy → Type} [FloatOps F]

/-! ## Chunk 6 -/

theorem good_t7 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (k : Fin k0_t7_loop.trips) (h4 : IsDup v4 0) (h6 : IsDup v6 1) :
    Good (tripL_k0_t7 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 6) 0 k.val := by
  have hk : k.val < 16 := Nat.lt_of_lt_of_le k.isLt k0_t7_abs.2.1
  refine good16 arg2 arg3 X_arg2 X_arg3 v69 v4 v6 h4 h6 6 0 k.val hk
    (fun l t => match l with | ⟨0, _⟩ => k0_off75 k (BitVec.ofNat 32 (16 * t.val)) | ⟨1, _⟩ => k0_off78 k (BitVec.ofNat 32 (16 * t.val)) | ⟨2, _⟩ => k0_off81 k (BitVec.ofNat 32 (16 * t.val)) | ⟨3, _⟩ => k0_off84 k (BitVec.ofNat 32 (16 * t.val)))
    (fun l t => match l with | ⟨0, _⟩ => k0_off75_inb k t | ⟨1, _⟩ => k0_off78_inb k t | ⟨2, _⟩ => k0_off81_inb k t | ⟨3, _⟩ => k0_off84_inb k t)
    (fun l t => match l with | ⟨0, _⟩ => k0_off75_eq k t | ⟨1, _⟩ => k0_off78_eq k t | ⟨2, _⟩ => k0_off81_eq k t | ⟨3, _⟩ => k0_off84_eq k t)
    (fun l => match l with | ⟨0, _⟩ => k0_off73 k | ⟨1, _⟩ => k0_off76 k | ⟨2, _⟩ => k0_off79 k | ⟨3, _⟩ => k0_off82 k)
    (fun l => match l with | ⟨0, _⟩ => k0_off73_inb k | ⟨1, _⟩ => k0_off76_inb k | ⟨2, _⟩ => k0_off79_inb k | ⟨3, _⟩ => k0_off82_inb k)
    (fun l => match l with | ⟨0, _⟩ => k0_off73_eq k | ⟨1, _⟩ => k0_off76_eq k | ⟨2, _⟩ => k0_off79_eq k | ⟨3, _⟩ => k0_off82_eq k)
    (fun l => match l with | ⟨0, _⟩ => k0_off74 k | ⟨1, _⟩ => k0_off77 k | ⟨2, _⟩ => k0_off80 k | ⟨3, _⟩ => k0_off83 k)
    (fun l => match l with | ⟨0, _⟩ => k0_off74_inb k | ⟨1, _⟩ => k0_off77_inb k | ⟨2, _⟩ => k0_off80_inb k | ⟨3, _⟩ => k0_off83_inb k)
    (fun l => match l with | ⟨0, _⟩ => k0_off74_eq k | ⟨1, _⟩ => k0_off77_eq k | ⟨2, _⟩ => k0_off80_eq k | ⟨3, _⟩ => k0_off83_eq k)
    _ ?_
  unfold tripL_k0_t7 trip_k0_t7
  rfl

theorem upTo_t7 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (h4 : IsDup v4 0) (h6 : IsDup v6 1) (k : ℕ) (hk : k ≤ k0_t7_loop.trips) :
    GoodUpTo (pb_k0_t7 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 6) 0 k := by
  induction k with
  | zero => exact goodUpTo_nil _ _
  | succ k ih =>
    rw [pb_k0_t7_succ (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩]
    exact goodUpTo_succ (good_t7 (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩ h4 h6) (ih (Nat.le_of_succ_le hk))

end Cert.Kernel.Hand
-- ==== Proof.K.Chunk8.lean ====
/- The dequantising loops, chunk by chunk: what the tiles written by the trips of a loop hold. -/
module

public import proofs.«01_k».proof.Proof.Gen.Kernel.Loops
public import proofs.«01_k».proof.Proof.K.Block

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open Idealize.SL.Sem Cert.Kernel.Gen

variable {F : FTy → Type} [FloatOps F]

/-! ## Chunk 7 -/

theorem good_t8 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (X_arg2 : BufTy.Contents (Elt F) arg2.view.ty) (X_arg3 : BufTy.Contents (Elt F) arg3.view.ty) (k : Fin k0_t8_loop.trips) (h4 : IsDup v4 0) (h6 : IsDup v6 1) :
    Good (tripL_k0_t8 (F := F) 𝒱 c bd i arg1 harg1 arg2 harg2 arg3 harg3 arg4 harg4 arg5 harg5 arg6 harg6 arg7 harg7 arg8 harg8 v4 v6 v69 X_arg2 X_arg3 k)
      (chunkAt (View.read (Elt F) arg2.view X_arg2) (View.read (Elt F) arg3.view X_arg3) v69 7) 1 k.val := by
  have hk : k.val < 16 := Nat.lt_of_lt_of_le k.isLt k0_t8_abs.2.1
  refine good16 arg2 arg3 X_arg2 X_arg3 v69 v4 v6 h4 h6 7 1 k.val hk
    (fun l t => match l with | ⟨0, _⟩ => k0_off87 k (BitVec.ofNat 32 (16 * t.val)) | ⟨1, _⟩ => k0_off90 k (BitVec.ofNat 32 (16 * t.val)) | ⟨2, _⟩ => k0_off93 k (BitVec.ofNat 32 (16 * t.val)) | ⟨3, _⟩ => k0_off96 k (BitVec.ofNat 32 (16 * t.val)))
    (fun l t => match l with | ⟨0, _⟩ => k0_off87_inb k t | ⟨1, _⟩ => k0_off90_inb k t | ⟨2, _⟩ => k0_off93_inb k t | ⟨3, _⟩ => k0_off96_inb k t)
    (fun l t => match l with | ⟨0, _⟩ => k0_off87_eq k t | ⟨1, _⟩ => k0_off90_eq k t | ⟨2, _⟩ => k0_off93_eq k t | ⟨3, _⟩ => k0_off96_eq k t)
    (fun l => match l with | ⟨0, _⟩ => k0_off85 k | ⟨1, _⟩ => k0_off88 k | ⟨2, _⟩ => k0_off91 k | ⟨3, _⟩ => k0_off94 k)
    (fun l => match l with | ⟨0, _⟩ => k0_off85_inb k | ⟨1, _⟩ => k0_off88_inb k | ⟨2, _⟩ => k0_off91_inb k | ⟨3, _⟩ => k0_off94_inb k)
    (fun l => match l with | ⟨0, _⟩ => k0_off85_eq k | ⟨1, _⟩ => k0_off88_eq k | ⟨2, _⟩ => k0_off91_eq k | ⟨3, _⟩ => k0_off94_eq k)
    (fun l => match l with | ⟨0, _⟩ => k0_off86 k | ⟨1, _⟩ => k0_off89 k | ⟨2, _⟩ => k0_off92 k | ⟨3, _⟩ => k0_off95 k)
    (fun l => match l with | ⟨0, _⟩ => k0_off86_inb k | ⟨1, _⟩ => k0_off89_inb k | ⟨2, _⟩ => k0_off92_inb k | ⟨3, _⟩ => k0_off95_inb k)
    (fun l => match l with | ⟨0, _⟩ => k0_off86_eq k | ⟨1, _⟩ => k0_off89_eq k | ⟨2, _⟩ => k0_off92_eq k | ⟨3, _⟩ => k0_off95_eq k)
    _ ?_
  unfold tripL_k0_t8 trip_k0_t8
  rfl

theorem upTo_t8 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (X_arg2 : BufTy.Contents (Elt F) arg2.view.ty) (X_arg3 : BufTy.Contents (Elt F) arg3.view.ty) (h4 : IsDup v4 0) (h6 : IsDup v6 1) (k : ℕ) (hk : k ≤ k0_t8_loop.trips) :
    GoodUpTo (pb_k0_t8 (F := F) 𝒱 c bd i arg1 harg1 arg2 harg2 arg3 harg3 arg4 harg4 arg5 harg5 arg6 harg6 arg7 harg7 arg8 harg8 v4 v6 v69 X_arg2 X_arg3 k)
      (chunkAt (View.read (Elt F) arg2.view X_arg2) (View.read (Elt F) arg3.view X_arg3) v69 7) 1 k := by
  induction k with
  | zero => exact goodUpTo_nil _ _
  | succ k ih =>
    rw [pb_k0_t8_succ (F := F) 𝒱 c bd i arg1 harg1 arg2 harg2 arg3 harg3 arg4 harg4 arg5 harg5 arg6 harg6 arg7 harg7 arg8 harg8 v4 v6 v69 X_arg2 X_arg3 ⟨k, hk⟩]
    exact goodUpTo_succ (good_t8 (F := F) 𝒱 c bd i arg1 harg1 arg2 harg2 arg3 harg3 arg4 harg4 arg5 harg5 arg6 harg6 arg7 harg7 arg8 harg8 v4 v6 v69 X_arg2 X_arg3 ⟨k, hk⟩ h4 h6) (ih (Nat.le_of_succ_le hk))

end Cert.Kernel.Hand
-- ==== Proof.K.Values.lean ====
/- What the kernel's body computes at one grid point, as a function of the blocks it reads.

   The pieces: the table of 16 levels, the dequantised rows of a chunk of 1024, the low-rank intermediate `x · a`, and the
   512 × 512 block of the result as the kernel accumulates it, chunk after chunk. Then what a read of a slot of the weight
   buffer gives after a chunk's loop: the chunk's dequantised rows, whatever the buffer held before. -/
module

public import proofs.«01_k».proof.Proof.Gen.Kernel.Loops
public import proofs.«01_k».proof.Proof.K.Chunk1
public import proofs.«01_k».proof.Proof.K.Chunk2
public import proofs.«01_k».proof.Proof.K.Chunk3
public import proofs.«01_k».proof.Proof.K.Chunk4
public import proofs.«01_k».proof.Proof.K.Chunk5
public import proofs.«01_k».proof.Proof.K.Chunk6
public import proofs.«01_k».proof.Proof.K.Chunk7
public import proofs.«01_k».proof.Proof.K.Chunk8

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open Idealize.SL.Sem Cert.Kernel.Gen

variable {F : FTy → Type} [FloatOps F]

open ValueIdx (ix2 ix3)

/-- The 16 levels of the code, one per row, the same in every lane. -/
def tableV : FVec F S16x128 .bf16 :=
  k0_pay416 (iota .tc S16x128 32 [0] iota_S16x128_d0_w32) (k0_pay414 (F := F)) k0_pay415 (Scalar.ofBits .f32 0x3DA2FAFF#32)

/-- The dequantised rows of chunk `kc`. -/
def wRows (X2 : Vec F S4096x512 .i8) (X3 : Vec F S128x512 .f32) (kc : Fin 8) : Vec F S1x1024x512 .bf16 :=
  fun x => wAt X2 X3 tableV ⟨1024 * kc.val + (x 1).val, by have : (x 1).val < 1024 := (x 1).isLt; omega⟩ (x 2)

/-- The low-rank intermediate, kept between the points. -/
def hV (x0 : Vec F S512x8192 .bf16) (x3 : Vec F S8192x16 .bf16) : Vec F S512x16 .bf16 := k0_pay417 x0 x3

/-- Columns of `x` that chunk `kc` multiplies. -/
abbrev xCols0 (x0 : Vec F S512x8192 .bf16) : Vec F S512x1024 .bf16 :=
  View.ld x0 (Rect.unit (s := S512x8192) ![0, 0] S512x1024.size inb_S512x8192_S512x1024_0_0)
abbrev xCols1 (x0 : Vec F S512x8192 .bf16) : Vec F S512x1024 .bf16 :=
  View.ld x0 (Rect.unit (s := S512x8192) ![0, 1024] S512x1024.size inb_S512x8192_S512x1024_0_1024)
abbrev xCols2 (x0 : Vec F S512x8192 .bf16) : Vec F S512x1024 .bf16 :=
  View.ld x0 (Rect.unit (s := S512x8192) ![0, 2048] S512x1024.size inb_S512x8192_S512x1024_0_2048)
abbrev xCols3 (x0 : Vec F S512x8192 .bf16) : Vec F S512x1024 .bf16 :=
  View.ld x0 (Rect.unit (s := S512x8192) ![0, 3072] S512x1024.size inb_S512x8192_S512x1024_0_3072)
abbrev xCols4 (x0 : Vec F S512x8192 .bf16) : Vec F S512x1024 .bf16 :=
  View.ld x0 (Rect.unit (s := S512x8192) ![0, 4096] S512x1024.size inb_S512x8192_S512x1024_0_4096)
abbrev xCols5 (x0 : Vec F S512x8192 .bf16) : Vec F S512x1024 .bf16 :=
  View.ld x0 (Rect.unit (s := S512x8192) ![0, 5120] S512x1024.size inb_S512x8192_S512x1024_0_5120)
abbrev xCols6 (x0 : Vec F S512x8192 .bf16) : Vec F S512x1024 .bf16 :=
  View.ld x0 (Rect.unit (s := S512x8192) ![0, 6144] S512x1024.size inb_S512x8192_S512x1024_0_6144)
abbrev xCols7 (x0 : Vec F S512x8192 .bf16) : Vec F S512x1024 .bf16 :=
  View.ld x0 (Rect.unit (s := S512x8192) ![0, 7168] S512x1024.size inb_S512x8192_S512x1024_0_7168)

/-- The block of the result. -/
def outV (x0 : Vec F S512x8192 .bf16) (x1 : Vec F S4096x512 .i8) (x2 : Vec F S128x512 .f32) (h : Vec F S512x16 .bf16)
    (x4 : Vec F S16x512 .bf16) : Vec F S512x512 .bf16 :=
  k0_pay2
    (k0_pay426
      (k0_pay422 (k0_pay418 h x4) (Scalar.ofBits .f32 0x40000000#32) (xCols0 x0) (wRows x1 x2 0) (xCols1 x0) (wRows x1 x2 1)
        (xCols2 x0) (wRows x1 x2 2))
      (xCols3 x0) (wRows x1 x2 3) (xCols4 x0) (wRows x1 x2 4) (xCols5 x0) (wRows x1 x2 5))
    (k0_pay428 (xCols6 x0)) (wRows x1 x2 6) (xCols7 x0) (wRows x1 x2 7)

theorem isDup0 : IsDup k0_pay412 0 := by
  intro q l
  have e : (iota .tc S32x128 32 [0] iota_S32x128_d0_w32 (ix2 q l) : BitVec 32) = BitVec.ofNat 32 q.val := by
    rw [iota_single_apply]
  show (BitVec.toNat (IntOp.addi (IntOp.shrui .vector (iota .tc S32x128 32 [0] iota_S32x128_d0_w32 (ix2 q l)) 1#32) 0#32)) = _
  rw [e]
  clear e; revert q
  decide

theorem isDup1 : IsDup k0_pay413 1 := by
  intro q l
  have e : (iota .tc S32x128 32 [0] iota_S32x128_d0_w32 (ix2 q l) : BitVec 32) = BitVec.ofNat 32 q.val := by
    rw [iota_single_apply]
  show (BitVec.toNat (IntOp.addi (IntOp.shrui .vector (iota .tc S32x128 32 [0] iota_S32x128_d0_w32 (ix2 q l)) 1#32) 16#32)) = _
  rw [e]
  clear e; revert q
  decide

/-- A read of a slot whose 1024 rows are all written by pieces that agree. -/
theorem slot_read (arg7 : Memref sig .tc .vmem S2x1024x512 .bf16) (X2 : Vec F S4096x512 .i8) (X3 : Vec F S128x512 .f32) (kc : Fin 8)
    (slot n : ℕ) (hn : n = 16) (inb : ∀ a, ![slot, 0, 0] a + S1x1024x512.size a ≤ S2x1024x512.size a)
    (L : List (View.Piece (Elt F) S2x1024x512 .bf16)) (hL : GoodUpTo L (chunkAt X2 X3 tableV kc) slot n)
    (G : BufTy.Contents (Elt F) arg7.view.ty) :
    View.readAt (Elt F) arg7.view (Rect.unit (s := S2x1024x512) ![slot, 0, 0] S1x1024x512.size inb).toLoadRect
      (arg7.view.writes (Elt F) G L) = wRows X2 X3 kc := by
  subst hn
  funext x
  have h1 : (x 1).val < 1024 := (x 1).isLt
  have h0 : (x 0).val < 1 := (x 0).isLt
  have e0 : ((Rect.unit (s := S2x1024x512) ![slot, 0, 0] S1x1024x512.size inb).idx x 0).val = slot := by
    refine (Rect.idx_unit_val _ _ _ _ _).trans ?_
    show slot + (x 0).val = slot; omega
  have e1 : ((Rect.unit (s := S2x1024x512) ![slot, 0, 0] S1x1024x512.size inb).idx x 1).val = (x 1).val := by
    refine (Rect.idx_unit_val _ _ _ _ _).trans ?_
    show 0 + (x 1).val = (x 1).val; omega
  have e2 : ((Rect.unit (s := S2x1024x512) ![slot, 0, 0] S1x1024x512.size inb).idx x 2).val = (x 2).val := by
    refine (Rect.idx_unit_val _ _ _ _ _).trans ?_
    show 0 + (x 2).val = (x 2).val; omega
  show View.read (Elt F) arg7.view (arg7.view.writes (Elt F) G L) ((Rect.unit (s := S2x1024x512) ![slot, 0, 0] S1x1024x512.size inb).idx x) = _
  rw [View.read_writes_apply_of_pieces arg7.view G (chunkAt X2 X3 tableV kc) L hL.1 _ (hL.2 _ e0 (by rw [e1]; omega))]
  exact chunkAt_at X2 X3 tableV kc _ _ _ (congrArg (1024 * kc.val + ·) e1) e2

theorem read_t1 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v75 : FVec F S512x512 .f32) (cst_22 : F .f32) (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![0, 0, 0] S1x1024x512.size inb_S2x1024x512_S1x1024x512_0_0_0).toLoadRect
      (arg7.view.writes (Elt F) G (pb_k0_t1 (F := F) 𝒱 c bd i arg1 harg1 arg2 harg2 arg3 harg3 arg4 harg4 arg5 harg5 arg6 harg6 arg7 harg7 arg8 harg8 k0_pay412 k0_pay413 tableV v75 cst_22 X_arg2 X_arg3 k0_t1_loop.trips))
      = wRows (View.read (Elt F) arg2.view X_arg2) (View.read (Elt F) arg3.view X_arg3) 0 :=
  slot_read arg7 _ _ 0 0 k0_t1_loop.trips (by decide) inb_S2x1024x512_S1x1024x512_0_0_0 _
    (upTo_t1 (F := F) 𝒱 c bd i arg1 harg1 arg2 harg2 arg3 harg3 arg4 harg4 arg5 harg5 arg6 harg6 arg7 harg7 arg8 harg8 k0_pay412 k0_pay413 tableV v75 cst_22 X_arg2 X_arg3 isDup0 isDup1 _ (le_refl _)) G

theorem read_t1_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v75 : FVec F S512x512 .f32) (cst_22 : F .f32) (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![0, 0, 0] S1x1024x512.size inb_S2x1024x512_S1x1024x512_0_0_0).toLoadRect
      (arg7.view.writes (Elt F) G (pb_k0_t1 (F := F) 𝒱 c bd i arg1 harg1 arg2 harg2 arg3 harg3 arg4 harg4 arg5 harg5 arg6 harg6 arg7 harg7 arg8 harg8 k0_pay412 k0_pay413 tableV v75 cst_22 X_arg2 X_arg3 (Scf.trips k0_t1_loop.lb k0_t1_loop.ub k0_t1_loop.st) ++ L)) = wRows X1 X2 0 := by
  subst h1 h2
  rw [View.writes_append]
  exact read_t1 (F := F) 𝒱 c bd i arg1 harg1 arg2 harg2 arg3 harg3 arg4 harg4 arg5 harg5 arg6 harg6 arg7 harg7 arg8 harg8 v75 cst_22 X_arg2 X_arg3 _

theorem read_t2 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v75 : FVec F S512x512 .f32) (cst_22 : F .f32) (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![1, 0, 0] S1x1024x512.size inb_S2x1024x512_S1x1024x512_1_0_0).toLoadRect
      (arg7.view.writes (Elt F) G (pb_k0_t2 (F := F) 𝒱 c bd i arg1 harg1 arg2 harg2 arg3 harg3 arg4 harg4 arg5 harg5 arg6 harg6 arg7 harg7 arg8 harg8 k0_pay412 k0_pay413 tableV v75 cst_22 X_arg2 X_arg3 k0_t2_loop.trips))
      = wRows (View.read (Elt F) arg2.view X_arg2) (View.read (Elt F) arg3.view X_arg3) 1 :=
  slot_read arg7 _ _ 1 1 k0_t2_loop.trips (by decide) inb_S2x1024x512_S1x1024x512_1_0_0 _
    (upTo_t2 (F := F) 𝒱 c bd i arg1 harg1 arg2 harg2 arg3 harg3 arg4 harg4 arg5 harg5 arg6 harg6 arg7 harg7 arg8 harg8 k0_pay412 k0_pay413 tableV v75 cst_22 X_arg2 X_arg3 isDup0 isDup1 _ (le_refl _)) G

theorem read_t2_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v75 : FVec F S512x512 .f32) (cst_22 : F .f32) (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![1, 0, 0] S1x1024x512.size inb_S2x1024x512_S1x1024x512_1_0_0).toLoadRect
      (arg7.view.writes (Elt F) G (pb_k0_t2 (F := F) 𝒱 c bd i arg1 harg1 arg2 harg2 arg3 harg3 arg4 harg4 arg5 harg5 arg6 harg6 arg7 harg7 arg8 harg8 k0_pay412 k0_pay413 tableV v75 cst_22 X_arg2 X_arg3 (Scf.trips k0_t2_loop.lb k0_t2_loop.ub k0_t2_loop.st) ++ L)) = wRows X1 X2 1 := by
  subst h1 h2
  rw [View.writes_append]
  exact read_t2 (F := F) 𝒱 c bd i arg1 harg1 arg2 harg2 arg3 harg3 arg4 harg4 arg5 harg5 arg6 harg6 arg7 harg7 arg8 harg8 v75 cst_22 X_arg2 X_arg3 _

theorem read_t3 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v75 : FVec F S512x512 .f32) (cst_22 : F .f32) (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![0, 0, 0] S1x1024x512.size inb_S2x1024x512_S1x1024x512_0_0_0).toLoadRect
      (arg7.view.writes (Elt F) G (pb_k0_t3 (F := F) 𝒱 c bd i arg1 harg1 arg2 harg2 arg3 harg3 arg4 harg4 arg5 harg5 arg6 harg6 arg7 harg7 arg8 harg8 k0_pay412 k0_pay413 tableV v75 cst_22 X_arg2 X_arg3 k0_t3_loop.trips))
      = wRows (View.read (Elt F) arg2.view X_arg2) (View.read (Elt F) arg3.view X_arg3) 2 :=
  slot_read arg7 _ _ 2 0 k0_t3_loop.trips (by decide) inb_S2x1024x512_S1x1024x512_0_0_0 _
    (upTo_t3 (F := F) 𝒱 c bd i arg1 harg1 arg2 harg2 arg3 harg3 arg4 harg4 arg5 harg5 arg6 harg6 arg7 harg7 arg8 harg8 k0_pay412 k0_pay413 tableV v75 cst_22 X_arg2 X_arg3 isDup0 isDup1 _ (le_refl _)) G

theorem read_t3_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v75 : FVec F S512x512 .f32) (cst_22 : F .f32) (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![0, 0, 0] S1x1024x512.size inb_S2x1024x512_S1x1024x512_0_0_0).toLoadRect
      (arg7.view.writes (Elt F) G (pb_k0_t3 (F := F) 𝒱 c bd i arg1 harg1 arg2 harg2 arg3 harg3 arg4 harg4 arg5 harg5 arg6 harg6 arg7 harg7 arg8 harg8 k0_pay412 k0_pay413 tableV v75 cst_22 X_arg2 X_arg3 (Scf.trips k0_t3_loop.lb k0_t3_loop.ub k0_t3_loop.st) ++ L)) = wRows X1 X2 2 := by
  subst h1 h2
  rw [View.writes_append]
  exact read_t3 (F := F) 𝒱 c bd i arg1 harg1 arg2 harg2 arg3 harg3 arg4 harg4 arg5 harg5 arg6 harg6 arg7 harg7 arg8 harg8 v75 cst_22 X_arg2 X_arg3 _

theorem read_t4 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![1, 0, 0] S1x1024x512.size inb_S2x1024x512_S1x1024x512_1_0_0).toLoadRect
      (arg7.view.writes (Elt F) G (pb_k0_t4 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 k0_t4_loop.trips))
      = wRows (View.read (Elt F) arg2.view X_arg2) (View.read (Elt F) arg3.view X_arg3) 3 :=
  slot_read arg7 _ _ 3 1 k0_t4_loop.trips (by decide) inb_S2x1024x512_S1x1024x512_1_0_0 _
    (upTo_t4 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 isDup0 isDup1 _ (le_refl _)) G

theorem read_t4_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![1, 0, 0] S1x1024x512.size inb_S2x1024x512_S1x1024x512_1_0_0).toLoadRect
      (arg7.view.writes (Elt F) G (pb_k0_t4 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 (Scf.trips k0_t4_loop.lb k0_t4_loop.ub k0_t4_loop.st) ++ L)) = wRows X1 X2 3 := by
  subst h1 h2
  rw [View.writes_append]
  exact read_t4 (F := F) 𝒱 c bd i arg1 harg1 arg2 harg2 arg3 harg3 arg4 harg4 arg5 harg5 arg6 harg6 arg7 harg7 arg8 harg8 v98 c0_i32_50 c1_i32_52 X_arg2 X_arg3 _

theorem read_t5 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![0, 0, 0] S1x1024x512.size inb_S2x1024x512_S1x1024x512_0_0_0).toLoadRect
      (arg7.view.writes (Elt F) G (pb_k0_t5 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 k0_t5_loop.trips))
      = wRows (View.read (Elt F) arg2.view X_arg2) (View.read (Elt F) arg3.view X_arg3) 4 :=
  slot_read arg7 _ _ 4 0 k0_t5_loop.trips (by decide) inb_S2x1024x512_S1x1024x512_0_0_0 _
    (upTo_t5 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 isDup0 isDup1 _ (le_refl _)) G

theorem read_t5_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![0, 0, 0] S1x1024x512.size inb_S2x1024x512_S1x1024x512_0_0_0).toLoadRect
      (arg7.view.writes (Elt F) G (pb_k0_t5 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 (Scf.trips k0_t5_loop.lb k0_t5_loop.ub k0_t5_loop.st) ++ L)) = wRows X1 X2 4 := by
  subst h1 h2
  rw [View.writes_append]
  exact read_t5 (F := F) 𝒱 c bd i arg1 harg1 arg2 harg2 arg3 harg3 arg4 harg4 arg5 harg5 arg6 harg6 arg7 harg7 arg8 harg8 v98 c0_i32_50 c1_i32_52 X_arg2 X_arg3 _

theorem read_t6 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![1, 0, 0] S1x1024x512.size inb_S2x1024x512_S1x1024x512_1_0_0).toLoadRect
      (arg7.view.writes (Elt F) G (pb_k0_t6 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 k0_t6_loop.trips))
      = wRows (View.read (Elt F) arg2.view X_arg2) (View.read (Elt F) arg3.view X_arg3) 5 :=
  slot_read arg7 _ _ 5 1 k0_t6_loop.trips (by decide) inb_S2x1024x512_S1x1024x512_1_0_0 _
    (upTo_t6 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 isDup0 isDup1 _ (le_refl _)) G

theorem read_t6_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![1, 0, 0] S1x1024x512.size inb_S2x1024x512_S1x1024x512_1_0_0).toLoadRect
      (arg7.view.writes (Elt F) G (pb_k0_t6 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 (Scf.trips k0_t6_loop.lb k0_t6_loop.ub k0_t6_loop.st) ++ L)) = wRows X1 X2 5 := by
  subst h1 h2
  rw [View.writes_append]
  exact read_t6 (F := F) 𝒱 c bd i arg1 harg1 arg2 harg2 arg3 harg3 arg4 harg4 arg5 harg5 arg6 harg6 arg7 harg7 arg8 harg8 v98 c0_i32_50 c1_i32_52 X_arg2 X_arg3 _

theorem read_t7 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![0, 0, 0] S1x1024x512.size inb_S2x1024x512_S1x1024x512_0_0_0).toLoadRect
      (arg7.view.writes (Elt F) G (pb_k0_t7 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 k0_t7_loop.trips))
      = wRows (View.read (Elt F) arg2.view X_arg2) (View.read (Elt F) arg3.view X_arg3) 6 :=
  slot_read arg7 _ _ 6 0 k0_t7_loop.trips (by decide) inb_S2x1024x512_S1x1024x512_0_0_0 _
    (upTo_t7 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 isDup0 isDup1 _ (le_refl _)) G

theorem read_t7_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![0, 0, 0] S1x1024x512.size inb_S2x1024x512_S1x1024x512_0_0_0).toLoadRect
      (arg7.view.writes (Elt F) G (pb_k0_t7 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 (Scf.trips k0_t7_loop.lb k0_t7_loop.ub k0_t7_loop.st) ++ L)) = wRows X1 X2 6 := by
  subst h1 h2
  rw [View.writes_append]
  exact read_t7 (F := F) 𝒱 c bd i arg1 harg1 arg2 harg2 arg3 harg3 arg4 harg4 arg5 harg5 arg6 harg6 arg7 harg7 arg8 harg8 v98 c0_i32_50 c1_i32_52 X_arg2 X_arg3 _

theorem read_t8 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![1, 0, 0] S1x1024x512.size inb_S2x1024x512_S1x1024x512_1_0_0).toLoadRect
      (arg7.view.writes (Elt F) G (pb_k0_t8 (F := F) 𝒱 c bd i arg1 harg1 arg2 harg2 arg3 harg3 arg4 harg4 arg5 harg5 arg6 harg6 arg7 harg7 arg8 harg8 k0_pay412 k0_pay413 tableV X_arg2 X_arg3 k0_t8_loop.trips))
      = wRows (View.read (Elt F) arg2.view X_arg2) (View.read (Elt F) arg3.view X_arg3) 7 :=
  slot_read arg7 _ _ 7 1 k0_t8_loop.trips (by decide) inb_S2x1024x512_S1x1024x512_1_0_0 _
    (upTo_t8 (F := F) 𝒱 c bd i arg1 harg1 arg2 harg2 arg3 harg3 arg4 harg4 arg5 harg5 arg6 harg6 arg7 harg7 arg8 harg8 k0_pay412 k0_pay413 tableV X_arg2 X_arg3 isDup0 isDup1 _ (le_refl _)) G

theorem read_t8_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![1, 0, 0] S1x1024x512.size inb_S2x1024x512_S1x1024x512_1_0_0).toLoadRect
      (arg7.view.writes (Elt F) G (pb_k0_t8 (F := F) 𝒱 c bd i arg1 harg1 arg2 harg2 arg3 harg3 arg4 harg4 arg5 harg5 arg6 harg6 arg7 harg7 arg8 harg8 k0_pay412 k0_pay413 tableV X_arg2 X_arg3 (Scf.trips k0_t8_loop.lb k0_t8_loop.ub k0_t8_loop.st) ++ L)) = wRows X1 X2 7 := by
  subst h1 h2
  rw [View.writes_append]
  exact read_t8 (F := F) 𝒱 c bd i arg1 harg1 arg2 harg2 arg3 harg3 arg4 harg4 arg5 harg5 arg6 harg6 arg7 harg7 arg8 harg8 X_arg2 X_arg3 _

/-- The kernel's accumulation over the chunks, from what each load reads. -/
theorem outV_of {x0 : Vec F S512x8192 .bf16} {x1 : Vec F S4096x512 .i8} {x2 : Vec F S128x512 .f32} {h h' : Vec F S512x16 .bf16}
    {x4 x4' : Vec F S16x512 .bf16} {X0 X1 X2 X3 X4 X5 X6 X7 : Vec F S512x1024 .bf16} {W0 W1 W2 W3 W4 W5 W6 W7 : Vec F S1x1024x512 .bf16}
    (hh : h' = h) (h4 : x4' = x4)
    (eX0 : X0 = xCols0 x0) (eW0 : W0 = wRows x1 x2 0) (eX1 : X1 = xCols1 x0) (eW1 : W1 = wRows x1 x2 1) (eX2 : X2 = xCols2 x0) (eW2 : W2 = wRows x1 x2 2) (eX3 : X3 = xCols3 x0) (eW3 : W3 = wRows x1 x2 3) (eX4 : X4 = xCols4 x0) (eW4 : W4 = wRows x1 x2 4) (eX5 : X5 = xCols5 x0) (eW5 : W5 = wRows x1 x2 5) (eX6 : X6 = xCols6 x0) (eW6 : W6 = wRows x1 x2 6) (eX7 : X7 = xCols7 x0) (eW7 : W7 = wRows x1 x2 7) :
    k0_pay2 (k0_pay426 (k0_pay422 (k0_pay418 h' x4') (Scalar.ofBits .f32 0x40000000#32) X0 W0 X1 W1 X2 W2) X3 W3 X4 W4 X5 W5)
      (k0_pay428 X6) W6 X7 W7 = outV x0 x1 x2 h x4 := by
  subst hh h4 eX0 eW0 eX1 eW1 eX2 eW2 eX3 eW3 eX4 eW4 eX5 eW5 eX6 eW6 eX7 eW7
  rfl

end Cert.Kernel.Hand
-- ==== Proof.K.Cases.lean ====
/- What the two cases of a grid point share: when the low-rank intermediate is computed, and the buffers the body is given. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import proofs.«01_k».proof.Proof.K.Values
public import Idealize.ShloMosaic.Lib.VecWindow
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body computes the low-rank intermediate when this holds. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- Window 0's buffer at point `t`. -/
abbrev ms0_0 (t : Fin cfg0.N) : Memref sig .tc .vmem S512x8192 .bf16 := win0_0.stage (cfg0.slots t 0)
abbrev hs0_0 (t : Fin cfg0.N) : (ms0_0 t).IsWhole := hstage0_0 ((cfg0.slots t 0).cast nbuf0_0)
/-- Window 1's buffer at point `t`. -/
abbrev ms0_1 (t : Fin cfg0.N) : Memref sig .tc .vmem S4096x512 .i8 := win0_1.stage (cfg0.slots t 1)
abbrev hs0_1 (t : Fin cfg0.N) : (ms0_1 t).IsWhole := hstage0_1 ((cfg0.slots t 1).cast nbuf0_1)
/-- Window 2's buffer at point `t`. -/
abbrev ms0_2 (t : Fin cfg0.N) : Memref sig .tc .vmem S128x512 .f32 := win0_2.stage (cfg0.slots t 2)
abbrev hs0_2 (t : Fin cfg0.N) : (ms0_2 t).IsWhole := hstage0_2 ((cfg0.slots t 2).cast nbuf0_2)
/-- Window 3's buffer at point `t`. -/
abbrev ms0_3 (t : Fin cfg0.N) : Memref sig .tc .vmem S8192x16 .bf16 := win0_3.stage (cfg0.slots t 3)
abbrev hs0_3 (t : Fin cfg0.N) : (ms0_3 t).IsWhole := hstage0_3 ((cfg0.slots t 3).cast nbuf0_3)
/-- Window 4's buffer at point `t`. -/
abbrev ms0_4 (t : Fin cfg0.N) : Memref sig .tc .vmem S16x512 .bf16 := win0_4.stage (cfg0.slots t 4)
abbrev hs0_4 (t : Fin cfg0.N) : (ms0_4 t).IsWhole := hstage0_4 ((cfg0.slots t 4).cast nbuf0_4)
/-- Window 5's buffer at point `t`. -/
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
/-- The weight buffer of two slots and the low-rank intermediate's buffer. -/
abbrev scM0_0 : Memref sig .tc .vmem S2x1024x512 .bf16 := Memref.whole cc0_scratch0
abbrev scM0_1 : Memref sig .tc .vmem S512x16 .bf16 := Memref.whole cc0_scratch1

/-- What the region starts with: both buffers at some contents, and the generator's state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.RunA.lean ====
/- The body at the first grid point: it computes the low-rank intermediate and its block of the result. -/
module

public import proofs.«01_k».proof.Proof.K.Cases

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body, from the inputs' blocks to the block of the result. -/
theorem runA (c : Dev nD) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (hc0 : cond0_0 i)
    (x0 : Vec F S512x8192 .bf16) (x1 : Vec F S4096x512 .i8) (x2 : Vec F S128x512 .f32) (x3 : Vec F S8192x16 .bf16) (x4 : Vec F S16x512 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outV x0 x1 x2 (hV x0 x3) x4) ∗ (∃ d, owns (c : Thread nD τ) arg7 fullShare d) ∗ owns (c : Thread nD τ) arg8 fullShare (hV x0 x3)) -∗ K ⟨⟩))
      ⊢ wp frame (wpE (defs₀ (F := F)) Variants.none c none) E (cc0_qlora_nf4 i arg1 harg1 arg2 harg2 arg3 harg3 arg4 harg4 arg5 harg5 arg6 harg6 arg7 harg7 arg8 harg8) K := by
  simp only [cc0_qlora_nf4_eq_skeleton]; unfold cc0_qlora_nf4_skel
  simp only [k0_part81_eq_skeleton, k0_part82_eq_skeleton, k0_part83_eq_skeleton, k0_part84_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_run_names
    refine (View.read_writes_full _ _ _ _ _).trans (outV_of ?_ ?_ ?_ ?_ ?_ ?_ ?_ ?_ ?_ ?_ ?_ ?_ ?_ ?_ ?_ ?_ ?_ ?_)
    · exact (View.readCov_full _ _ _ _ _).trans (congrArg₂ k0_pay417 ((View.readAt_full _ _ _).trans hf0) ((View.readAt_full _ _ _).trans hf3))
    · exact (View.readAt_full _ _ _).trans hf4
    · exact (View.readAt_eq_ld _ _ _).trans (by rw [hf0])
    · exact (congrArg _ (congrArg _ (List.append_nil _).symm)).trans (read_t1_app (F := F) (L := []) (h1 := hf1) (h2 := hf2) ..)
    · exact (View.readAt_eq_ld _ _ _).trans (by rw [hf0])
    · exact read_t2_app (F := F) (h1 := hf1) (h2 := hf2) ..
    · exact (View.readAt_eq_ld _ _ _).trans (by rw [hf0])
    · exact read_t3_app (F := F) (h1 := hf1) (h2 := hf2) ..
    · exact (View.readAt_eq_ld _ _ _).trans (by rw [hf0])
    · exact read_t4_app (F := F) (h1 := hf1) (h2 := hf2) ..
    · exact (View.readAt_eq_ld _ _ _).trans (by rw [hf0])
    · exact read_t5_app (F := F) (h1 := hf1) (h2 := hf2) ..
    · exact (View.readAt_eq_ld _ _ _).trans (by rw [hf0])
    · exact read_t6_app (F := F) (h1 := hf1) (h2 := hf2) ..
    · exact (View.readAt_eq_ld _ _ _).trans (by rw [hf0])
    · exact read_t7_app (F := F) (h1 := hf1) (h2 := hf2) ..
    · exact (View.readAt_eq_ld _ _ _).trans (by rw [hf0])
    · exact read_t8_app (F := F) (h1 := hf1) (h2 := hf2) ..
  isplitl [HS0]
  · iexists _, _; isplitr; swap; · iexact HS0
    ipureintro; rfl
  iexists _; isplitr; swap; · iexact HS1
  ipureintro
  sl_unfold_run_names
  exact (View.read_writes_full _ _ _ _ _).trans (congrArg₂ k0_pay417 ((View.readAt_full _ _ _).trans hf0) ((View.readAt_full _ _ _).trans hf3))

end Cert.Kernel.Hand

end
-- ==== Proof.K.RunB.lean ====
/- The body at a later grid point: it reads the low-rank intermediate it finds and computes its block of the result. -/
module

public import proofs.«01_k».proof.Proof.K.RunA

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body, from the inputs' blocks to the block of the result. -/
theorem runB (c : Dev nD) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (hc0 : ¬ cond0_0 i)
    (x0 : Vec F S512x8192 .bf16) (x1 : Vec F S4096x512 .i8) (x2 : Vec F S128x512 .f32) (x3 : Vec F S8192x16 .bf16) (x4 : Vec F S16x512 .bf16) (xs1 : Vec F S512x16 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outV x0 x1 x2 xs1 x4) ∗ (∃ d, owns (c : Thread nD τ) arg7 fullShare d) ∗ owns (c : Thread nD τ) arg8 fullShare xs1) -∗ K ⟨⟩))
      ⊢ wp frame (wpE (defs₀ (F := F)) Variants.none c none) E (cc0_qlora_nf4 i arg1 harg1 arg2 harg2 arg3 harg3 arg4 harg4 arg5 harg5 arg6 harg6 arg7 harg7 arg8 harg8) K := by
  simp only [cc0_qlora_nf4_eq_skeleton]; unfold cc0_qlora_nf4_skel
  simp only [k0_part81_eq_skeleton, k0_part82_eq_skeleton, k0_part83_eq_skeleton, k0_part84_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hfs1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_run_names
    refine (View.read_writes_full _ _ _ _ _).trans (outV_of ?_ ?_ ?_ ?_ ?_ ?_ ?_ ?_ ?_ ?_ ?_ ?_ ?_ ?_ ?_ ?_ ?_ ?_)
    · exact (View.readAt_full _ _ _).trans hfs1
    · exact (View.readAt_full _ _ _).trans hf4
    · exact (View.readAt_eq_ld _ _ _).trans (by rw [hf0])
    · exact (congrArg _ (congrArg _ (List.append_nil _).symm)).trans (read_t1_app (F := F) (L := []) (h1 := hf1) (h2 := hf2) ..)
    · exact (View.readAt_eq_ld _ _ _).trans (by rw [hf0])
    · exact read_t2_app (F := F) (h1 := hf1) (h2 := hf2) ..
    · exact (View.readAt_eq_ld _ _ _).trans (by rw [hf0])
    · exact read_t3_app (F := F) (h1 := hf1) (h2 := hf2) ..
    · exact (View.readAt_eq_ld _ _ _).trans (by rw [hf0])
    · exact read_t4_app (F := F) (h1 := hf1) (h2 := hf2) ..
    · exact (View.readAt_eq_ld _ _ _).trans (by rw [hf0])
    · exact read_t5_app (F := F) (h1 := hf1) (h2 := hf2) ..
    · exact (View.readAt_eq_ld _ _ _).trans (by rw [hf0])
    · exact read_t6_app (F := F) (h1 := hf1) (h2 := hf2) ..
    · exact (View.readAt_eq_ld _ _ _).trans (by rw [hf0])
    · exact read_t7_app (F := F) (h1 := hf1) (h2 := hf2) ..
    · exact (View.readAt_eq_ld _ _ _).trans (by rw [hf0])
    · exact read_t8_app (F := F) (h1 := hf1) (h2 := hf2) ..
  isplitl [HS0]
  · iexists _, _; isplitr; swap; · iexact HS0
    ipureintro; rfl
  iexists _; isplitr; · ipureintro; exact harg8.read_unread _
  iexact HS1

end Cert.Kernel.Hand

end
-- ==== Proof.K.HandFrame.lean ====
/- The launch: every grid point's body ends with its block of the result in the output window and with the low-rank
   intermediate of the first point in its buffer, so the kernel terminates, leaves its arguments unchanged, and the result's
   array is written block by block. -/
module

public import proofs.«01_k».proof.Proof.K.RunB
public import Idealize.ShloMosaic.Lib.Claim
public import Idealize.ShloMosaic.Lib.Pipeline.Value

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The low-rank intermediate: what the first point computes from `x` and `a`. -/
def hAll (c : Dev nD) : Vec F S512x16 .bf16 :=
  hV (iblk m c 0 (⟨0, lt_of_lt_of_eq (by decide) N_0.symm⟩ : Fin cfg0.N)) (iblk m c 3 (⟨0, lt_of_lt_of_eq (by decide) N_0.symm⟩ : Fin cfg0.N))

/-- What point `t` leaves in the output window. -/
def outAt (c : Dev nD) (t : Fin cfg0.N) : Vec F S512x512 .bf16 :=
  outV (iblk m c 0 t) (iblk m c 1 t) (iblk m c 2 t) (hAll m c) (iblk m c 4 t)

/-- The invariant between the points: after the first the intermediate's buffer holds it. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (hAll m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare (hAll m c)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (hAll m c)) ∗ (∃ r, prngReg c r)) := by
  cases n with
  | zero => exact absurd rfl hz
  | succ n => rfl

/-- The pipeline's data: each input's buffer keeps its block, the output's gets `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 16 := lt_of_lt_of_eq t.isLt (show cfg0.N = 16 from N_0)
  by_cases hz : t.val = 0
  · have e : hAll m c = hV (iblk m c 0 t) (iblk m c 3 t) := by
      obtain ⟨n, hn⟩ := t
      obtain rfl : n = 0 := hz
      rfl
    have h0 : t.val % 16 = 0 := by omega
    rw [PhiS_castSucc m c t, PhiS_zero m c _ _ hz, PhiA0_eq]
    unfold outAt
    rw [e]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ _ _ ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have h0 : ¬ t.val % 16 = 0 := by omega
    rw [PhiS_castSucc m c t, PhiS_pos m c _ _ hz]
    unfold outAt
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ (fun h => h0 ((hcond0_0 t).mp h)) (iblk m c 0 t) (iblk m c 1 t) (iblk m c 2 t) (iblk m c 3 t) (iblk m c 4 t) (hAll m c) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- The launch, every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Hand

end
-- ==== Proof.Tile.lean ====
/- One 16-row tile of dequantised weights, read at an index.

   The kernel gathers packed bytes row by row, splits every byte into its two 4-bit codes on 32-bit words, spreads each
   code over a 16-bit half word, and gathers the scaled 16-entry table by the low byte of that half word. Read at row `i`
   and lane `l` this is the table entry at one nibble of one packed byte, times the scale of the lane. -/
module

public import proofs.«01_k».proof.Proof.Gen.KernelIdeal.Skeleton
public import Idealize.ShloMosaic.Lib.BitcastFour
public import Idealize.ShloMosaic.Lib.BitcastPair
public import Idealize.ShloMosaic.Lib.Pipeline.Value
public import Idealize.ShloMosaic.Lib.ValueIdxCore

@[expose] public section

noncomputable section

namespace Cert.KernelIdeal.Hand

open Idealize.ShloMosaic Idealize.ShloMosaic.TcCoe Cert.KernelIdeal.Gen
open ValueIdx (ix2)

variable {F : FTy → Type} [FloatOps F]

/-- The 4-bit code that weight row `o` takes from its packed byte: the low nibble on even rows, the high one on odd. -/
def nib (b : BitVec 8) (o : ℕ) : BitVec 8 := if o % 2 = 0 then b &&& 15#8 else b >>> 4

theorem nib_lt (b : BitVec 8) (o : ℕ) : (nib b o).toNat < 16 := by
  unfold nib
  split
  · rw [BitVec.toNat_and]; exact lt_of_le_of_lt Nat.and_le_right (by decide)
  · rw [BitVec.toNat_ushiftRight, Nat.shiftRight_eq_div_pow]; have := b.isLt; omega

theorem nib_congr (b : BitVec 8) {o o' : ℕ} (h : o % 2 = o' % 2) : nib b o = nib b o' := by
  unfold nib; rw [h]

/-- An index vector as the gather takes it (through a trailing unit axis and back). -/
def through (v : IVec S32x128 32) : IVec S32x128 32 :=
  shapeCast S32x128 (shapeCast S32x128x1 v shapeCasts_S32x128_S32x128x1) shapeCasts_S32x128x1_S32x128

def through16 (v : IVec S16x128 32) : IVec S16x128 32 :=
  shapeCast S16x128 (shapeCast S16x128x1 v shapeCasts_S16x128_S16x128x1) shapeCasts_S16x128x1_S16x128

theorem through_eq (v : IVec S32x128 32) : through v = v := shapeCast_shapeCast _ _ _
theorem through16_eq (v : IVec S16x128 32) : through16 v = v := shapeCast_shapeCast _ _ _

/-- The 32 rows of codes of half a block, as bytes. -/
def codesVec (vh : IVec S32x128 32) (p : IVec S32x128 8) : IVec S32x128 8 :=
  bitcast S32x128 8
    (ori
      (andi (bitcast S8x128 32 (dynamicGather 0 p (through vh)) bitcasts_S32x128_w8_S8x128_w32) (broadcast S8x128 983055#32))
      (andi (shrsi (bitcast S8x128 32 (dynamicGather 0 p (through vh)) bitcasts_S32x128_w8_S8x128_w32) (broadcast S8x128 4#32))
        (broadcast S8x128 251662080#32)))
    bitcasts_S8x128_w32_S32x128_w8

/-- The 16 rows of table indices of a tile, from the codes of its half block. -/
def idxVec (vq : IVec S32x128 32) (codes : IVec S32x128 8) : IVec S16x128 32 :=
  andi
    (extsi 32
      (bitcast S16x128 16
        (ori (bitcast S8x128 32 (dynamicGather 0 codes (through vq)) bitcasts_S32x128_w8_S8x128_w32)
          (broadcast S8x128 268439552#32))
        bitcasts_S8x128_w32_S16x128_w16)
      natLt_16_32)
    (broadcast S16x128 255#32)

/-- The table with every lane multiplied by its scale. -/
def scaled (t : FVec F S16x128 .bf16) (s : FVec F S1x128 .f32) : FVec F S16x128 .bf16 :=
  mulf t (truncf .bf16
    (broadcastTo S16x128 (shapeCast S1x128 s shapeCasts_S1x128_S1x128) broadcasts_S1x128_S16x128) bitsLt_bf16_f32)

/-- A tile as the kernel stores it. -/
def tile (vh vq : IVec S32x128 32) (p : Vec F S32x128 .i8) (t : FVec F S16x128 .bf16) (s : Vec F S1x128 .f32) :
    FVec F S1x16x128 .bf16 :=
  shapeCast S1x16x128 (dynamicGather 0 (scaled t s) (through16 (idxVec vq (codesVec vh p)))) shapeCasts_S16x128_S1x16x128

/-! ## Bits -/

/-- Eight-bit rows of a 32-bit word vector: bit `i` of row `r` is bit `8 (r % 4) + i` of word row `r / 4`. -/
theorem bytes_getLsbD (x : IVec S8x128 32) (r : Fin 32) (l : Fin 128) (a : Fin 8) (ha : a.val = r.val / 4) (i : ℕ) (hi : i < 8) :
    (bitcast S32x128 8 x bitcasts_S8x128_w32_S32x128_w8 (ix2 r l)).getLsbD i
      = (x (ix2 a l)).getLsbD (8 * (r.val % 4) + i) := by
  rw [bitcast_getLsbD x _ _ i hi (by decide)]
  have hrow : Shape.row S32x128 (ix2 r l) = r.val := rfl
  have e2 : (Shape.row S32x128 (ix2 r l) * 8 + i) % 32 = 8 * (r.val % 4) + i := by rw [hrow]; omega
  rw [e2]
  congr 2
  funext c
  match c with
  | ⟨0, _⟩ =>
    refine Fin.ext ((Shape.Bitcasts.srcIdx_row _ _ _ _ ⟨0, Nat.zero_lt_two⟩ rfl).trans ?_)
    show (Shape.row S32x128 (ix2 r l) * 8 + i) / 32 = a.val
    rw [hrow]; omega
  | ⟨1, _⟩ => exact Fin.ext (Shape.Bitcasts.srcIdx_other _ _ _ _ ⟨1, Nat.one_lt_two⟩ (by show ¬ 1 + 2 = 2; omega))

/-- Sixteen-bit rows of a 32-bit word vector. -/
theorem halves_getLsbD (x : IVec S8x128 32) (r : Fin 16) (l : Fin 128) (a : Fin 8) (ha : a.val = r.val / 2) (i : ℕ) (hi : i < 16) :
    (bitcast S16x128 16 x bitcasts_S8x128_w32_S16x128_w16 (ix2 r l)).getLsbD i
      = (x (ix2 a l)).getLsbD (16 * (r.val % 2) + i) := by
  rw [bitcast_getLsbD x _ _ i hi (by decide)]
  have hrow : Shape.row S16x128 (ix2 r l) = r.val := rfl
  have e2 : (Shape.row S16x128 (ix2 r l) * 16 + i) % 32 = 16 * (r.val % 2) + i := by rw [hrow]; omega
  rw [e2]
  congr 2
  funext c
  match c with
  | ⟨0, _⟩ =>
    refine Fin.ext ((Shape.Bitcasts.srcIdx_row _ _ _ _ ⟨0, Nat.zero_lt_two⟩ rfl).trans ?_)
    show (Shape.row S16x128 (ix2 r l) * 16 + i) / 32 = a.val
    rw [hrow]; omega
  | ⟨1, _⟩ => exact Fin.ext (Shape.Bitcasts.srcIdx_other _ _ _ _ ⟨1, Nat.one_lt_two⟩ (by show ¬ 1 + 2 = 2; omega))

/-- A row gather read at an index. -/
theorem gather32_apply {α : Type} (x : S32x128.Idx → α) (v : IVec S32x128 32) (r : Fin 32) (l : Fin 128) (r' : Fin 32)
    (h : (v (ix2 r l)).toNat % 32 = r'.val) : dynamicGather 0 x v (ix2 r l) = x (ix2 r' l) := by
  unfold dynamicGather
  congr 1
  funext b
  match b with
  | ⟨0, _⟩ => exact Fin.ext h
  | ⟨1, _⟩ => rfl

theorem gather16_apply {α : Type} (x : S16x128.Idx → α) (v : IVec S16x128 32) (r : Fin 16) (l : Fin 128) (r' : Fin 16)
    (h : (v (ix2 r l)).toNat % 16 = r'.val) : dynamicGather 0 x v (ix2 r l) = x (ix2 r' l) := by
  unfold dynamicGather
  congr 1
  funext b
  match b with
  | ⟨0, _⟩ => exact Fin.ext h
  | ⟨1, _⟩ => rfl

/-- The bit of a word that the split leaves in byte `k` at place `i`. -/
theorem split_bit (w : BitVec 32) (k i : ℕ) (hk : k < 4) (hi : i < 8) :
    (IntOp.ori (IntOp.andi w 983055#32) (IntOp.andi (IntOp.shrsi .vector w 4#32) 251662080#32)).getLsbD (8 * k + i)
      = if i < 4 then w.getLsbD (8 * k + (if k % 2 = 0 then i else i + 4)) else false := by
  have hs : IntOp.shrsi .vector w 4#32 = w.sshiftRight' 4#32 := rfl
  rw [hs]
  unfold IntOp.ori IntOp.andi
  rw [BitVec.getLsbD_or, BitVec.getLsbD_and, BitVec.getLsbD_and, show w.sshiftRight' 4#32 = w.sshiftRight 4 from rfl, BitVec.getLsbD_sshiftRight]
  interval_cases k <;> interval_cases i <;> simp

/-- The codes read at a row: a nibble of the packed byte that the row gathers. -/
theorem codesVec_apply (vh : IVec S32x128 32) (p : IVec S32x128 8) (r : Fin 32) (l : Fin 128) (r' : Fin 32)
    (h : ∀ k : Fin 4, ∀ q : Fin 32, q.val = 4 * (r.val / 4) + k.val → q = r → (vh (ix2 q l)).toNat % 32 = r'.val) :
    codesVec vh p (ix2 r l) = nib (p (ix2 r' l)) r.val := by
  have hr := r.isLt
  apply BitVec.eq_of_getLsbD_eq
  intro i hi
  unfold codesVec
  rw [bytes_getLsbD _ r l ⟨r.val / 4, by omega⟩ rfl i hi]
  rw [show (ori
      (andi (bitcast S8x128 32 (dynamicGather 0 p (through vh)) bitcasts_S32x128_w8_S8x128_w32) (broadcast S8x128 983055#32))
      (andi (shrsi (bitcast S8x128 32 (dynamicGather 0 p (through vh)) bitcasts_S32x128_w8_S8x128_w32) (broadcast S8x128 4#32))
        (broadcast S8x128 251662080#32))) (ix2 (⟨r.val / 4, by omega⟩ : Fin 8) l)
    = IntOp.ori (IntOp.andi (bitcast S8x128 32 (dynamicGather 0 p (through vh)) bitcasts_S32x128_w8_S8x128_w32 (ix2 (⟨r.val / 4, by omega⟩ : Fin 8) l)) 983055#32)
        (IntOp.andi (IntOp.shrsi .vector (bitcast S8x128 32 (dynamicGather 0 p (through vh)) bitcasts_S32x128_w8_S8x128_w32 (ix2 (⟨r.val / 4, by omega⟩ : Fin 8) l)) 4#32) 251662080#32) from rfl]
  rw [split_bit _ _ _ (by omega) hi]
  have hg : dynamicGather 0 p (through vh) (ix2 r l) = p (ix2 r' l) := by
    rw [through_eq]
    exact gather32_apply p vh r l r' (h ⟨r.val % 4, by omega⟩ r (by show r.val = 4 * (r.val / 4) + r.val % 4; omega) rfl)
  have hbit : ∀ j, j < 8 → (bitcast S8x128 32 (dynamicGather 0 p (through vh)) bitcasts_S32x128_w8_S8x128_w32
      (ix2 (⟨r.val / 4, by omega⟩ : Fin 8) l)).getLsbD (8 * (r.val % 4) + j) = (p (ix2 r' l)).getLsbD j := by
    intro j hj
    refine (bitcast_8_32_getLsbD_ix2 (dynamicGather 0 p (through vh)) bitcasts_S32x128_w8_S8x128_w32 ⟨r.val / 4, by omega⟩ l
      (8 * (r.val % 4) + j) (by omega) r (by show r.val = 4 * (r.val / 4) + (8 * (r.val % 4) + j) / 8; omega)).trans ?_
    rw [hg]; congr 1; omega
  unfold nib
  by_cases h4 : i < 4
  · rw [if_pos h4]
    have e : r.val % 4 % 2 = r.val % 2 := by omega
    rw [e]
    by_cases h2 : r.val % 2 = 0
    · rw [if_pos h2, if_pos h2, hbit i hi, BitVec.getLsbD_and]
      have : (15#8 : BitVec 8).getLsbD i = true := by interval_cases i <;> rfl
      rw [this, Bool.and_true]
    · rw [if_neg h2, if_neg h2, hbit (i + 4) (by omega), BitVec.getLsbD_ushiftRight, Nat.add_comm]
  · rw [if_neg h4]
    by_cases h2 : r.val % 2 = 0
    · rw [if_pos h2, BitVec.getLsbD_and]
      have : (15#8 : BitVec 8).getLsbD i = false := by interval_cases i <;> first | rfl | omega
      rw [this, Bool.and_false]
    · rw [if_neg h2, BitVec.getLsbD_ushiftRight]
      exact (BitVec.getLsbD_of_ge _ _ (by omega)).symm

/-- The table index of a tile's row: the code that byte `2 i` gathers. -/
theorem idxVec_apply (vq : IVec S32x128 32) (codes : IVec S32x128 8) (i : Fin 16) (l : Fin 128) (r : Fin 32)
    (h : ∀ q : Fin 32, q.val = 2 * i.val → (vq (ix2 q l)).toNat % 32 = r.val) :
    idxVec vq codes (ix2 i l) = (codes (ix2 r l)).setWidth 32 := by
  have hi' := i.isLt
  have hg : dynamicGather 0 codes (through vq) (ix2 (⟨2 * i.val, by omega⟩ : Fin 32) l) = codes (ix2 r l) := by
    rw [through_eq]
    exact gather32_apply codes vq _ l r (h _ rfl)
  apply BitVec.eq_of_getLsbD_eq
  intro j hj
  have h255 : (255#32 : BitVec 32).getLsbD j = decide (j < 8) := by
    have : j < 32 := hj
    interval_cases j <;> rfl
  rw [BitVec.getLsbD_setWidth]
  show (((bitcast S16x128 16 (ori (bitcast S8x128 32 (dynamicGather 0 codes (through vq)) bitcasts_S32x128_w8_S8x128_w32)
          (broadcast S8x128 268439552#32)) bitcasts_S8x128_w32_S16x128_w16 (ix2 i l)).signExtend 32) &&& 255#32).getLsbD j = _
  rw [BitVec.getLsbD_and, h255]
  have h32 : decide (j < 32) = true := decide_eq_true hj
  by_cases h8 : j < 8
  · rw [BitVec.getLsbD_signExtend, if_pos (by omega : j < 16), h32, Bool.true_and, Bool.true_and]
    rw [halves_getLsbD _ i l ⟨i.val / 2, by omega⟩ rfl j (by omega)]
    show ((bitcast S8x128 32 (dynamicGather 0 codes (through vq)) bitcasts_S32x128_w8_S8x128_w32
      (ix2 (⟨i.val / 2, by omega⟩ : Fin 8) l) ||| 268439552#32).getLsbD (16 * (i.val % 2) + j) && decide (j < 8)) = _
    rw [BitVec.getLsbD_or]
    have hz : (268439552#32 : BitVec 32).getLsbD (16 * (i.val % 2) + j) = false := by
      have : i.val % 2 = 0 ∨ i.val % 2 = 1 := by omega
      rcases this with h | h <;> rw [h] <;> interval_cases j <;> rfl
    rw [hz, Bool.or_false]
    rw [decide_eq_true h8, Bool.and_true]
    refine (bitcast_8_32_getLsbD_ix2 (dynamicGather 0 codes (through vq)) bitcasts_S32x128_w8_S8x128_w32 ⟨i.val / 2, by omega⟩ l
      (16 * (i.val % 2) + j) (by omega)
      ⟨2 * i.val, by omega⟩ (by show 2 * i.val = 4 * (i.val / 2) + (16 * (i.val % 2) + j) / 8; omega)).trans ?_
    rw [hg]
    have : (16 * (i.val % 2) + j) % 8 = j := by omega
    rw [this]
  · rw [show decide (j < 8) = false from decide_eq_false h8, Bool.and_false, BitVec.getLsbD_of_ge _ j (by omega), Bool.and_false]

/-- A TILE READ AT AN INDEX: the table entry at the nibble of the packed byte, times the lane's scale. -/
theorem tile_apply (vh vq : IVec S32x128 32) (p : Vec F S32x128 .i8) (t : FVec F S16x128 .bf16) (s : Vec F S1x128 .f32)
    (z : Fin 1) (i : Fin 16) (l : Fin 128) (r r' : Fin 32)
    (hq : ∀ q : Fin 32, q.val = 2 * i.val → (vq (ix2 q l)).toNat % 32 = r.val)
    (hh : (vh (ix2 r l)).toNat % 32 = r'.val) :
    tile vh vq p t s (ValueIdx.ix3 z i l)
      = FloatOps.mulf (t (ix2 ⟨(nib (p (ix2 r' l)) r.val).toNat, nib_lt _ _⟩ l))
          (FloatOps.truncf .bf16 bitsLt_bf16_f32 (s (ix2 (0 : Fin 1) l))) := by
  unfold tile
  refine (shapeCast_addUnit_apply ![16, 128] _ _ _).trans ?_
  have e : (fun a : Fin 2 => (ValueIdx.ix3 z i l : S1x16x128.Idx) a.succ) = (ix2 i l : S16x128.Idx) := by
    funext a; match a with
    | ⟨0, _⟩ => rfl
    | ⟨1, _⟩ => rfl
  refine (congrArg _ e).trans ?_
  have hc := codesVec_apply vh p r l r' (fun _ q _ hq' => by rw [hq']; exact hh)
  rw [gather16_apply (scaled t s) _ i l ⟨(nib (p (ix2 r' l)) r.val).toNat, nib_lt _ _⟩ (by
    rw [through16_eq, idxVec_apply vq _ i l r hq, hc]
    show (BitVec.setWidth 32 (nib (p (ix2 r' l)) r.val)).toNat % 16 = (nib (p (ix2 r' l)) r.val).toNat
    have := nib_lt (p (ix2 r' l)) r.val
    rw [BitVec.toNat_setWidth]; omega)]
  unfold scaled
  rw [shapeCast_self]
  show FloatOps.mulf _ (FloatOps.truncf .bf16 bitsLt_bf16_f32 (broadcastTo S16x128 s broadcasts_S1x128_S16x128 (ix2 _ l))) = _
  rw [broadcastTo_apply s broadcasts_S1x128_S16x128 _ (ix2 (0 : Fin 1) l) (by
    intro a
    match a with
    | ⟨0, _⟩ => rfl
    | ⟨1, _⟩ => rfl)]

end Cert.KernelIdeal.Hand
-- ==== Proof.Block.lean ====
/- The 16 tiles of one 64-row block of weights.

   Every trip of a dequantising loop writes 64 rows of one slot of the weight buffer as 16 tiles (4 groups of 128 lanes,
   4 tiles of 16 rows). Here: every element of such a tile is the dequantised weight of its row and column, and the 16
   tiles cover the 64 rows. -/
module

public import proofs.«01_k».proof.Proof.Tile
public import Idealize.ShloMosaic.Lib.Writes
public import Idealize.ShloMosaic.Lib.Pipeline.Kit
public import Idealize.ShloMosaic.Lib.Pipeline.ValueKit.Tiles

@[expose] public section

noncomputable section

namespace Cert.KernelIdeal.Hand

open Idealize.ShloMosaic Idealize.ShloMosaic.TcCoe Cert.KernelIdeal.Gen
open ValueIdx (ix2 ix3)

variable {F : FTy → Type} [FloatOps F]

/-- The dequantised weight of row `K` and column `n`, from the packed bytes, the scales and the table. -/
def wAt (X2 : Vec F S4096x512 .i8) (X3 : Vec F S128x512 .f32) (tbl : FVec F S16x128 .bf16) (K : Fin 8192) (n : Fin 512) : F .bf16 :=
  FloatOps.mulf
    (tbl (ix2 ⟨(nib (X2 (ix2 (⟨K.val / 2, by omega⟩ : Fin 4096) n)) K.val).toNat, nib_lt _ _⟩ (⟨n.val % 128, by omega⟩ : Fin 128)))
    (FloatOps.truncf .bf16 bitsLt_bf16_f32 (X3 (ix2 (⟨K.val / 64, by omega⟩ : Fin 128) n)))

/-- What the weight buffer holds, at any slot, after the rows of chunk `kc` are written. -/
def chunkAt (X2 : Vec F S4096x512 .i8) (X3 : Vec F S128x512 .f32) (tbl : FVec F S16x128 .bf16) (kc : Fin 8)
    (y : S2x1024x512.Idx) : F .bf16 :=
  wAt X2 X3 tbl ⟨1024 * kc.val + (y 1).val, by have : (y 1).val < 1024 := (y 1).isLt; omega⟩ (y 2)

/-- A gather's row index: row `q` takes row `q / 2 + 16 h`. -/
def IsDup (v : IVec S32x128 32) (h : ℕ) : Prop := ∀ (q : Fin 32) (l : Fin 128), (v (ix2 q l)).toNat = q.val / 2 + 16 * h

theorem chunkAt_at (X2 : Vec F S4096x512 .i8) (X3 : Vec F S128x512 .f32) (tbl : FVec F S16x128 .bf16) (kc : Fin 8)
    (y : S2x1024x512.Idx) (K : Fin 8192) (n : Fin 512) (hK : 1024 * kc.val + (y 1).val = K.val) (hn : (y 2).val = n.val) :
    chunkAt X2 X3 tbl kc y = wAt X2 X3 tbl K n := by
  unfold chunkAt
  rw [show (⟨1024 * kc.val + (y 1).val, by have : (y 1).val < 1024 := (y 1).isLt; omega⟩ : Fin 8192) = K from Fin.ext hK,
    show y 2 = n from Fin.ext hn]

theorem piece_agrees (arg2 : Memref sig .tc .vmem S4096x512 .i8) (arg3 : Memref sig .tc .vmem S128x512 .f32)
    (X2 : BufTy.Contents (Elt F) arg2.view.ty) (X3 : BufTy.Contents (Elt F) arg3.view.ty)
    (tbl : FVec F S16x128 .bf16) (vh vq : IVec S32x128 32) (h q : ℕ) (hh : h < 2) (hq : q < 2) (hvh : IsDup vh h) (hvq : IsDup vq q)
    (kc : Fin 8) (slot k l : ℕ) (hk : k < 16) (hl : l < 4)
    (off : Fin 3 → ℕ) (inb : ∀ a, off a + ![1, 16, 128] a ≤ S2x1024x512.size a)
    (hoff : off = ![slot, 64 * k + 16 * (2 * h + q), 128 * l])
    (off2 : Fin 2 → ℕ) (inb2 : ∀ a, off2 a + S32x128.size a ≤ S4096x512.size a) (hoff2 : off2 = ![32 * k + 512 * kc.val, 128 * l])
    (off3 : Fin 2 → ℕ) (inb3 : ∀ a, off3 a + S1x128.size a ≤ S128x512.size a) (hoff3 : off3 = ![k + 16 * kc.val, 128 * l])
    (x : S1x16x128.Idx) :
    tile vh vq (View.readAt (Elt F) arg2.view (Rect.unit (s := S4096x512) off2 S32x128.size inb2).toLoadRect X2) tbl
        (View.readAt (Elt F) arg3.view (Rect.unit (s := S128x512) off3 S1x128.size inb3).toLoadRect X3) x
      = chunkAt (View.read (Elt F) arg2.view X2) (View.read (Elt F) arg3.view X3) tbl kc
          ((Rect.unit (s := S2x1024x512) off ![1, 16, 128] inb).emb x) := by
  subst hoff hoff2 hoff3
  have hkc := kc.isLt
  obtain ⟨z, i, c, rfl⟩ : ∃ (z : Fin 1) (i : Fin 16) (c : Fin 128), x = ix3 z i c := ⟨x 0, x 1, x 2, ValueIdx.eq_ix3 x⟩
  have hi := i.isLt
  have hc := c.isLt
  rw [tile_apply vh vq _ tbl _ z i c ⟨16 * q + i.val, by omega⟩ ⟨16 * h + 8 * q + i.val / 2, by omega⟩
    (fun p hp => by rw [hvq p c, hp]; show (2 * i.val / 2 + 16 * q) % 32 = 16 * q + i.val; omega)
    (by rw [hvh _ c]; show ((16 * q + i.val) / 2 + 16 * h) % 32 = 16 * h + 8 * q + i.val / 2; omega)]
  have e1 : ((Rect.unit (s := S2x1024x512) ![slot, 64 * k + 16 * (2 * h + q), 128 * l] ![1, 16, 128] inb).emb (ix3 z i c) 1).val
      = 64 * k + 16 * (2 * h + q) + i.val := by
    refine (Rect.idx_unit_val _ _ _ _ _).trans ?_
    rfl
  have e2 : ((Rect.unit (s := S2x1024x512) ![slot, 64 * k + 16 * (2 * h + q), 128 * l] ![1, 16, 128] inb).emb (ix3 z i c) 2).val
      = 128 * l + c.val := by
    refine (Rect.idx_unit_val _ _ _ _ _).trans ?_
    rfl
  have hp : View.readAt (Elt F) arg2.view (Rect.unit (s := S4096x512) ![32 * k + 512 * kc.val, 128 * l] S32x128.size inb2).toLoadRect X2
      (ix2 (⟨16 * h + 8 * q + i.val / 2, by omega⟩ : Fin 32) c)
      = View.read (Elt F) arg2.view X2 (ix2 (⟨(1024 * kc.val + (64 * k + 16 * (2 * h + q) + i.val)) / 2, by omega⟩ : Fin 4096)
          (⟨128 * l + c.val, by omega⟩ : Fin 512)) := by
    show View.read (Elt F) arg2.view X2 _ = _
    congr 1
    funext a
    match a with
    | ⟨0, _⟩ =>
      refine Fin.ext ((Rect.idx_unit_val _ _ _ _ _).trans ?_)
      show 32 * k + 512 * kc.val + (16 * h + 8 * q + i.val / 2) = (1024 * kc.val + (64 * k + 16 * (2 * h + q) + i.val)) / 2
      omega
    | ⟨1, _⟩ => exact Fin.ext (Rect.idx_unit_val _ _ _ _ _)
  have hs : View.readAt (Elt F) arg3.view (Rect.unit (s := S128x512) ![k + 16 * kc.val, 128 * l] S1x128.size inb3).toLoadRect X3
      (ix2 (0 : Fin 1) c)
      = View.read (Elt F) arg3.view X3 (ix2 (⟨(1024 * kc.val + (64 * k + 16 * (2 * h + q) + i.val)) / 64, by omega⟩ : Fin 128)
          (⟨128 * l + c.val, by omega⟩ : Fin 512)) := by
    show View.read (Elt F) arg3.view X3 _ = _
    congr 1
    funext a
    match a with
    | ⟨0, _⟩ =>
      refine Fin.ext ((Rect.idx_unit_val _ _ _ _ _).trans ?_)
      show k + 16 * kc.val + 0 = (1024 * kc.val + (64 * k + 16 * (2 * h + q) + i.val)) / 64
      omega
    | ⟨1, _⟩ => exact Fin.ext (Rect.idx_unit_val _ _ _ _ _)
  rw [hp, hs]
  refine Eq.trans ?_ (chunkAt_at _ _ tbl kc _ ⟨1024 * kc.val + (64 * k + 16 * (2 * h + q) + i.val), by omega⟩ ⟨128 * l + c.val, by omega⟩
    (congrArg (1024 * kc.val + ·) e1) e2).symm
  unfold wAt
  congr 2
  funext a
  match a with
  | ⟨0, _⟩ =>
    refine Fin.ext ?_
    exact congrArg BitVec.toNat (nib_congr _ (by show (16 * q + i.val) % 2 = (1024 * kc.val + (64 * k + 16 * (2 * h + q) + i.val)) % 2; omega))
  | ⟨1, _⟩ => exact Fin.ext (by show c.val = (128 * l + c.val) % 128; omega)

/-- What a trip's tiles are to be: each agrees with `G`, and they cover 64 rows of the slot. -/
def Good (L : List (View.Piece (Elt F) S2x1024x512 .bf16)) (G : S2x1024x512.Idx → F .bf16) (slot k : ℕ) : Prop :=
  (∀ p ∈ L, ∀ x : p.1.shape.Idx, p.2 x = G (p.1.emb x)) ∧
    ∀ y : S2x1024x512.Idx, (y 0).val = slot → 64 * k ≤ (y 1).val → (y 1).val < 64 * k + 64 → ∃ p ∈ L, y ∈ p.1.set

theorem good16 (arg2 : Memref sig .tc .vmem S4096x512 .i8) (arg3 : Memref sig .tc .vmem S128x512 .f32)
    (X2 : BufTy.Contents (Elt F) arg2.view.ty) (X3 : BufTy.Contents (Elt F) arg3.view.ty)
    (tbl : FVec F S16x128 .bf16) (v4 v6 : IVec S32x128 32) (h4 : IsDup v4 0) (h6 : IsDup v6 1)
    (kc : Fin 8) (slot k : ℕ) (hk : k < 16)
    (off : Fin 4 → Fin 4 → Fin 3 → ℕ) (inb : ∀ l t a, off l t a + ![1, 16, 128] a ≤ S2x1024x512.size a)
    (hoff : ∀ l t, off l t = ![slot, 64 * k + 16 * t.val, 128 * l.val])
    (off2 : Fin 4 → Fin 2 → ℕ) (inb2 : ∀ l a, off2 l a + S32x128.size a ≤ S4096x512.size a)
    (hoff2 : ∀ l, off2 l = ![32 * k + 512 * kc.val, 128 * l.val])
    (off3 : Fin 4 → Fin 2 → ℕ) (inb3 : ∀ l a, off3 l a + S1x128.size a ≤ S128x512.size a)
    (hoff3 : ∀ l, off3 l = ![k + 16 * kc.val, 128 * l.val])
    (L : List (View.Piece (Elt F) S2x1024x512 .bf16))
    (hL : L = (([3, 2, 1, 0] : List (Fin 4)).flatMap fun l =>
      [⟨Rect.unit (s := S2x1024x512) (off l 3) ![1, 16, 128] (inb l 3),
          tile v6 v6 (View.readAt (Elt F) arg2.view (Rect.unit (s := S4096x512) (off2 l) S32x128.size (inb2 l)).toLoadRect X2) tbl
            (View.readAt (Elt F) arg3.view (Rect.unit (s := S128x512) (off3 l) S1x128.size (inb3 l)).toLoadRect X3)⟩,
       ⟨Rect.unit (s := S2x1024x512) (off l 2) ![1, 16, 128] (inb l 2),
          tile v6 v4 (View.readAt (Elt F) arg2.view (Rect.unit (s := S4096x512) (off2 l) S32x128.size (inb2 l)).toLoadRect X2) tbl
            (View.readAt (Elt F) arg3.view (Rect.unit (s := S128x512) (off3 l) S1x128.size (inb3 l)).toLoadRect X3)⟩,
       ⟨Rect.unit (s := S2x1024x512) (off l 1) ![1, 16, 128] (inb l 1),
          tile v4 v6 (View.readAt (Elt F) arg2.view (Rect.unit (s := S4096x512) (off2 l) S32x128.size (inb2 l)).toLoadRect X2) tbl
            (View.readAt (Elt F) arg3.view (Rect.unit (s := S128x512) (off3 l) S1x128.size (inb3 l)).toLoadRect X3)⟩,
       ⟨Rect.unit (s := S2x1024x512) (off l 0) ![1, 16, 128] (inb l 0),
          tile v4 v4 (View.readAt (Elt F) arg2.view (Rect.unit (s := S4096x512) (off2 l) S32x128.size (inb2 l)).toLoadRect X2) tbl
            (View.readAt (Elt F) arg3.view (Rect.unit (s := S128x512) (off3 l) S1x128.size (inb3 l)).toLoadRect X3)⟩])) :
    Good L (chunkAt (View.read (Elt F) arg2.view X2) (View.read (Elt F) arg3.view X3) tbl kc) slot k := by
  subst hL
  constructor
  · intro p hp
    obtain ⟨l, -, hp⟩ := List.mem_flatMap.1 hp
    simp only [List.mem_cons, List.not_mem_nil, or_false] at hp
    rcases hp with rfl | rfl | rfl | rfl
    · exact piece_agrees arg2 arg3 X2 X3 tbl v6 v6 1 1 (by omega) (by omega) h6 h6 kc slot k l.val hk l.isLt _ (inb l 3) (hoff l 3) _ (inb2 l) (hoff2 l) _ (inb3 l) (hoff3 l)
    · exact piece_agrees arg2 arg3 X2 X3 tbl v6 v4 1 0 (by omega) (by omega) h6 h4 kc slot k l.val hk l.isLt _ (inb l 2) (hoff l 2) _ (inb2 l) (hoff2 l) _ (inb3 l) (hoff3 l)
    · exact piece_agrees arg2 arg3 X2 X3 tbl v4 v6 0 1 (by omega) (by omega) h4 h6 kc slot k l.val hk l.isLt _ (inb l 1) (hoff l 1) _ (inb2 l) (hoff2 l) _ (inb3 l) (hoff3 l)
    · exact piece_agrees arg2 arg3 X2 X3 tbl v4 v4 0 0 (by omega) (by omega) h4 h4 kc slot k l.val hk l.isLt _ (inb l 0) (hoff l 0) _ (inb2 l) (hoff2 l) _ (inb3 l) (hoff3 l)
  · intro y h0 h1 h1'
    have h2 : (y 2).val < 512 := (y 2).isLt
    have mem : ∀ (l t : Fin 4), l.val = (y 2).val / 128 → t.val = ((y 1).val - 64 * k) / 16 →
        y ∈ (Rect.unit (s := S2x1024x512) (off l t) ![1, 16, 128] (inb l t)).set := by
      intro l t hl ht
      rw [Rect.mem_set_unit]
      intro a
      rw [hoff l t]
      match a with
      | ⟨0, _⟩ => exact ⟨le_of_eq h0.symm, by show (y 0).val < slot + 1; omega⟩
      | ⟨1, _⟩ => exact ⟨by show 64 * k + 16 * t.val ≤ (y 1).val; omega, by show (y 1).val < 64 * k + 16 * t.val + 16; omega⟩
      | ⟨2, _⟩ => exact ⟨by show 128 * l.val ≤ (y 2).val; omega, by show (y 2).val < 128 * l.val + 128; omega⟩
    have hl : ∀ l : Fin 4, l ∈ ([3, 2, 1, 0] : List (Fin 4)) := by decide
    obtain ⟨l, hle⟩ : ∃ l : Fin 4, l.val = (y 2).val / 128 := ⟨⟨(y 2).val / 128, by omega⟩, rfl⟩
    obtain ⟨t, hte⟩ : ∃ t : Fin 4, t.val = ((y 1).val - 64 * k) / 16 := ⟨⟨((y 1).val - 64 * k) / 16, by omega⟩, rfl⟩
    have m := mem l t hle hte
    match t, m with
    | ⟨3, _⟩, m => exact ⟨_, List.mem_flatMap.2 ⟨l, hl l, List.mem_cons_self⟩, m⟩
    | ⟨2, _⟩, m => exact ⟨_, List.mem_flatMap.2 ⟨l, hl l, List.mem_cons_of_mem _ List.mem_cons_self⟩, m⟩
    | ⟨1, _⟩, m => exact ⟨_, List.mem_flatMap.2 ⟨l, hl l, List.mem_cons_of_mem _ (List.mem_cons_of_mem _ List.mem_cons_self)⟩, m⟩
    | ⟨0, _⟩, m =>
      exact ⟨_, List.mem_flatMap.2 ⟨l, hl l, List.mem_cons_of_mem _ (List.mem_cons_of_mem _ (List.mem_cons_of_mem _ List.mem_cons_self))⟩, m⟩

/-- The tiles of the trips before `k`: every one agrees, and rows below `64 k` of the slot are covered. -/
def GoodUpTo (L : List (View.Piece (Elt F) S2x1024x512 .bf16)) (G : S2x1024x512.Idx → F .bf16) (slot k : ℕ) : Prop :=
  (∀ p ∈ L, ∀ x : p.1.shape.Idx, p.2 x = G (p.1.emb x)) ∧
    ∀ y : S2x1024x512.Idx, (y 0).val = slot → (y 1).val < 64 * k → ∃ p ∈ L, y ∈ p.1.set

theorem goodUpTo_nil (G : S2x1024x512.Idx → F .bf16) (slot : ℕ) : GoodUpTo (F := F) [] G slot 0 :=
  ⟨fun _ hp => absurd hp List.not_mem_nil, fun _ _ h => absurd h (by omega)⟩

theorem goodUpTo_succ {L L' : List (View.Piece (Elt F) S2x1024x512 .bf16)} {G : S2x1024x512.Idx → F .bf16} {slot k : ℕ}
    (h : Good L G slot k) (h' : GoodUpTo L' G slot k) : GoodUpTo (L ++ L') G slot (k + 1) := by
  refine ⟨fun p hp => (List.mem_append.1 hp).elim (h.1 p) (h'.1 p), fun y h0 h1 => ?_⟩
  by_cases hlt : (y 1).val < 64 * k
  · obtain ⟨p, hp, hy⟩ := h'.2 y h0 hlt
    exact ⟨p, List.mem_append_right _ hp, hy⟩
  · obtain ⟨p, hp, hy⟩ := h.2 y h0 (by omega) (by omega)
    exact ⟨p, List.mem_append_left _ hp, hy⟩

end Cert.KernelIdeal.Hand
-- ==== Proof.Chunk1.lean ====
/- The dequantising loops, chunk by chunk: what the tiles written by the trips of a loop hold. -/
module

public import proofs.«01_k».proof.Proof.Gen.KernelIdeal.Loops
public import proofs.«01_k».proof.Proof.Block

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open Idealize.SL.Sem Cert.KernelIdeal.Gen

variable {F : FTy → Type} [FloatOps F]

/-! ## Chunk 0 -/

theorem good_t1 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v75 : FVec F S512x512 .f32) (cst_22 : F .f32) (X_arg2 : BufTy.Contents (Elt F) arg2.view.ty) (X_arg3 : BufTy.Contents (Elt F) arg3.view.ty) (k : Fin k0_t1_loop.trips) (h4 : IsDup v4 0) (h6 : IsDup v6 1) :
    Good (tripL_k0_t1 (F := F) 𝒱 c bd i arg1 harg1 arg2 harg2 arg3 harg3 arg4 harg4 arg5 harg5 arg6 harg6 arg7 harg7 arg8 harg8 v4 v6 v69 v75 cst_22 X_arg2 X_arg3 k)
      (chunkAt (View.read (Elt F) arg2.view X_arg2) (View.read (Elt F) arg3.view X_arg3) v69 0) 0 k.val := by
  have hk : k.val < 16 := Nat.lt_of_lt_of_le k.isLt k0_t1_abs.2.1
  refine good16 arg2 arg3 X_arg2 X_arg3 v69 v4 v6 h4 h6 0 0 k.val hk
    (fun l t => match l with | ⟨0, _⟩ => k0_off3 k (BitVec.ofNat 32 (16 * t.val)) | ⟨1, _⟩ => k0_off6 k (BitVec.ofNat 32 (16 * t.val)) | ⟨2, _⟩ => k0_off9 k (BitVec.ofNat 32 (16 * t.val)) | ⟨3, _⟩ => k0_off12 k (BitVec.ofNat 32 (16 * t.val)))
    (fun l t => match l with | ⟨0, _⟩ => k0_off3_inb k t | ⟨1, _⟩ => k0_off6_inb k t | ⟨2, _⟩ => k0_off9_inb k t | ⟨3, _⟩ => k0_off12_inb k t)
    (fun l t => match l with | ⟨0, _⟩ => k0_off3_eq k t | ⟨1, _⟩ => k0_off6_eq k t | ⟨2, _⟩ => k0_off9_eq k t | ⟨3, _⟩ => k0_off12_eq k t)
    (fun l => match l with | ⟨0, _⟩ => k0_off1 k | ⟨1, _⟩ => k0_off4 k | ⟨2, _⟩ => k0_off7 k | ⟨3, _⟩ => k0_off10 k)
    (fun l => match l with | ⟨0, _⟩ => k0_off1_inb k | ⟨1, _⟩ => k0_off4_inb k | ⟨2, _⟩ => k0_off7_inb k | ⟨3, _⟩ => k0_off10_inb k)
    (fun l => match l with | ⟨0, _⟩ => k0_off1_eq k | ⟨1, _⟩ => k0_off4_eq k | ⟨2, _⟩ => k0_off7_eq k | ⟨3, _⟩ => k0_off10_eq k)
    (fun l => match l with | ⟨0, _⟩ => k0_off2 k | ⟨1, _⟩ => k0_off5 k | ⟨2, _⟩ => k0_off8 k | ⟨3, _⟩ => k0_off11 k)
    (fun l => match l with | ⟨0, _⟩ => k0_off2_inb k | ⟨1, _⟩ => k0_off5_inb k | ⟨2, _⟩ => k0_off8_inb k | ⟨3, _⟩ => k0_off11_inb k)
    (fun l => match l with | ⟨0, _⟩ => k0_off2_eq k | ⟨1, _⟩ => k0_off5_eq k | ⟨2, _⟩ => k0_off8_eq k | ⟨3, _⟩ => k0_off11_eq k)
    _ ?_
  unfold tripL_k0_t1 trip_k0_t1
  rfl

theorem upTo_t1 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v75 : FVec F S512x512 .f32) (cst_22 : F .f32) (X_arg2 : BufTy.Contents (Elt F) arg2.view.ty) (X_arg3 : BufTy.Contents (Elt F) arg3.view.ty) (h4 : IsDup v4 0) (h6 : IsDup v6 1) (k : ℕ) (hk : k ≤ k0_t1_loop.trips) :
    GoodUpTo (pb_k0_t1 (F := F) 𝒱 c bd i arg1 harg1 arg2 harg2 arg3 harg3 arg4 harg4 arg5 harg5 arg6 harg6 arg7 harg7 arg8 harg8 v4 v6 v69 v75 cst_22 X_arg2 X_arg3 k)
      (chunkAt (View.read (Elt F) arg2.view X_arg2) (View.read (Elt F) arg3.view X_arg3) v69 0) 0 k := by
  induction k with
  | zero => exact goodUpTo_nil _ _
  | succ k ih =>
    rw [pb_k0_t1_succ (F := F) 𝒱 c bd i arg1 harg1 arg2 harg2 arg3 harg3 arg4 harg4 arg5 harg5 arg6 harg6 arg7 harg7 arg8 harg8 v4 v6 v69 v75 cst_22 X_arg2 X_arg3 ⟨k, hk⟩]
    exact goodUpTo_succ (good_t1 (F := F) 𝒱 c bd i arg1 harg1 arg2 harg2 arg3 harg3 arg4 harg4 arg5 harg5 arg6 harg6 arg7 harg7 arg8 harg8 v4 v6 v69 v75 cst_22 X_arg2 X_arg3 ⟨k, hk⟩ h4 h6) (ih (Nat.le_of_succ_le hk))

end Cert.KernelIdeal.Hand
-- ==== Proof.Chunk2.lean ====
/- The dequantising loops, chunk by chunk: what the tiles written by the trips of a loop hold. -/
module

public import proofs.«01_k».proof.Proof.Gen.KernelIdeal.Loops
public import proofs.«01_k».proof.Proof.Block

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open Idealize.SL.Sem Cert.KernelIdeal.Gen

variable {F : FTy → Type} [FloatOps F]

/-! ## Chunk 1 -/

theorem good_t2 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v75 : FVec F S512x512 .f32) (cst_22 : F .f32) (X_arg2 : BufTy.Contents (Elt F) arg2.view.ty) (X_arg3 : BufTy.Contents (Elt F) arg3.view.ty) (k : Fin k0_t2_loop.trips) (h4 : IsDup v4 0) (h6 : IsDup v6 1) :
    Good (tripL_k0_t2 (F := F) 𝒱 c bd i arg1 harg1 arg2 harg2 arg3 harg3 arg4 harg4 arg5 harg5 arg6 harg6 arg7 harg7 arg8 harg8 v4 v6 v69 v75 cst_22 X_arg2 X_arg3 k)
      (chunkAt (View.read (Elt F) arg2.view X_arg2) (View.read (Elt F) arg3.view X_arg3) v69 1) 1 k.val := by
  have hk : k.val < 16 := Nat.lt_of_lt_of_le k.isLt k0_t2_abs.2.1
  refine good16 arg2 arg3 X_arg2 X_arg3 v69 v4 v6 h4 h6 1 1 k.val hk
    (fun l t => match l with | ⟨0, _⟩ => k0_off15 k (BitVec.ofNat 32 (16 * t.val)) | ⟨1, _⟩ => k0_off18 k (BitVec.ofNat 32 (16 * t.val)) | ⟨2, _⟩ => k0_off21 k (BitVec.ofNat 32 (16 * t.val)) | ⟨3, _⟩ => k0_off24 k (BitVec.ofNat 32 (16 * t.val)))
    (fun l t => match l with | ⟨0, _⟩ => k0_off15_inb k t | ⟨1, _⟩ => k0_off18_inb k t | ⟨2, _⟩ => k0_off21_inb k t | ⟨3, _⟩ => k0_off24_inb k t)
    (fun l t => match l with | ⟨0, _⟩ => k0_off15_eq k t | ⟨1, _⟩ => k0_off18_eq k t | ⟨2, _⟩ => k0_off21_eq k t | ⟨3, _⟩ => k0_off24_eq k t)
    (fun l => match l with | ⟨0, _⟩ => k0_off13 k | ⟨1, _⟩ => k0_off16 k | ⟨2, _⟩ => k0_off19 k | ⟨3, _⟩ => k0_off22 k)
    (fun l => match l with | ⟨0, _⟩ => k0_off13_inb k | ⟨1, _⟩ => k0_off16_inb k | ⟨2, _⟩ => k0_off19_inb k | ⟨3, _⟩ => k0_off22_inb k)
    (fun l => match l with | ⟨0, _⟩ => k0_off13_eq k | ⟨1, _⟩ => k0_off16_eq k | ⟨2, _⟩ => k0_off19_eq k | ⟨3, _⟩ => k0_off22_eq k)
    (fun l => match l with | ⟨0, _⟩ => k0_off14 k | ⟨1, _⟩ => k0_off17 k | ⟨2, _⟩ => k0_off20 k | ⟨3, _⟩ => k0_off23 k)
    (fun l => match l with | ⟨0, _⟩ => k0_off14_inb k | ⟨1, _⟩ => k0_off17_inb k | ⟨2, _⟩ => k0_off20_inb k | ⟨3, _⟩ => k0_off23_inb k)
    (fun l => match l with | ⟨0, _⟩ => k0_off14_eq k | ⟨1, _⟩ => k0_off17_eq k | ⟨2, _⟩ => k0_off20_eq k | ⟨3, _⟩ => k0_off23_eq k)
    _ ?_
  unfold tripL_k0_t2 trip_k0_t2
  rfl

theorem upTo_t2 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v75 : FVec F S512x512 .f32) (cst_22 : F .f32) (X_arg2 : BufTy.Contents (Elt F) arg2.view.ty) (X_arg3 : BufTy.Contents (Elt F) arg3.view.ty) (h4 : IsDup v4 0) (h6 : IsDup v6 1) (k : ℕ) (hk : k ≤ k0_t2_loop.trips) :
    GoodUpTo (pb_k0_t2 (F := F) 𝒱 c bd i arg1 harg1 arg2 harg2 arg3 harg3 arg4 harg4 arg5 harg5 arg6 harg6 arg7 harg7 arg8 harg8 v4 v6 v69 v75 cst_22 X_arg2 X_arg3 k)
      (chunkAt (View.read (Elt F) arg2.view X_arg2) (View.read (Elt F) arg3.view X_arg3) v69 1) 1 k := by
  induction k with
  | zero => exact goodUpTo_nil _ _
  | succ k ih =>
    rw [pb_k0_t2_succ (F := F) 𝒱 c bd i arg1 harg1 arg2 harg2 arg3 harg3 arg4 harg4 arg5 harg5 arg6 harg6 arg7 harg7 arg8 harg8 v4 v6 v69 v75 cst_22 X_arg2 X_arg3 ⟨k, hk⟩]
    exact goodUpTo_succ (good_t2 (F := F) 𝒱 c bd i arg1 harg1 arg2 harg2 arg3 harg3 arg4 harg4 arg5 harg5 arg6 harg6 arg7 harg7 arg8 harg8 v4 v6 v69 v75 cst_22 X_arg2 X_arg3 ⟨k, hk⟩ h4 h6) (ih (Nat.le_of_succ_le hk))

end Cert.KernelIdeal.Hand
-- ==== Proof.Chunk3.lean ====
/- The dequantising loops, chunk by chunk: what the tiles written by the trips of a loop hold. -/
module

public import proofs.«01_k».proof.Proof.Gen.KernelIdeal.Loops
public import proofs.«01_k».proof.Proof.Block

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open Idealize.SL.Sem Cert.KernelIdeal.Gen

variable {F : FTy → Type} [FloatOps F]

/-! ## Chunk 2 -/

theorem good_t3 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v75 : FVec F S512x512 .f32) (cst_22 : F .f32) (X_arg2 : BufTy.Contents (Elt F) arg2.view.ty) (X_arg3 : BufTy.Contents (Elt F) arg3.view.ty) (k : Fin k0_t3_loop.trips) (h4 : IsDup v4 0) (h6 : IsDup v6 1) :
    Good (tripL_k0_t3 (F := F) 𝒱 c bd i arg1 harg1 arg2 harg2 arg3 harg3 arg4 harg4 arg5 harg5 arg6 harg6 arg7 harg7 arg8 harg8 v4 v6 v69 v75 cst_22 X_arg2 X_arg3 k)
      (chunkAt (View.read (Elt F) arg2.view X_arg2) (View.read (Elt F) arg3.view X_arg3) v69 2) 0 k.val := by
  have hk : k.val < 16 := Nat.lt_of_lt_of_le k.isLt k0_t3_abs.2.1
  refine good16 arg2 arg3 X_arg2 X_arg3 v69 v4 v6 h4 h6 2 0 k.val hk
    (fun l t => match l with | ⟨0, _⟩ => k0_off27 k (BitVec.ofNat 32 (16 * t.val)) | ⟨1, _⟩ => k0_off30 k (BitVec.ofNat 32 (16 * t.val)) | ⟨2, _⟩ => k0_off33 k (BitVec.ofNat 32 (16 * t.val)) | ⟨3, _⟩ => k0_off36 k (BitVec.ofNat 32 (16 * t.val)))
    (fun l t => match l with | ⟨0, _⟩ => k0_off27_inb k t | ⟨1, _⟩ => k0_off30_inb k t | ⟨2, _⟩ => k0_off33_inb k t | ⟨3, _⟩ => k0_off36_inb k t)
    (fun l t => match l with | ⟨0, _⟩ => k0_off27_eq k t | ⟨1, _⟩ => k0_off30_eq k t | ⟨2, _⟩ => k0_off33_eq k t | ⟨3, _⟩ => k0_off36_eq k t)
    (fun l => match l with | ⟨0, _⟩ => k0_off25 k | ⟨1, _⟩ => k0_off28 k | ⟨2, _⟩ => k0_off31 k | ⟨3, _⟩ => k0_off34 k)
    (fun l => match l with | ⟨0, _⟩ => k0_off25_inb k | ⟨1, _⟩ => k0_off28_inb k | ⟨2, _⟩ => k0_off31_inb k | ⟨3, _⟩ => k0_off34_inb k)
    (fun l => match l with | ⟨0, _⟩ => k0_off25_eq k | ⟨1, _⟩ => k0_off28_eq k | ⟨2, _⟩ => k0_off31_eq k | ⟨3, _⟩ => k0_off34_eq k)
    (fun l => match l with | ⟨0, _⟩ => k0_off26 k | ⟨1, _⟩ => k0_off29 k | ⟨2, _⟩ => k0_off32 k | ⟨3, _⟩ => k0_off35 k)
    (fun l => match l with | ⟨0, _⟩ => k0_off26_inb k | ⟨1, _⟩ => k0_off29_inb k | ⟨2, _⟩ => k0_off32_inb k | ⟨3, _⟩ => k0_off35_inb k)
    (fun l => match l with | ⟨0, _⟩ => k0_off26_eq k | ⟨1, _⟩ => k0_off29_eq k | ⟨2, _⟩ => k0_off32_eq k | ⟨3, _⟩ => k0_off35_eq k)
    _ ?_
  unfold tripL_k0_t3 trip_k0_t3
  rfl

theorem upTo_t3 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v75 : FVec F S512x512 .f32) (cst_22 : F .f32) (X_arg2 : BufTy.Contents (Elt F) arg2.view.ty) (X_arg3 : BufTy.Contents (Elt F) arg3.view.ty) (h4 : IsDup v4 0) (h6 : IsDup v6 1) (k : ℕ) (hk : k ≤ k0_t3_loop.trips) :
    GoodUpTo (pb_k0_t3 (F := F) 𝒱 c bd i arg1 harg1 arg2 harg2 arg3 harg3 arg4 harg4 arg5 harg5 arg6 harg6 arg7 harg7 arg8 harg8 v4 v6 v69 v75 cst_22 X_arg2 X_arg3 k)
      (chunkAt (View.read (Elt F) arg2.view X_arg2) (View.read (Elt F) arg3.view X_arg3) v69 2) 0 k := by
  induction k with
  | zero => exact goodUpTo_nil _ _
  | succ k ih =>
    rw [pb_k0_t3_succ (F := F) 𝒱 c bd i arg1 harg1 arg2 harg2 arg3 harg3 arg4 harg4 arg5 harg5 arg6 harg6 arg7 harg7 arg8 harg8 v4 v6 v69 v75 cst_22 X_arg2 X_arg3 ⟨k, hk⟩]
    exact goodUpTo_succ (good_t3 (F := F) 𝒱 c bd i arg1 harg1 arg2 harg2 arg3 harg3 arg4 harg4 arg5 harg5 arg6 harg6 arg7 harg7 arg8 harg8 v4 v6 v69 v75 cst_22 X_arg2 X_arg3 ⟨k, hk⟩ h4 h6) (ih (Nat.le_of_succ_le hk))

end Cert.KernelIdeal.Hand
-- ==== Proof.Chunk4.lean ====
/- The dequantising loops, chunk by chunk: what the tiles written by the trips of a loop hold. -/
module

public import proofs.«01_k».proof.Proof.Gen.KernelIdeal.Loops
public import proofs.«01_k».proof.Proof.Block

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open Idealize.SL.Sem Cert.KernelIdeal.Gen

variable {F : FTy → Type} [FloatOps F]

/-! ## Chunk 3 -/

theorem good_t4 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (k : Fin k0_t4_loop.trips) (h4 : IsDup v4 0) (h6 : IsDup v6 1) :
    Good (tripL_k0_t4 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 3) 1 k.val := by
  have hk : k.val < 16 := Nat.lt_of_lt_of_le k.isLt k0_t4_abs.2.1
  refine good16 arg2 arg3 X_arg2 X_arg3 v69 v4 v6 h4 h6 3 1 k.val hk
    (fun l t => match l with | ⟨0, _⟩ => k0_off39 k (BitVec.ofNat 32 (16 * t.val)) | ⟨1, _⟩ => k0_off42 k (BitVec.ofNat 32 (16 * t.val)) | ⟨2, _⟩ => k0_off45 k (BitVec.ofNat 32 (16 * t.val)) | ⟨3, _⟩ => k0_off48 k (BitVec.ofNat 32 (16 * t.val)))
    (fun l t => match l with | ⟨0, _⟩ => k0_off39_inb k t | ⟨1, _⟩ => k0_off42_inb k t | ⟨2, _⟩ => k0_off45_inb k t | ⟨3, _⟩ => k0_off48_inb k t)
    (fun l t => match l with | ⟨0, _⟩ => k0_off39_eq k t | ⟨1, _⟩ => k0_off42_eq k t | ⟨2, _⟩ => k0_off45_eq k t | ⟨3, _⟩ => k0_off48_eq k t)
    (fun l => match l with | ⟨0, _⟩ => k0_off37 k | ⟨1, _⟩ => k0_off40 k | ⟨2, _⟩ => k0_off43 k | ⟨3, _⟩ => k0_off46 k)
    (fun l => match l with | ⟨0, _⟩ => k0_off37_inb k | ⟨1, _⟩ => k0_off40_inb k | ⟨2, _⟩ => k0_off43_inb k | ⟨3, _⟩ => k0_off46_inb k)
    (fun l => match l with | ⟨0, _⟩ => k0_off37_eq k | ⟨1, _⟩ => k0_off40_eq k | ⟨2, _⟩ => k0_off43_eq k | ⟨3, _⟩ => k0_off46_eq k)
    (fun l => match l with | ⟨0, _⟩ => k0_off38 k | ⟨1, _⟩ => k0_off41 k | ⟨2, _⟩ => k0_off44 k | ⟨3, _⟩ => k0_off47 k)
    (fun l => match l with | ⟨0, _⟩ => k0_off38_inb k | ⟨1, _⟩ => k0_off41_inb k | ⟨2, _⟩ => k0_off44_inb k | ⟨3, _⟩ => k0_off47_inb k)
    (fun l => match l with | ⟨0, _⟩ => k0_off38_eq k | ⟨1, _⟩ => k0_off41_eq k | ⟨2, _⟩ => k0_off44_eq k | ⟨3, _⟩ => k0_off47_eq k)
    _ ?_
  unfold tripL_k0_t4 trip_k0_t4
  rfl

theorem upTo_t4 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (h4 : IsDup v4 0) (h6 : IsDup v6 1) (k : ℕ) (hk : k ≤ k0_t4_loop.trips) :
    GoodUpTo (pb_k0_t4 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 3) 1 k := by
  induction k with
  | zero => exact goodUpTo_nil _ _
  | succ k ih =>
    rw [pb_k0_t4_succ (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩]
    exact goodUpTo_succ (good_t4 (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩ h4 h6) (ih (Nat.le_of_succ_le hk))

end Cert.KernelIdeal.Hand
-- ==== Proof.Chunk5.lean ====
/- The dequantising loops, chunk by chunk: what the tiles written by the trips of a loop hold. -/
module

public import proofs.«01_k».proof.Proof.Gen.KernelIdeal.Loops
public import proofs.«01_k».proof.Proof.Block

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open Idealize.SL.Sem Cert.KernelIdeal.Gen

variable {F : FTy → Type} [FloatOps F]

/-! ## Chunk 4 -/

theorem good_t5 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (k : Fin k0_t5_loop.trips) (h4 : IsDup v4 0) (h6 : IsDup v6 1) :
    Good (tripL_k0_t5 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 4) 0 k.val := by
  have hk : k.val < 16 := Nat.lt_of_lt_of_le k.isLt k0_t5_abs.2.1
  refine good16 arg2 arg3 X_arg2 X_arg3 v69 v4 v6 h4 h6 4 0 k.val hk
    (fun l t => match l with | ⟨0, _⟩ => k0_off51 k (BitVec.ofNat 32 (16 * t.val)) | ⟨1, _⟩ => k0_off54 k (BitVec.ofNat 32 (16 * t.val)) | ⟨2, _⟩ => k0_off57 k (BitVec.ofNat 32 (16 * t.val)) | ⟨3, _⟩ => k0_off60 k (BitVec.ofNat 32 (16 * t.val)))
    (fun l t => match l with | ⟨0, _⟩ => k0_off51_inb k t | ⟨1, _⟩ => k0_off54_inb k t | ⟨2, _⟩ => k0_off57_inb k t | ⟨3, _⟩ => k0_off60_inb k t)
    (fun l t => match l with | ⟨0, _⟩ => k0_off51_eq k t | ⟨1, _⟩ => k0_off54_eq k t | ⟨2, _⟩ => k0_off57_eq k t | ⟨3, _⟩ => k0_off60_eq k t)
    (fun l => match l with | ⟨0, _⟩ => k0_off49 k | ⟨1, _⟩ => k0_off52 k | ⟨2, _⟩ => k0_off55 k | ⟨3, _⟩ => k0_off58 k)
    (fun l => match l with | ⟨0, _⟩ => k0_off49_inb k | ⟨1, _⟩ => k0_off52_inb k | ⟨2, _⟩ => k0_off55_inb k | ⟨3, _⟩ => k0_off58_inb k)
    (fun l => match l with | ⟨0, _⟩ => k0_off49_eq k | ⟨1, _⟩ => k0_off52_eq k | ⟨2, _⟩ => k0_off55_eq k | ⟨3, _⟩ => k0_off58_eq k)
    (fun l => match l with | ⟨0, _⟩ => k0_off50 k | ⟨1, _⟩ => k0_off53 k | ⟨2, _⟩ => k0_off56 k | ⟨3, _⟩ => k0_off59 k)
    (fun l => match l with | ⟨0, _⟩ => k0_off50_inb k | ⟨1, _⟩ => k0_off53_inb k | ⟨2, _⟩ => k0_off56_inb k | ⟨3, _⟩ => k0_off59_inb k)
    (fun l => match l with | ⟨0, _⟩ => k0_off50_eq k | ⟨1, _⟩ => k0_off53_eq k | ⟨2, _⟩ => k0_off56_eq k | ⟨3, _⟩ => k0_off59_eq k)
    _ ?_
  unfold tripL_k0_t5 trip_k0_t5
  rfl

theorem upTo_t5 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (h4 : IsDup v4 0) (h6 : IsDup v6 1) (k : ℕ) (hk : k ≤ k0_t5_loop.trips) :
    GoodUpTo (pb_k0_t5 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 4) 0 k := by
  induction k with
  | zero => exact goodUpTo_nil _ _
  | succ k ih =>
    rw [pb_k0_t5_succ (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩]
    exact goodUpTo_succ (good_t5 (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩ h4 h6) (ih (Nat.le_of_succ_le hk))

end Cert.KernelIdeal.Hand
-- ==== Proof.Chunk6.lean ====
/- The dequantising loops, chunk by chunk: what the tiles written by the trips of a loop hold. -/
module

public import proofs.«01_k».proof.Proof.Gen.KernelIdeal.Loops
public import proofs.«01_k».proof.Proof.Block

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open Idealize.SL.Sem Cert.KernelIdeal.Gen

variable {F : FTy → Type} [FloatOps F]

/-! ## Chunk 5 -/

theorem good_t6 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (k : Fin k0_t6_loop.trips) (h4 : IsDup v4 0) (h6 : IsDup v6 1) :
    Good (tripL_k0_t6 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 5) 1 k.val := by
  have hk : k.val < 16 := Nat.lt_of_lt_of_le k.isLt k0_t6_abs.2.1
  refine good16 arg2 arg3 X_arg2 X_arg3 v69 v4 v6 h4 h6 5 1 k.val hk
    (fun l t => match l with | ⟨0, _⟩ => k0_off63 k (BitVec.ofNat 32 (16 * t.val)) | ⟨1, _⟩ => k0_off66 k (BitVec.ofNat 32 (16 * t.val)) | ⟨2, _⟩ => k0_off69 k (BitVec.ofNat 32 (16 * t.val)) | ⟨3, _⟩ => k0_off72 k (BitVec.ofNat 32 (16 * t.val)))
    (fun l t => match l with | ⟨0, _⟩ => k0_off63_inb k t | ⟨1, _⟩ => k0_off66_inb k t | ⟨2, _⟩ => k0_off69_inb k t | ⟨3, _⟩ => k0_off72_inb k t)
    (fun l t => match l with | ⟨0, _⟩ => k0_off63_eq k t | ⟨1, _⟩ => k0_off66_eq k t | ⟨2, _⟩ => k0_off69_eq k t | ⟨3, _⟩ => k0_off72_eq k t)
    (fun l => match l with | ⟨0, _⟩ => k0_off61 k | ⟨1, _⟩ => k0_off64 k | ⟨2, _⟩ => k0_off67 k | ⟨3, _⟩ => k0_off70 k)
    (fun l => match l with | ⟨0, _⟩ => k0_off61_inb k | ⟨1, _⟩ => k0_off64_inb k | ⟨2, _⟩ => k0_off67_inb k | ⟨3, _⟩ => k0_off70_inb k)
    (fun l => match l with | ⟨0, _⟩ => k0_off61_eq k | ⟨1, _⟩ => k0_off64_eq k | ⟨2, _⟩ => k0_off67_eq k | ⟨3, _⟩ => k0_off70_eq k)
    (fun l => match l with | ⟨0, _⟩ => k0_off62 k | ⟨1, _⟩ => k0_off65 k | ⟨2, _⟩ => k0_off68 k | ⟨3, _⟩ => k0_off71 k)
    (fun l => match l with | ⟨0, _⟩ => k0_off62_inb k | ⟨1, _⟩ => k0_off65_inb k | ⟨2, _⟩ => k0_off68_inb k | ⟨3, _⟩ => k0_off71_inb k)
    (fun l => match l with | ⟨0, _⟩ => k0_off62_eq k | ⟨1, _⟩ => k0_off65_eq k | ⟨2, _⟩ => k0_off68_eq k | ⟨3, _⟩ => k0_off71_eq k)
    _ ?_
  unfold tripL_k0_t6 trip_k0_t6
  rfl

theorem upTo_t6 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (h4 : IsDup v4 0) (h6 : IsDup v6 1) (k : ℕ) (hk : k ≤ k0_t6_loop.trips) :
    GoodUpTo (pb_k0_t6 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 5) 1 k := by
  induction k with
  | zero => exact goodUpTo_nil _ _
  | succ k ih =>
    rw [pb_k0_t6_succ (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩]
    exact goodUpTo_succ (good_t6 (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩ h4 h6) (ih (Nat.le_of_succ_le hk))

end Cert.KernelIdeal.Hand
-- ==== Proof.Chunk7.lean ====
/- The dequantising loops, chunk by chunk: what the tiles written by the trips of a loop hold. -/
module

public import proofs.«01_k».proof.Proof.Gen.KernelIdeal.Loops
public import proofs.«01_k».proof.Proof.Block

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open Idealize.SL.Sem Cert.KernelIdeal.Gen

variable {F : FTy → Type} [FloatOps F]

/-! ## Chunk 6 -/

theorem good_t7 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (k : Fin k0_t7_loop.trips) (h4 : IsDup v4 0) (h6 : IsDup v6 1) :
    Good (tripL_k0_t7 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 6) 0 k.val := by
  have hk : k.val < 16 := Nat.lt_of_lt_of_le k.isLt k0_t7_abs.2.1
  refine good16 arg2 arg3 X_arg2 X_arg3 v69 v4 v6 h4 h6 6 0 k.val hk
    (fun l t => match l with | ⟨0, _⟩ => k0_off75 k (BitVec.ofNat 32 (16 * t.val)) | ⟨1, _⟩ => k0_off78 k (BitVec.ofNat 32 (16 * t.val)) | ⟨2, _⟩ => k0_off81 k (BitVec.ofNat 32 (16 * t.val)) | ⟨3, _⟩ => k0_off84 k (BitVec.ofNat 32 (16 * t.val)))
    (fun l t => match l with | ⟨0, _⟩ => k0_off75_inb k t | ⟨1, _⟩ => k0_off78_inb k t | ⟨2, _⟩ => k0_off81_inb k t | ⟨3, _⟩ => k0_off84_inb k t)
    (fun l t => match l with | ⟨0, _⟩ => k0_off75_eq k t | ⟨1, _⟩ => k0_off78_eq k t | ⟨2, _⟩ => k0_off81_eq k t | ⟨3, _⟩ => k0_off84_eq k t)
    (fun l => match l with | ⟨0, _⟩ => k0_off73 k | ⟨1, _⟩ => k0_off76 k | ⟨2, _⟩ => k0_off79 k | ⟨3, _⟩ => k0_off82 k)
    (fun l => match l with | ⟨0, _⟩ => k0_off73_inb k | ⟨1, _⟩ => k0_off76_inb k | ⟨2, _⟩ => k0_off79_inb k | ⟨3, _⟩ => k0_off82_inb k)
    (fun l => match l with | ⟨0, _⟩ => k0_off73_eq k | ⟨1, _⟩ => k0_off76_eq k | ⟨2, _⟩ => k0_off79_eq k | ⟨3, _⟩ => k0_off82_eq k)
    (fun l => match l with | ⟨0, _⟩ => k0_off74 k | ⟨1, _⟩ => k0_off77 k | ⟨2, _⟩ => k0_off80 k | ⟨3, _⟩ => k0_off83 k)
    (fun l => match l with | ⟨0, _⟩ => k0_off74_inb k | ⟨1, _⟩ => k0_off77_inb k | ⟨2, _⟩ => k0_off80_inb k | ⟨3, _⟩ => k0_off83_inb k)
    (fun l => match l with | ⟨0, _⟩ => k0_off74_eq k | ⟨1, _⟩ => k0_off77_eq k | ⟨2, _⟩ => k0_off80_eq k | ⟨3, _⟩ => k0_off83_eq k)
    _ ?_
  unfold tripL_k0_t7 trip_k0_t7
  rfl

theorem upTo_t7 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (v98 : FVec F S512x512 .f32) (c0_i32_50 : BitVec 32) (c1_i32_52 : BitVec 32) (X_arg2 : BufTy.Contents (Elt F) arg2.view.ty) (X_arg3 : BufTy.Contents (Elt F) arg3.view.ty) (h4 : IsDup v4 0) (h6 : IsDup v6 1) (k : ℕ) (hk : k ≤ k0_t7_loop.trips) :
    GoodUpTo (pb_k0_t7 (F := F) 𝒱 c bd i arg1 harg1 arg2 harg2 arg3 harg3 arg4 harg4 arg5 harg5 arg6 harg6 arg7 harg7 arg8 harg8 v4 v6 v69 v98 c0_i32_50 c1_i32_52 X_arg2 X_arg3 k)
      (chunkAt (View.read (Elt F) arg2.view X_arg2) (View.read (Elt F) arg3.view X_arg3) v69 6) 0 k := by
  induction k with
  | zero => exact goodUpTo_nil _ _
  | succ k ih =>
    rw [pb_k0_t7_succ (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩]
    exact goodUpTo_succ (good_t7 (F := F) 𝒱 c bd i arg1 harg1 arg2 harg2 arg3 harg3 arg4 harg4 arg5 harg5 arg6 harg6 arg7 harg7 arg8 harg8 v4 v6 v69 v98 c0_i32_50 c1_i32_52 X_arg2 X_arg3 ⟨k, hk⟩ h4 h6) (ih (Nat.le_of_succ_le hk))

end Cert.KernelIdeal.Hand
-- ==== Proof.Chunk8.lean ====
/- The dequantising loops, chunk by chunk: what the tiles written by the trips of a loop hold. -/
module

public import proofs.«01_k».proof.Proof.Gen.KernelIdeal.Loops
public import proofs.«01_k».proof.Proof.Block

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open Idealize.SL.Sem Cert.KernelIdeal.Gen

variable {F : FTy → Type} [FloatOps F]

/-! ## Chunk 7 -/

theorem good_t8 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (X_arg2 : BufTy.Contents (Elt F) arg2.view.ty) (X_arg3 : BufTy.Contents (Elt F) arg3.view.ty) (k : Fin k0_t8_loop.trips) (h4 : IsDup v4 0) (h6 : IsDup v6 1) :
    Good (tripL_k0_t8 (F := F) 𝒱 c bd i arg1 harg1 arg2 harg2 arg3 harg3 arg4 harg4 arg5 harg5 arg6 harg6 arg7 harg7 arg8 harg8 v4 v6 v69 X_arg2 X_arg3 k)
      (chunkAt (View.read (Elt F) arg2.view X_arg2) (View.read (Elt F) arg3.view X_arg3) v69 7) 1 k.val := by
  have hk : k.val < 16 := Nat.lt_of_lt_of_le k.isLt k0_t8_abs.2.1
  refine good16 arg2 arg3 X_arg2 X_arg3 v69 v4 v6 h4 h6 7 1 k.val hk
    (fun l t => match l with | ⟨0, _⟩ => k0_off87 k (BitVec.ofNat 32 (16 * t.val)) | ⟨1, _⟩ => k0_off90 k (BitVec.ofNat 32 (16 * t.val)) | ⟨2, _⟩ => k0_off93 k (BitVec.ofNat 32 (16 * t.val)) | ⟨3, _⟩ => k0_off96 k (BitVec.ofNat 32 (16 * t.val)))
    (fun l t => match l with | ⟨0, _⟩ => k0_off87_inb k t | ⟨1, _⟩ => k0_off90_inb k t | ⟨2, _⟩ => k0_off93_inb k t | ⟨3, _⟩ => k0_off96_inb k t)
    (fun l t => match l with | ⟨0, _⟩ => k0_off87_eq k t | ⟨1, _⟩ => k0_off90_eq k t | ⟨2, _⟩ => k0_off93_eq k t | ⟨3, _⟩ => k0_off96_eq k t)
    (fun l => match l with | ⟨0, _⟩ => k0_off85 k | ⟨1, _⟩ => k0_off88 k | ⟨2, _⟩ => k0_off91 k | ⟨3, _⟩ => k0_off94 k)
    (fun l => match l with | ⟨0, _⟩ => k0_off85_inb k | ⟨1, _⟩ => k0_off88_inb k | ⟨2, _⟩ => k0_off91_inb k | ⟨3, _⟩ => k0_off94_inb k)
    (fun l => match l with | ⟨0, _⟩ => k0_off85_eq k | ⟨1, _⟩ => k0_off88_eq k | ⟨2, _⟩ => k0_off91_eq k | ⟨3, _⟩ => k0_off94_eq k)
    (fun l => match l with | ⟨0, _⟩ => k0_off86 k | ⟨1, _⟩ => k0_off89 k | ⟨2, _⟩ => k0_off92 k | ⟨3, _⟩ => k0_off95 k)
    (fun l => match l with | ⟨0, _⟩ => k0_off86_inb k | ⟨1, _⟩ => k0_off89_inb k | ⟨2, _⟩ => k0_off92_inb k | ⟨3, _⟩ => k0_off95_inb k)
    (fun l => match l with | ⟨0, _⟩ => k0_off86_eq k | ⟨1, _⟩ => k0_off89_eq k | ⟨2, _⟩ => k0_off92_eq k | ⟨3, _⟩ => k0_off95_eq k)
    _ ?_
  unfold tripL_k0_t8 trip_k0_t8
  rfl

theorem upTo_t8 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (v4 : IVec S32x128 32) (v6 : IVec S32x128 32) (v69 : FVec F S16x128 .bf16) (X_arg2 : BufTy.Contents (Elt F) arg2.view.ty) (X_arg3 : BufTy.Contents (Elt F) arg3.view.ty) (h4 : IsDup v4 0) (h6 : IsDup v6 1) (k : ℕ) (hk : k ≤ k0_t8_loop.trips) :
    GoodUpTo (pb_k0_t8 (F := F) 𝒱 c bd i arg1 harg1 arg2 harg2 arg3 harg3 arg4 harg4 arg5 harg5 arg6 harg6 arg7 harg7 arg8 harg8 v4 v6 v69 X_arg2 X_arg3 k)
      (chunkAt (View.read (Elt F) arg2.view X_arg2) (View.read (Elt F) arg3.view X_arg3) v69 7) 1 k := by
  induction k with
  | zero => exact goodUpTo_nil _ _
  | succ k ih =>
    rw [pb_k0_t8_succ (F := F) 𝒱 c bd i arg1 harg1 arg2 harg2 arg3 harg3 arg4 harg4 arg5 harg5 arg6 harg6 arg7 harg7 arg8 harg8 v4 v6 v69 X_arg2 X_arg3 ⟨k, hk⟩]
    exact goodUpTo_succ (good_t8 (F := F) 𝒱 c bd i arg1 harg1 arg2 harg2 arg3 harg3 arg4 harg4 arg5 harg5 arg6 harg6 arg7 harg7 arg8 harg8 v4 v6 v69 X_arg2 X_arg3 ⟨k, hk⟩ h4 h6) (ih (Nat.le_of_succ_le hk))

end Cert.KernelIdeal.Hand
-- ==== Proof.Values.lean ====
/- What the kernel's body computes at one grid point, as a function of the blocks it reads.

   The pieces: the table of 16 levels, the dequantised rows of a chunk of 1024, the low-rank intermediate `x · a`, and the
   512 × 512 block of the result as the kernel accumulates it, chunk after chunk. Then what a read of a slot of the weight
   buffer gives after a chunk's loop: the chunk's dequantised rows, whatever the buffer held before. -/
module

public import proofs.«01_k».proof.Proof.Gen.KernelIdeal.Loops
public import proofs.«01_k».proof.Proof.Chunk1
public import proofs.«01_k».proof.Proof.Chunk2
public import proofs.«01_k».proof.Proof.Chunk3
public import proofs.«01_k».proof.Proof.Chunk4
public import proofs.«01_k».proof.Proof.Chunk5
public import proofs.«01_k».proof.Proof.Chunk6
public import proofs.«01_k».proof.Proof.Chunk7
public import proofs.«01_k».proof.Proof.Chunk8

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open Idealize.SL.Sem Cert.KernelIdeal.Gen

variable {F : FTy → Type} [FloatOps F]

open ValueIdx (ix2 ix3)

/-- The 16 levels of the code, one per row, the same in every lane. -/
def tableV : FVec F S16x128 .bf16 :=
  k0_pay416 (iota .tc S16x128 32 [0] iota_S16x128_d0_w32) (k0_pay414 (F := F)) k0_pay415 (Scalar.ofBits .f32 0x3DA2FAFF#32)

/-- The dequantised rows of chunk `kc`. -/
def wRows (X2 : Vec F S4096x512 .i8) (X3 : Vec F S128x512 .f32) (kc : Fin 8) : Vec F S1x1024x512 .bf16 :=
  fun x => wAt X2 X3 tableV ⟨1024 * kc.val + (x 1).val, by have : (x 1).val < 1024 := (x 1).isLt; omega⟩ (x 2)

/-- The low-rank intermediate, kept between the points. -/
def hV (x0 : Vec F S512x8192 .bf16) (x3 : Vec F S8192x16 .bf16) : Vec F S512x16 .bf16 := k0_pay417 x0 x3

/-- Columns of `x` that chunk `kc` multiplies. -/
abbrev xCols0 (x0 : Vec F S512x8192 .bf16) : Vec F S512x1024 .bf16 :=
  View.ld x0 (Rect.unit (s := S512x8192) ![0, 0] S512x1024.size inb_S512x8192_S512x1024_0_0)
abbrev xCols1 (x0 : Vec F S512x8192 .bf16) : Vec F S512x1024 .bf16 :=
  View.ld x0 (Rect.unit (s := S512x8192) ![0, 1024] S512x1024.size inb_S512x8192_S512x1024_0_1024)
abbrev xCols2 (x0 : Vec F S512x8192 .bf16) : Vec F S512x1024 .bf16 :=
  View.ld x0 (Rect.unit (s := S512x8192) ![0, 2048] S512x1024.size inb_S512x8192_S512x1024_0_2048)
abbrev xCols3 (x0 : Vec F S512x8192 .bf16) : Vec F S512x1024 .bf16 :=
  View.ld x0 (Rect.unit (s := S512x8192) ![0, 3072] S512x1024.size inb_S512x8192_S512x1024_0_3072)
abbrev xCols4 (x0 : Vec F S512x8192 .bf16) : Vec F S512x1024 .bf16 :=
  View.ld x0 (Rect.unit (s := S512x8192) ![0, 4096] S512x1024.size inb_S512x8192_S512x1024_0_4096)
abbrev xCols5 (x0 : Vec F S512x8192 .bf16) : Vec F S512x1024 .bf16 :=
  View.ld x0 (Rect.unit (s := S512x8192) ![0, 5120] S512x1024.size inb_S512x8192_S512x1024_0_5120)
abbrev xCols6 (x0 : Vec F S512x8192 .bf16) : Vec F S512x1024 .bf16 :=
  View.ld x0 (Rect.unit (s := S512x8192) ![0, 6144] S512x1024.size inb_S512x8192_S512x1024_0_6144)
abbrev xCols7 (x0 : Vec F S512x8192 .bf16) : Vec F S512x1024 .bf16 :=
  View.ld x0 (Rect.unit (s := S512x8192) ![0, 7168] S512x1024.size inb_S512x8192_S512x1024_0_7168)

/-- The block of the result. -/
def outV (x0 : Vec F S512x8192 .bf16) (x1 : Vec F S4096x512 .i8) (x2 : Vec F S128x512 .f32) (h : Vec F S512x16 .bf16)
    (x4 : Vec F S16x512 .bf16) : Vec F S512x512 .bf16 :=
  k0_pay2
    (k0_pay426
      (k0_pay422 (k0_pay418 h x4) (Scalar.ofBits .f32 0x40000000#32) (xCols0 x0) (wRows x1 x2 0) (xCols1 x0) (wRows x1 x2 1)
        (xCols2 x0) (wRows x1 x2 2))
      (xCols3 x0) (wRows x1 x2 3) (xCols4 x0) (wRows x1 x2 4) (xCols5 x0) (wRows x1 x2 5))
    (k0_pay428 (xCols6 x0)) (wRows x1 x2 6) (xCols7 x0) (wRows x1 x2 7)

theorem isDup0 : IsDup k0_pay412 0 := by
  intro q l
  have e : (iota .tc S32x128 32 [0] iota_S32x128_d0_w32 (ix2 q l) : BitVec 32) = BitVec.ofNat 32 q.val := by
    rw [iota_single_apply]
  show (BitVec.toNat (IntOp.addi (IntOp.shrui .vector (iota .tc S32x128 32 [0] iota_S32x128_d0_w32 (ix2 q l)) 1#32) 0#32)) = _
  rw [e]
  clear e; revert q
  decide

theorem isDup1 : IsDup k0_pay413 1 := by
  intro q l
  have e : (iota .tc S32x128 32 [0] iota_S32x128_d0_w32 (ix2 q l) : BitVec 32) = BitVec.ofNat 32 q.val := by
    rw [iota_single_apply]
  show (BitVec.toNat (IntOp.addi (IntOp.shrui .vector (iota .tc S32x128 32 [0] iota_S32x128_d0_w32 (ix2 q l)) 1#32) 16#32)) = _
  rw [e]
  clear e; revert q
  decide

/-- A read of a slot whose 1024 rows are all written by pieces that agree. -/
theorem slot_read (arg7 : Memref sig .tc .vmem S2x1024x512 .bf16) (X2 : Vec F S4096x512 .i8) (X3 : Vec F S128x512 .f32) (kc : Fin 8)
    (slot n : ℕ) (hn : n = 16) (inb : ∀ a, ![slot, 0, 0] a + S1x1024x512.size a ≤ S2x1024x512.size a)
    (L : List (View.Piece (Elt F) S2x1024x512 .bf16)) (hL : GoodUpTo L (chunkAt X2 X3 tableV kc) slot n)
    (G : BufTy.Contents (Elt F) arg7.view.ty) :
    View.readAt (Elt F) arg7.view (Rect.unit (s := S2x1024x512) ![slot, 0, 0] S1x1024x512.size inb).toLoadRect
      (arg7.view.writes (Elt F) G L) = wRows X2 X3 kc := by
  subst hn
  funext x
  have h1 : (x 1).val < 1024 := (x 1).isLt
  have h0 : (x 0).val < 1 := (x 0).isLt
  have e0 : ((Rect.unit (s := S2x1024x512) ![slot, 0, 0] S1x1024x512.size inb).idx x 0).val = slot := by
    refine (Rect.idx_unit_val _ _ _ _ _).trans ?_
    show slot + (x 0).val = slot; omega
  have e1 : ((Rect.unit (s := S2x1024x512) ![slot, 0, 0] S1x1024x512.size inb).idx x 1).val = (x 1).val := by
    refine (Rect.idx_unit_val _ _ _ _ _).trans ?_
    show 0 + (x 1).val = (x 1).val; omega
  have e2 : ((Rect.unit (s := S2x1024x512) ![slot, 0, 0] S1x1024x512.size inb).idx x 2).val = (x 2).val := by
    refine (Rect.idx_unit_val _ _ _ _ _).trans ?_
    show 0 + (x 2).val = (x 2).val; omega
  show View.read (Elt F) arg7.view (arg7.view.writes (Elt F) G L) ((Rect.unit (s := S2x1024x512) ![slot, 0, 0] S1x1024x512.size inb).idx x) = _
  rw [View.read_writes_apply_of_pieces arg7.view G (chunkAt X2 X3 tableV kc) L hL.1 _ (hL.2 _ e0 (by rw [e1]; omega))]
  exact chunkAt_at X2 X3 tableV kc _ _ _ (congrArg (1024 * kc.val + ·) e1) e2

theorem read_t1 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v75 : FVec F S512x512 .f32) (cst_22 : F .f32) (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![0, 0, 0] S1x1024x512.size inb_S2x1024x512_S1x1024x512_0_0_0).toLoadRect
      (arg7.view.writes (Elt F) G (pb_k0_t1 (F := F) 𝒱 c bd i arg1 harg1 arg2 harg2 arg3 harg3 arg4 harg4 arg5 harg5 arg6 harg6 arg7 harg7 arg8 harg8 k0_pay412 k0_pay413 tableV v75 cst_22 X_arg2 X_arg3 k0_t1_loop.trips))
      = wRows (View.read (Elt F) arg2.view X_arg2) (View.read (Elt F) arg3.view X_arg3) 0 :=
  slot_read arg7 _ _ 0 0 k0_t1_loop.trips (by decide) inb_S2x1024x512_S1x1024x512_0_0_0 _
    (upTo_t1 (F := F) 𝒱 c bd i arg1 harg1 arg2 harg2 arg3 harg3 arg4 harg4 arg5 harg5 arg6 harg6 arg7 harg7 arg8 harg8 k0_pay412 k0_pay413 tableV v75 cst_22 X_arg2 X_arg3 isDup0 isDup1 _ (le_refl _)) G

theorem read_t1_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v75 : FVec F S512x512 .f32) (cst_22 : F .f32) (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![0, 0, 0] S1x1024x512.size inb_S2x1024x512_S1x1024x512_0_0_0).toLoadRect
      (arg7.view.writes (Elt F) G (pb_k0_t1 (F := F) 𝒱 c bd i arg1 harg1 arg2 harg2 arg3 harg3 arg4 harg4 arg5 harg5 arg6 harg6 arg7 harg7 arg8 harg8 k0_pay412 k0_pay413 tableV v75 cst_22 X_arg2 X_arg3 (Scf.trips k0_t1_loop.lb k0_t1_loop.ub k0_t1_loop.st) ++ L)) = wRows X1 X2 0 := by
  subst h1 h2
  rw [View.writes_append]
  exact read_t1 (F := F) 𝒱 c bd i arg1 harg1 arg2 harg2 arg3 harg3 arg4 harg4 arg5 harg5 arg6 harg6 arg7 harg7 arg8 harg8 v75 cst_22 X_arg2 X_arg3 _

theorem read_t2 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v75 : FVec F S512x512 .f32) (cst_22 : F .f32) (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![1, 0, 0] S1x1024x512.size inb_S2x1024x512_S1x1024x512_1_0_0).toLoadRect
      (arg7.view.writes (Elt F) G (pb_k0_t2 (F := F) 𝒱 c bd i arg1 harg1 arg2 harg2 arg3 harg3 arg4 harg4 arg5 harg5 arg6 harg6 arg7 harg7 arg8 harg8 k0_pay412 k0_pay413 tableV v75 cst_22 X_arg2 X_arg3 k0_t2_loop.trips))
      = wRows (View.read (Elt F) arg2.view X_arg2) (View.read (Elt F) arg3.view X_arg3) 1 :=
  slot_read arg7 _ _ 1 1 k0_t2_loop.trips (by decide) inb_S2x1024x512_S1x1024x512_1_0_0 _
    (upTo_t2 (F := F) 𝒱 c bd i arg1 harg1 arg2 harg2 arg3 harg3 arg4 harg4 arg5 harg5 arg6 harg6 arg7 harg7 arg8 harg8 k0_pay412 k0_pay413 tableV v75 cst_22 X_arg2 X_arg3 isDup0 isDup1 _ (le_refl _)) G

theorem read_t2_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v75 : FVec F S512x512 .f32) (cst_22 : F .f32) (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![1, 0, 0] S1x1024x512.size inb_S2x1024x512_S1x1024x512_1_0_0).toLoadRect
      (arg7.view.writes (Elt F) G (pb_k0_t2 (F := F) 𝒱 c bd i arg1 harg1 arg2 harg2 arg3 harg3 arg4 harg4 arg5 harg5 arg6 harg6 arg7 harg7 arg8 harg8 k0_pay412 k0_pay413 tableV v75 cst_22 X_arg2 X_arg3 (Scf.trips k0_t2_loop.lb k0_t2_loop.ub k0_t2_loop.st) ++ L)) = wRows X1 X2 1 := by
  subst h1 h2
  rw [View.writes_append]
  exact read_t2 (F := F) 𝒱 c bd i arg1 harg1 arg2 harg2 arg3 harg3 arg4 harg4 arg5 harg5 arg6 harg6 arg7 harg7 arg8 harg8 v75 cst_22 X_arg2 X_arg3 _

theorem read_t3 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v75 : FVec F S512x512 .f32) (cst_22 : F .f32) (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![0, 0, 0] S1x1024x512.size inb_S2x1024x512_S1x1024x512_0_0_0).toLoadRect
      (arg7.view.writes (Elt F) G (pb_k0_t3 (F := F) 𝒱 c bd i arg1 harg1 arg2 harg2 arg3 harg3 arg4 harg4 arg5 harg5 arg6 harg6 arg7 harg7 arg8 harg8 k0_pay412 k0_pay413 tableV v75 cst_22 X_arg2 X_arg3 k0_t3_loop.trips))
      = wRows (View.read (Elt F) arg2.view X_arg2) (View.read (Elt F) arg3.view X_arg3) 2 :=
  slot_read arg7 _ _ 2 0 k0_t3_loop.trips (by decide) inb_S2x1024x512_S1x1024x512_0_0_0 _
    (upTo_t3 (F := F) 𝒱 c bd i arg1 harg1 arg2 harg2 arg3 harg3 arg4 harg4 arg5 harg5 arg6 harg6 arg7 harg7 arg8 harg8 k0_pay412 k0_pay413 tableV v75 cst_22 X_arg2 X_arg3 isDup0 isDup1 _ (le_refl _)) G

theorem read_t3_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v75 : FVec F S512x512 .f32) (cst_22 : F .f32) (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![0, 0, 0] S1x1024x512.size inb_S2x1024x512_S1x1024x512_0_0_0).toLoadRect
      (arg7.view.writes (Elt F) G (pb_k0_t3 (F := F) 𝒱 c bd i arg1 harg1 arg2 harg2 arg3 harg3 arg4 harg4 arg5 harg5 arg6 harg6 arg7 harg7 arg8 harg8 k0_pay412 k0_pay413 tableV v75 cst_22 X_arg2 X_arg3 (Scf.trips k0_t3_loop.lb k0_t3_loop.ub k0_t3_loop.st) ++ L)) = wRows X1 X2 2 := by
  subst h1 h2
  rw [View.writes_append]
  exact read_t3 (F := F) 𝒱 c bd i arg1 harg1 arg2 harg2 arg3 harg3 arg4 harg4 arg5 harg5 arg6 harg6 arg7 harg7 arg8 harg8 v75 cst_22 X_arg2 X_arg3 _

theorem read_t4 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![1, 0, 0] S1x1024x512.size inb_S2x1024x512_S1x1024x512_1_0_0).toLoadRect
      (arg7.view.writes (Elt F) G (pb_k0_t4 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 k0_t4_loop.trips))
      = wRows (View.read (Elt F) arg2.view X_arg2) (View.read (Elt F) arg3.view X_arg3) 3 :=
  slot_read arg7 _ _ 3 1 k0_t4_loop.trips (by decide) inb_S2x1024x512_S1x1024x512_1_0_0 _
    (upTo_t4 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 isDup0 isDup1 _ (le_refl _)) G

theorem read_t4_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![1, 0, 0] S1x1024x512.size inb_S2x1024x512_S1x1024x512_1_0_0).toLoadRect
      (arg7.view.writes (Elt F) G (pb_k0_t4 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 (Scf.trips k0_t4_loop.lb k0_t4_loop.ub k0_t4_loop.st) ++ L)) = wRows X1 X2 3 := by
  subst h1 h2
  rw [View.writes_append]
  exact read_t4 (F := F) 𝒱 c bd i arg1 harg1 arg2 harg2 arg3 harg3 arg4 harg4 arg5 harg5 arg6 harg6 arg7 harg7 arg8 harg8 v98 c0_i32_50 c1_i32_52 X_arg2 X_arg3 _

theorem read_t5 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![0, 0, 0] S1x1024x512.size inb_S2x1024x512_S1x1024x512_0_0_0).toLoadRect
      (arg7.view.writes (Elt F) G (pb_k0_t5 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 k0_t5_loop.trips))
      = wRows (View.read (Elt F) arg2.view X_arg2) (View.read (Elt F) arg3.view X_arg3) 4 :=
  slot_read arg7 _ _ 4 0 k0_t5_loop.trips (by decide) inb_S2x1024x512_S1x1024x512_0_0_0 _
    (upTo_t5 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 isDup0 isDup1 _ (le_refl _)) G

theorem read_t5_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![0, 0, 0] S1x1024x512.size inb_S2x1024x512_S1x1024x512_0_0_0).toLoadRect
      (arg7.view.writes (Elt F) G (pb_k0_t5 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 (Scf.trips k0_t5_loop.lb k0_t5_loop.ub k0_t5_loop.st) ++ L)) = wRows X1 X2 4 := by
  subst h1 h2
  rw [View.writes_append]
  exact read_t5 (F := F) 𝒱 c bd i arg1 harg1 arg2 harg2 arg3 harg3 arg4 harg4 arg5 harg5 arg6 harg6 arg7 harg7 arg8 harg8 v98 c0_i32_50 c1_i32_52 X_arg2 X_arg3 _

theorem read_t6 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![1, 0, 0] S1x1024x512.size inb_S2x1024x512_S1x1024x512_1_0_0).toLoadRect
      (arg7.view.writes (Elt F) G (pb_k0_t6 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 k0_t6_loop.trips))
      = wRows (View.read (Elt F) arg2.view X_arg2) (View.read (Elt F) arg3.view X_arg3) 5 :=
  slot_read arg7 _ _ 5 1 k0_t6_loop.trips (by decide) inb_S2x1024x512_S1x1024x512_1_0_0 _
    (upTo_t6 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 isDup0 isDup1 _ (le_refl _)) G

theorem read_t6_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![1, 0, 0] S1x1024x512.size inb_S2x1024x512_S1x1024x512_1_0_0).toLoadRect
      (arg7.view.writes (Elt F) G (pb_k0_t6 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 (Scf.trips k0_t6_loop.lb k0_t6_loop.ub k0_t6_loop.st) ++ L)) = wRows X1 X2 5 := by
  subst h1 h2
  rw [View.writes_append]
  exact read_t6 (F := F) 𝒱 c bd i arg1 harg1 arg2 harg2 arg3 harg3 arg4 harg4 arg5 harg5 arg6 harg6 arg7 harg7 arg8 harg8 v98 c0_i32_50 c1_i32_52 X_arg2 X_arg3 _

theorem read_t7 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![0, 0, 0] S1x1024x512.size inb_S2x1024x512_S1x1024x512_0_0_0).toLoadRect
      (arg7.view.writes (Elt F) G (pb_k0_t7 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 k0_t7_loop.trips))
      = wRows (View.read (Elt F) arg2.view X_arg2) (View.read (Elt F) arg3.view X_arg3) 6 :=
  slot_read arg7 _ _ 6 0 k0_t7_loop.trips (by decide) inb_S2x1024x512_S1x1024x512_0_0_0 _
    (upTo_t7 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 isDup0 isDup1 _ (le_refl _)) G

theorem read_t7_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (v98 : FVec F S512x512 .f32) (c0_i32_50 : BitVec 32) (c1_i32_52 : BitVec 32) (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![0, 0, 0] S1x1024x512.size inb_S2x1024x512_S1x1024x512_0_0_0).toLoadRect
      (arg7.view.writes (Elt F) G (pb_k0_t7 (F := F) 𝒱 c bd i arg1 harg1 arg2 harg2 arg3 harg3 arg4 harg4 arg5 harg5 arg6 harg6 arg7 harg7 arg8 harg8 k0_pay412 k0_pay413 tableV v98 c0_i32_50 c1_i32_52 X_arg2 X_arg3 (Scf.trips k0_t7_loop.lb k0_t7_loop.ub k0_t7_loop.st) ++ L)) = wRows X1 X2 6 := by
  subst h1 h2
  rw [View.writes_append]
  exact read_t7 (F := F) 𝒱 c bd i arg1 harg1 arg2 harg2 arg3 harg3 arg4 harg4 arg5 harg5 arg6 harg6 arg7 harg7 arg8 harg8 v98 c0_i32_50 c1_i32_52 X_arg2 X_arg3 _

theorem read_t8 (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (X_arg2 : BufTy.Contents (Elt F) arg2.view.ty) (X_arg3 : BufTy.Contents (Elt F) arg3.view.ty) (G : BufTy.Contents (Elt F) arg7.view.ty) :
    View.readAt (Elt F) arg7.view (Rect.unit (s := S2x1024x512) ![1, 0, 0] S1x1024x512.size inb_S2x1024x512_S1x1024x512_1_0_0).toLoadRect
      (arg7.view.writes (Elt F) G (pb_k0_t8 (F := F) 𝒱 c bd i arg1 harg1 arg2 harg2 arg3 harg3 arg4 harg4 arg5 harg5 arg6 harg6 arg7 harg7 arg8 harg8 k0_pay412 k0_pay413 tableV X_arg2 X_arg3 k0_t8_loop.trips))
      = wRows (View.read (Elt F) arg2.view X_arg2) (View.read (Elt F) arg3.view X_arg3) 7 :=
  slot_read arg7 _ _ 7 1 k0_t8_loop.trips (by decide) inb_S2x1024x512_S1x1024x512_1_0_0 _
    (upTo_t8 (F := F) 𝒱 c bd i arg1 harg1 arg2 harg2 arg3 harg3 arg4 harg4 arg5 harg5 arg6 harg6 arg7 harg7 arg8 harg8 k0_pay412 k0_pay413 tableV X_arg2 X_arg3 isDup0 isDup1 _ (le_refl _)) G

theorem read_t8_app (𝒱 : Variants) (c : Dev nD) (bd : Option 𝒱.V) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole)  (X_arg2 : BufTy.Contents (Elt F) arg2.view.ty) (X_arg3 : BufTy.Contents (Elt F) arg3.view.ty) (G : BufTy.Contents (Elt F) arg7.view.ty) (L : List (View.Piece (Elt F) S2x1024x512 .bf16))
    {X1 : Vec F S4096x512 .i8} {X2 : Vec F S128x512 .f32} (h1 : View.read (Elt F) arg2.view X_arg2 = X1) (h2 : View.read (Elt F) arg3.view X_arg3 = X2) :
    View.readAt (Elt F) arg7.view (Rect.unit (s := S2x1024x512) ![1, 0, 0] S1x1024x512.size inb_S2x1024x512_S1x1024x512_1_0_0).toLoadRect
      (arg7.view.writes (Elt F) G (pb_k0_t8 (F := F) 𝒱 c bd i arg1 harg1 arg2 harg2 arg3 harg3 arg4 harg4 arg5 harg5 arg6 harg6 arg7 harg7 arg8 harg8 k0_pay412 k0_pay413 tableV X_arg2 X_arg3 (Scf.trips k0_t8_loop.lb k0_t8_loop.ub k0_t8_loop.st) ++ L)) = wRows X1 X2 7 := by
  subst h1 h2
  rw [View.writes_append]
  exact read_t8 (F := F) 𝒱 c bd i arg1 harg1 arg2 harg2 arg3 harg3 arg4 harg4 arg5 harg5 arg6 harg6 arg7 harg7 arg8 harg8 X_arg2 X_arg3 _

/-- The kernel's accumulation over the chunks, from what each load reads. -/
theorem outV_of {x0 : Vec F S512x8192 .bf16} {x1 : Vec F S4096x512 .i8} {x2 : Vec F S128x512 .f32} {h h' : Vec F S512x16 .bf16}
    {x4 x4' : Vec F S16x512 .bf16} {X0 X1 X2 X3 X4 X5 X6 X7 : Vec F S512x1024 .bf16} {W0 W1 W2 W3 W4 W5 W6 W7 : Vec F S1x1024x512 .bf16}
    (hh : h' = h) (h4 : x4' = x4)
    (eX0 : X0 = xCols0 x0) (eW0 : W0 = wRows x1 x2 0) (eX1 : X1 = xCols1 x0) (eW1 : W1 = wRows x1 x2 1) (eX2 : X2 = xCols2 x0) (eW2 : W2 = wRows x1 x2 2) (eX3 : X3 = xCols3 x0) (eW3 : W3 = wRows x1 x2 3) (eX4 : X4 = xCols4 x0) (eW4 : W4 = wRows x1 x2 4) (eX5 : X5 = xCols5 x0) (eW5 : W5 = wRows x1 x2 5) (eX6 : X6 = xCols6 x0) (eW6 : W6 = wRows x1 x2 6) (eX7 : X7 = xCols7 x0) (eW7 : W7 = wRows x1 x2 7) :
    k0_pay2 (k0_pay426 (k0_pay422 (k0_pay418 h' x4') (Scalar.ofBits .f32 0x40000000#32) X0 W0 X1 W1 X2 W2) X3 W3 X4 W4 X5 W5)
      (k0_pay428 X6) W6 X7 W7 = outV x0 x1 x2 h x4 := by
  subst hh h4 eX0 eW0 eX1 eW1 eX2 eW2 eX3 eW3 eX4 eW4 eX5 eW5 eX6 eW6 eX7 eW7
  rfl

end Cert.KernelIdeal.Hand
-- ==== Proof.Cases.lean ====
/- What the two cases of a grid point share: when the low-rank intermediate is computed, and the buffers the body is given. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Values
public import Idealize.ShloMosaic.Lib.VecWindow
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body computes the low-rank intermediate when this holds. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- Window 0's buffer at point `t`. -/
abbrev ms0_0 (t : Fin cfg0.N) : Memref sig .tc .vmem S512x8192 .bf16 := win0_0.stage (cfg0.slots t 0)
abbrev hs0_0 (t : Fin cfg0.N) : (ms0_0 t).IsWhole := hstage0_0 ((cfg0.slots t 0).cast nbuf0_0)
/-- Window 1's buffer at point `t`. -/
abbrev ms0_1 (t : Fin cfg0.N) : Memref sig .tc .vmem S4096x512 .i8 := win0_1.stage (cfg0.slots t 1)
abbrev hs0_1 (t : Fin cfg0.N) : (ms0_1 t).IsWhole := hstage0_1 ((cfg0.slots t 1).cast nbuf0_1)
/-- Window 2's buffer at point `t`. -/
abbrev ms0_2 (t : Fin cfg0.N) : Memref sig .tc .vmem S128x512 .f32 := win0_2.stage (cfg0.slots t 2)
abbrev hs0_2 (t : Fin cfg0.N) : (ms0_2 t).IsWhole := hstage0_2 ((cfg0.slots t 2).cast nbuf0_2)
/-- Window 3's buffer at point `t`. -/
abbrev ms0_3 (t : Fin cfg0.N) : Memref sig .tc .vmem S8192x16 .bf16 := win0_3.stage (cfg0.slots t 3)
abbrev hs0_3 (t : Fin cfg0.N) : (ms0_3 t).IsWhole := hstage0_3 ((cfg0.slots t 3).cast nbuf0_3)
/-- Window 4's buffer at point `t`. -/
abbrev ms0_4 (t : Fin cfg0.N) : Memref sig .tc .vmem S16x512 .bf16 := win0_4.stage (cfg0.slots t 4)
abbrev hs0_4 (t : Fin cfg0.N) : (ms0_4 t).IsWhole := hstage0_4 ((cfg0.slots t 4).cast nbuf0_4)
/-- Window 5's buffer at point `t`. -/
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
/-- The weight buffer of two slots and the low-rank intermediate's buffer. -/
abbrev scM0_0 : Memref sig .tc .vmem S2x1024x512 .bf16 := Memref.whole cc0_scratch0
abbrev scM0_1 : Memref sig .tc .vmem S512x16 .bf16 := Memref.whole cc0_scratch1

/-- What the region starts with: both buffers at some contents, and the generator's state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.RunA.lean ====
/- The body at the first grid point: it computes the low-rank intermediate and its block of the result. -/
module

public import proofs.«01_k».proof.Proof.Cases

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body, from the inputs' blocks to the block of the result. -/
theorem runA (c : Dev nD) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (hc0 : cond0_0 i)
    (x0 : Vec F S512x8192 .bf16) (x1 : Vec F S4096x512 .i8) (x2 : Vec F S128x512 .f32) (x3 : Vec F S8192x16 .bf16) (x4 : Vec F S16x512 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outV x0 x1 x2 (hV x0 x3) x4) ∗ (∃ d, owns (c : Thread nD τ) arg7 fullShare d) ∗ owns (c : Thread nD τ) arg8 fullShare (hV x0 x3)) -∗ K ⟨⟩))
      ⊢ wp frame (wpE (defs₀ (F := F)) Variants.none c none) E (cc0_qlora_nf4 i arg1 harg1 arg2 harg2 arg3 harg3 arg4 harg4 arg5 harg5 arg6 harg6 arg7 harg7 arg8 harg8) K := by
  simp only [cc0_qlora_nf4_eq_skeleton]; unfold cc0_qlora_nf4_skel
  simp only [k0_part81_eq_skeleton, k0_part82_eq_skeleton, k0_part83_eq_skeleton, k0_part84_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_run_names
    refine (View.read_writes_full _ _ _ _ _).trans (outV_of ?_ ?_ ?_ ?_ ?_ ?_ ?_ ?_ ?_ ?_ ?_ ?_ ?_ ?_ ?_ ?_ ?_ ?_)
    · exact (View.readCov_full _ _ _ _ _).trans (congrArg₂ k0_pay417 ((View.readAt_full _ _ _).trans hf0) ((View.readAt_full _ _ _).trans hf3))
    · exact (View.readAt_full _ _ _).trans hf4
    · exact (View.readAt_eq_ld _ _ _).trans (by rw [hf0])
    · exact (congrArg _ (congrArg _ (List.append_nil _).symm)).trans (read_t1_app (F := F) (L := []) (h1 := hf1) (h2 := hf2) ..)
    · exact (View.readAt_eq_ld _ _ _).trans (by rw [hf0])
    · exact read_t2_app (F := F) (h1 := hf1) (h2 := hf2) ..
    · exact (View.readAt_eq_ld _ _ _).trans (by rw [hf0])
    · exact read_t3_app (F := F) (h1 := hf1) (h2 := hf2) ..
    · exact (View.readAt_eq_ld _ _ _).trans (by rw [hf0])
    · exact read_t4_app (F := F) (h1 := hf1) (h2 := hf2) ..
    · exact (View.readAt_eq_ld _ _ _).trans (by rw [hf0])
    · exact read_t5_app (F := F) (h1 := hf1) (h2 := hf2) ..
    · exact (View.readAt_eq_ld _ _ _).trans (by rw [hf0])
    · exact read_t6_app (F := F) (h1 := hf1) (h2 := hf2) ..
    · exact (View.readAt_eq_ld _ _ _).trans (by rw [hf0])
    · exact read_t7_app (F := F) (h1 := hf1) (h2 := hf2) ..
    · exact (View.readAt_eq_ld _ _ _).trans (by rw [hf0])
    · exact read_t8_app (F := F) (h1 := hf1) (h2 := hf2) ..
  isplitl [HS0]
  · iexists _, _; isplitr; swap; · iexact HS0
    ipureintro; rfl
  iexists _; isplitr; swap; · iexact HS1
  ipureintro
  sl_unfold_run_names
  exact (View.read_writes_full _ _ _ _ _).trans (congrArg₂ k0_pay417 ((View.readAt_full _ _ _).trans hf0) ((View.readAt_full _ _ _).trans hf3))

end Cert.KernelIdeal.Hand

end
-- ==== Proof.RunB.lean ====
/- The body at a later grid point: it reads the low-rank intermediate it finds and computes its block of the result. -/
module

public import proofs.«01_k».proof.Proof.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body, from the inputs' blocks to the block of the result. -/
theorem runB (c : Dev nD) (i : grid0.Coords) (arg1 : Memref sig .tc .vmem S512x8192 .bf16) (harg1 : arg1.IsWhole) (arg2 : Memref sig .tc .vmem S4096x512 .i8) (harg2 : arg2.IsWhole) (arg3 : Memref sig .tc .vmem S128x512 .f32) (harg3 : arg3.IsWhole) (arg4 : Memref sig .tc .vmem S8192x16 .bf16) (harg4 : arg4.IsWhole) (arg5 : Memref sig .tc .vmem S16x512 .bf16) (harg5 : arg5.IsWhole) (arg6 : Memref sig .tc .vmem S512x512 .bf16) (harg6 : arg6.IsWhole) (arg7 : Memref sig .tc .vmem S2x1024x512 .bf16) (harg7 : arg7.IsWhole) (arg8 : Memref sig .tc .vmem S512x16 .bf16) (harg8 : arg8.IsWhole) (hc0 : ¬ cond0_0 i)
    (x0 : Vec F S512x8192 .bf16) (x1 : Vec F S4096x512 .i8) (x2 : Vec F S128x512 .f32) (x3 : Vec F S8192x16 .bf16) (x4 : Vec F S16x512 .bf16) (xs1 : Vec F S512x16 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outV x0 x1 x2 xs1 x4) ∗ (∃ d, owns (c : Thread nD τ) arg7 fullShare d) ∗ owns (c : Thread nD τ) arg8 fullShare xs1) -∗ K ⟨⟩))
      ⊢ wp frame (wpE (defs₀ (F := F)) Variants.none c none) E (cc0_qlora_nf4 i arg1 harg1 arg2 harg2 arg3 harg3 arg4 harg4 arg5 harg5 arg6 harg6 arg7 harg7 arg8 harg8) K := by
  simp only [cc0_qlora_nf4_eq_skeleton]; unfold cc0_qlora_nf4_skel
  simp only [k0_part81_eq_skeleton, k0_part82_eq_skeleton, k0_part83_eq_skeleton, k0_part84_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg8.eq_unread hfs1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    sl_unfold_run_names
    refine (View.read_writes_full _ _ _ _ _).trans (outV_of ?_ ?_ ?_ ?_ ?_ ?_ ?_ ?_ ?_ ?_ ?_ ?_ ?_ ?_ ?_ ?_ ?_ ?_)
    · exact (View.readAt_full _ _ _).trans hfs1
    · exact (View.readAt_full _ _ _).trans hf4
    · exact (View.readAt_eq_ld _ _ _).trans (by rw [hf0])
    · exact (congrArg _ (congrArg _ (List.append_nil _).symm)).trans (read_t1_app (F := F) (L := []) (h1 := hf1) (h2 := hf2) ..)
    · exact (View.readAt_eq_ld _ _ _).trans (by rw [hf0])
    · exact read_t2_app (F := F) (h1 := hf1) (h2 := hf2) ..
    · exact (View.readAt_eq_ld _ _ _).trans (by rw [hf0])
    · exact read_t3_app (F := F) (h1 := hf1) (h2 := hf2) ..
    · exact (View.readAt_eq_ld _ _ _).trans (by rw [hf0])
    · exact read_t4_app (F := F) (h1 := hf1) (h2 := hf2) ..
    · exact (View.readAt_eq_ld _ _ _).trans (by rw [hf0])
    · exact read_t5_app (F := F) (h1 := hf1) (h2 := hf2) ..
    · exact (View.readAt_eq_ld _ _ _).trans (by rw [hf0])
    · exact read_t6_app (F := F) (h1 := hf1) (h2 := hf2) ..
    · exact (View.readAt_eq_ld _ _ _).trans (by rw [hf0])
    · exact read_t7_app (F := F) (h1 := hf1) (h2 := hf2) ..
    · exact (View.readAt_eq_ld _ _ _).trans (by rw [hf0])
    · exact read_t8_app (F := F) (h1 := hf1) (h2 := hf2) ..
  isplitl [HS0]
  · iexists _, _; isplitr; swap; · iexact HS0
    ipureintro; rfl
  iexists _; isplitr; · ipureintro; exact harg8.read_unread _
  iexact HS1

end Cert.KernelIdeal.Hand

end
-- ==== Proof.HandFrame.lean ====
/- The launch: every grid point's body ends with its block of the result in the output window and with the low-rank
   intermediate of the first point in its buffer, so the kernel terminates, leaves its arguments unchanged, and the result's
   array is written block by block. -/
module

public import proofs.«01_k».proof.Proof.RunB
public import Idealize.ShloMosaic.Lib.Claim
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The low-rank intermediate: what the first point computes from `x` and `a`. -/
def hAll (c : Dev nD) : Vec F S512x16 .bf16 :=
  hV (iblk m c 0 (⟨0, lt_of_lt_of_eq (by decide) N_0.symm⟩ : Fin cfg0.N)) (iblk m c 3 (⟨0, lt_of_lt_of_eq (by decide) N_0.symm⟩ : Fin cfg0.N))

/-- What point `t` leaves in the output window. -/
def outAt (c : Dev nD) (t : Fin cfg0.N) : Vec F S512x512 .bf16 :=
  outV (iblk m c 0 t) (iblk m c 1 t) (iblk m c 2 t) (hAll m c) (iblk m c 4 t)

/-- The invariant between the points: after the first the intermediate's buffer holds it. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (hAll m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ owns (c : Thread nD τ) scM0_1 fullShare (hAll m c)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (hAll m c)) ∗ (∃ r, prngReg c r)) := by
  cases n with
  | zero => exact absurd rfl hz
  | succ n => rfl

/-- The pipeline's data: each input's buffer keeps its block, the output's gets `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 16 := lt_of_lt_of_eq t.isLt (show cfg0.N = 16 from N_0)
  by_cases hz : t.val = 0
  · have e : hAll m c = hV (iblk m c 0 t) (iblk m c 3 t) := by
      obtain ⟨n, hn⟩ := t
      obtain rfl : n = 0 := hz
      rfl
    have h0 : t.val % 16 = 0 := by omega
    rw [PhiS_castSucc m c t, PhiS_zero m c _ _ hz, PhiA0_eq]
    unfold outAt
    rw [e]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ _ _ ((hcond0_0 t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have h0 : ¬ t.val % 16 = 0 := by omega
    rw [PhiS_castSucc m c t, PhiS_pos m c _ _ hz]
    unfold outAt
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ (fun h => h0 ((hcond0_0 t).mp h)) (iblk m c 0 t) (iblk m c 1 t) (iblk m c 2 t) (iblk m c 3 t) (iblk m c 4 t) (hAll m c) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- The launch, every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.Spec.lean ====
/- The value both programs compute, at the reals.

   Weight `K, n` is the level its 4-bit code names times the scale of its group of 64 rows. The result at row `r` and column `n` is
   the sum over all `K` of `x` times the weight, plus twice the low-rank term. -/
module

public import proofs.«01_k».proof.Proof.Tile
public import Idealize.ShloMosaic.Lib.MatmulPlain
public import Idealize.ShloMosaic.Lib.KernelVsHost

@[expose] public section

noncomputable section

namespace Cert.KernelIdeal.Hand

open Idealize.ShloMosaic Idealize.ShloMosaic.TcCoe
open ValueIdx (ix2 ix3)

/-- The 16 levels. -/
def lev : Fin 16 → EReal :=
  ![Ideal.ofBits .f32 0xBF800000#32, Ideal.ofBits .f32 0xBF3239B1#32, Ideal.ofBits .f32 0xBF066B30#32, Ideal.ofBits .f32 0xBECA32A0#32, Ideal.ofBits .f32 0xBE91A24D#32, Ideal.ofBits .f32 0xBE3D353F#32, Ideal.ofBits .f32 0xBDBA7871#32, Ideal.ofBits .f32 0x00000000#32, Ideal.ofBits .f32 0x3DA2FAFF#32, Ideal.ofBits .f32 0x3E24CAE3#32, Ideal.ofBits .f32 0x3E7C04DD#32, Ideal.ofBits .f32 0x3EAD033A#32, Ideal.ofBits .f32 0x3EE1A4B8#32, Ideal.ofBits .f32 0x3F1007AB#32, Ideal.ofBits .f32 0x3F3913B3#32, Ideal.ofBits .f32 0x3F800000#32]

/-- The level of the code weight row `K` takes from packed byte `b`. -/
def levOf (b : BitVec 8) (K : ℕ) : EReal := lev ⟨(nib b K).toNat, nib_lt b K⟩

/-- The weight at row `K`, column `n`. -/
def wgt (W : (⟨2, ![4096, 8192]⟩ : Shape).Idx → BitVec 8) (A : (⟨2, ![128, 8192]⟩ : Shape).Idx → EReal) (K : Fin 8192) (n : Fin 8192) : EReal :=
  levOf (W (ix2 ⟨K.val / 2, by omega⟩ n)) K * A (ix2 ⟨K.val / 64, by omega⟩ n)

/-- The low-rank intermediate. -/
def lowH (X : Fin 512 → Fin 8192 → EReal) (A : (⟨2, ![8192, 16]⟩ : Shape).Idx → EReal) (r : Fin 512) (j : Fin 16) : EReal :=
  ∑ k : Fin 8192, X r k * A (ix2 k j)

/-- The low-rank term. -/
def low (X : Fin 512 → Fin 8192 → EReal) (A : (⟨2, ![8192, 16]⟩ : Shape).Idx → EReal) (B : (⟨2, ![16, 8192]⟩ : Shape).Idx → EReal)
    (r : Fin 512) (n : Fin 8192) : EReal :=
  ∑ j : Fin 16, lowH X A r j * B (ix2 j n)

/-- The result. -/
def result (X : (⟨3, ![1, 512, 8192]⟩ : Shape).Idx → EReal) (W : (⟨2, ![4096, 8192]⟩ : Shape).Idx → BitVec 8) (S : (⟨2, ![128, 8192]⟩ : Shape).Idx → EReal)
    (A : (⟨2, ![8192, 16]⟩ : Shape).Idx → EReal) (B : (⟨2, ![16, 8192]⟩ : Shape).Idx → EReal) (r : Fin 512) (n : Fin 8192) : EReal :=
  ∑ K : Fin 8192, X (ix3 0 r K) * wgt W S K n + Ideal.ofBits .f32 0x40000000#32 * low (fun r k => X (ix3 0 r k)) A B r n

/-- The sum over all rows, chunk by chunk. -/
theorem sum_chunks (f : Fin 8192 → EReal) :
    ∑ K : Fin 8192, f K = ∑ c : Fin 8, ∑ k : Fin 1024, f ⟨1024 * c.val + k.val, by omega⟩ := by
  rw [← Equiv.sum_comp (finProdFinEquiv (m := 8) (n := 1024)) f, Fintype.sum_prod_type]
  refine Finset.sum_congr rfl fun c _ => Finset.sum_congr rfl fun k _ => congrArg f (Fin.ext ?_)
  show k.val + 1024 * c.val = 1024 * c.val + k.val
  omega

/-- The sum over all rows, even rows and odd rows apart. -/
theorem sum_parity (f : Fin 8192 → EReal) :
    ∑ K : Fin 8192, f K = ∑ j : Fin 4096, f ⟨2 * j.val, by omega⟩ + ∑ j : Fin 4096, f ⟨2 * j.val + 1, by omega⟩ := by
  rw [← Equiv.sum_comp (finProdFinEquiv (m := 4096) (n := 2)) f, Fintype.sum_prod_type, ← Finset.sum_add_distrib]
  refine Finset.sum_congr rfl fun j _ => ?_
  rw [Fin.sum_univ_two]
  refine congrArg₂ (· + ·) (congrArg f (Fin.ext ?_)) (congrArg f (Fin.ext ?_))
  · show 0 + 2 * j.val = 2 * j.val; omega
  · show 1 + 2 * j.val = 2 * j.val + 1; omega

end Cert.KernelIdeal.Hand

end
-- ==== Proof.KernelValue.lean ====
/- The kernel's block of the result, read at an index, at the reals: the value of `Spec` at the block's place. -/
module

public import proofs.«01_k».proof.Proof.Values
public import proofs.«01_k».proof.Proof.Spec
public import Idealize.ShloMosaic.Lib.Pipeline.ValueKit.Tiles

@[expose] public section

set_option maxRecDepth 16384

noncomputable section

namespace Cert.KernelIdeal.Hand

open Idealize.ShloMosaic Idealize.ShloMosaic.TcCoe Cert.KernelIdeal.Gen
open ValueIdx (ix2 ix3)

/-- The kernel's table holds the levels, one per row. -/
theorem tableV_apply (q : Fin 16) (l : Fin 128) : tableV (F := Ideal) (ix2 q l) = lev q := by
  have e : (iota .tc S16x128 32 [0] iota_S16x128_d0_w32 : IVec S16x128 32) = fun i => BitVec.ofNat 32 (i 0).val :=
    funext (iota_single_apply _ _ _ _ _)
  unfold tableV k0_pay416 k0_pay414 k0_pay415
  simp only [e]
  fin_cases q <;> rfl

/-- A dequantised row's element. -/
theorem wRows_apply (X2 : Vec Ideal S4096x512 .i8) (X3 : Vec Ideal S128x512 .f32) (kc : Fin 8) (k : Fin 1024) (n : Fin 512) (K : Fin 8192)
    (hK : K.val = 1024 * kc.val + k.val) :
    wRows X2 X3 kc (ix3 0 k n) = levOf (X2 (ix2 ⟨K.val / 2, by omega⟩ n)) K * X3 (ix2 ⟨K.val / 64, by omega⟩ n) := by
  obtain ⟨K, hKlt⟩ := K
  obtain rfl : K = 1024 * kc.val + k.val := hK
  exact congrArg (· * _) (tableV_apply _ _)

/-- One chunk's product. -/
def mm (X : Vec Ideal S512x1024 .bf16) (W : Vec Ideal S1x1024x512 .bf16) : FVec Ideal S512x512 .f32 :=
  matmul (F := Ideal) dot_S512x1024_S1024x512_S512x512_1_0_0_1_n_n none (shapeCast S512x1024 X shapeCasts_S512x1024_S512x1024 : FVec Ideal S512x1024 .bf16)
    (shapeCast S1024x512 W shapeCasts_S1x1024x512_S1024x512 : FVec Ideal S1024x512 .bf16) (constant S512x512 .f32 0x00000000#32)

theorem mm_apply (X : Vec Ideal S512x1024 .bf16) (W : Vec Ideal S1x1024x512 .bf16) (r n : Fin 512) :
    mm X W (ix2 r n) = ∑ k : Fin 1024, X (ix2 r k) * W (ix3 0 k n) := by
  unfold mm
  rw [matmul_zero_eq_dotGeneral, shapeCast_self]
  rw [← matmul_zero_eq_dotGeneral]
  refine (Ideal.matmul_plain_apply (M := 512) (K := 1024) (N := 512) none _ _ _ r n).trans ?_
  refine (congrArg (· + _) (show constant (F := Ideal) S512x512 .f32 0x00000000#32 (ix2 r n) = 0 from Ideal.ofBits_zero_f32)).trans ((zero_add _).trans ?_)
  refine Finset.sum_congr rfl fun k _ => congrArg (X (ix2 r k) * ·) ?_
  refine shapeCast_apply W _ (ix2 k n) (ix3 0 k n) ?_
  rw [Shape.rowMajor_val_three, Shape.rowMajor_val_two]
  show (0 * 1024 + k.val) * 512 + n.val = k.val * 512 + n.val
  omega

theorem hV_apply (x0 : Vec Ideal S512x8192 .bf16) (x3 : Vec Ideal S8192x16 .bf16) (r : Fin 512) (j : Fin 16) :
    hV x0 x3 (ix2 r j) = ∑ k : Fin 8192, x0 (ix2 r k) * x3 (ix2 k j) := by
  unfold hV k0_pay417
  rw [shapeCast_self, shapeCast_self]
  refine (Ideal.matmul_plain_apply (M := 512) (K := 8192) (N := 16) (φ₁ := .bf16) (φ₂ := .bf16) none x0 x3 (constant S512x16 .f32 0x00000000#32) r j).trans ?_
  exact (congrArg (· + _) (show constant (F := Ideal) S512x16 .f32 0x00000000#32 (ix2 r j) = 0 from Ideal.ofBits_zero_f32)).trans (zero_add _)

theorem lo_apply (h : Vec Ideal S512x16 .bf16) (x4 : Vec Ideal S16x512 .bf16) (r n : Fin 512) :
    k0_pay418 (F := Ideal) h x4 (ix2 r n) = ∑ j : Fin 16, h (ix2 r j) * x4 (ix2 j n) := by
  unfold k0_pay418
  refine (Ideal.matmul_plain_apply (M := 512) (K := 16) (N := 512) none _ _ _ r n).trans ?_
  exact (congrArg (· + _) (show constant (F := Ideal) S512x512 .f32 0x00000000#32 (ix2 r n) = 0 from Ideal.ofBits_zero_f32)).trans (zero_add _)

/-- The columns of `x` that chunk `c` multiplies, at an index. -/
theorem xCols_apply (x0 : Vec Ideal S512x8192 .bf16) (c : ℕ) (inb : ∀ a, ![0, c] a + S512x1024.size a ≤ S512x8192.size a) (r : Fin 512) (k : Fin 1024)
    (K : Fin 8192) (hK : K.val = c + k.val) :
    View.ld x0 (Rect.unit (s := S512x8192) ![0, c] S512x1024.size inb) (ix2 r k) = x0 (ix2 r K) := by
  refine congrArg x0 (funext fun a => Fin.ext ?_)
  refine (Rect.idx_unit_val _ _ _ _ _).trans ?_
  match a with
  | ⟨0, _⟩ => show 0 + r.val = r.val; omega
  | ⟨1, _⟩ => show c + k.val = K.val; omega

/-- The block of the result at an index. -/
theorem outV_apply (x0 : Vec Ideal S512x8192 .bf16) (x1 : Vec Ideal S4096x512 .i8) (x2 : Vec Ideal S128x512 .f32) (h : Vec Ideal S512x16 .bf16)
    (x4 : Vec Ideal S16x512 .bf16) (r n : Fin 512) :
    outV x0 x1 x2 h x4 (ix2 r n)
      = ∑ K : Fin 8192, x0 (ix2 r K) * (levOf (x1 (ix2 ⟨K.val / 2, by omega⟩ n)) K * x2 (ix2 ⟨K.val / 64, by omega⟩ n))
        + Ideal.ofBits .f32 0x40000000#32 * ∑ j : Fin 16, h (ix2 r j) * x4 (ix2 j n) := by
  have e : outV x0 x1 x2 h x4 (ix2 r n)
      = ((((((((Ideal.ofBits .f32 0x40000000#32 * k0_pay418 (F := Ideal) h x4 (ix2 r n)
        + mm (xCols0 x0) (wRows x1 x2 0) (ix2 r n)) + mm (xCols1 x0) (wRows x1 x2 1) (ix2 r n)) + mm (xCols2 x0) (wRows x1 x2 2) (ix2 r n)) + mm (xCols3 x0) (wRows x1 x2 3) (ix2 r n)) + mm (xCols4 x0) (wRows x1 x2 4) (ix2 r n)) + mm (xCols5 x0) (wRows x1 x2 5) (ix2 r n)) + mm (xCols6 x0) (wRows x1 x2 6) (ix2 r n)) + mm (xCols7 x0) (wRows x1 x2 7) (ix2 r n) : EReal) := by
    rfl
  rw [e, lo_apply]
  have f : ∀ (c : Fin 8) (X : Vec Ideal S512x1024 .bf16), (∀ (k : Fin 1024) (K : Fin 8192), K.val = 1024 * c.val + k.val → X (ix2 r k) = x0 (ix2 r K)) →
      mm X (wRows x1 x2 c) (ix2 r n) = ∑ k : Fin 1024, (fun K : Fin 8192 => x0 (ix2 r K) * (levOf (x1 (ix2 ⟨K.val / 2, by omega⟩ n)) K * x2 (ix2 ⟨K.val / 64, by omega⟩ n)))
        ⟨1024 * c.val + k.val, by omega⟩ := by
    intro c X hX
    rw [mm_apply]
    exact Finset.sum_congr rfl fun k _ => congrArg₂ (· * ·) (hX k _ rfl) (wRows_apply x1 x2 c k n _ rfl)
  rw [sum_chunks, Fin.sum_univ_eight]
  rw [f 0 (xCols0 x0) (fun k K hK => xCols_apply x0 _ _ r k K hK), f 1 (xCols1 x0) (fun k K hK => xCols_apply x0 _ _ r k K hK), f 2 (xCols2 x0) (fun k K hK => xCols_apply x0 _ _ r k K hK), f 3 (xCols3 x0) (fun k K hK => xCols_apply x0 _ _ r k K hK), f 4 (xCols4 x0) (fun k K hK => xCols_apply x0 _ _ r k K hK), f 5 (xCols5 x0) (fun k K hK => xCols_apply x0 _ _ r k K hK), f 6 (xCols6 x0) (fun k K hK => xCols_apply x0 _ _ r k K hK), f 7 (xCols7 x0) (fun k K hK => xCols_apply x0 _ _ r k K hK)]
  ac_rfl

end Cert.KernelIdeal.Hand

end
-- ==== Proof.HandValue.lean ====
/- The kernel's result, at the reals: the array the launch leaves is `Spec`'s result at every index. -/
module

public import proofs.«01_k».proof.Proof.HandFrame
public import proofs.«01_k».proof.Proof.KernelValue

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen
open ValueIdx (ix2 ix3)

variable (m : (ℓ : Loc nD τ sig) → Buf (Elt Ideal) ℓ) (ρ : Dev nD → PrngReg)

/-- The array `x` is staged from: the argument with its leading axis of size one dropped. -/
theorem V_main_v0 (c : Dev nD) : V m c main_v0 = shapeCast S512x8192 (m ((c : Thread nD τ).loc main_arg0)) shapeCasts_S1x512x8192_S512x8192 := by
  show StableHlo.after hostOps0 (fun b => m (c, b)) (Proc.devRef .tc main_v0) = _
  rw [hostOps0, StableHlo.after_cons, StableHlo.after_nil, StableHlo.reshape_result]
  rfl

/-- Window 0's block at point `t`. -/
theorem idx0 : ∀ t : Fin cfg0.N, win0_0.index t (0 : Fin 2) = 0 ∧ win0_0.index t (1 : Fin 2) = 0 :=
  (by decide +kernel : ∀ t : Fin grid0.N, _)

/-- Window 1's block at point `t`. -/
theorem idx1 : ∀ t : Fin cfg0.N, win0_1.index t (0 : Fin 2) = 0 ∧ win0_1.index t (1 : Fin 2) = t.val :=
  (by decide +kernel : ∀ t : Fin grid0.N, _)

/-- Window 2's block at point `t`. -/
theorem idx2 : ∀ t : Fin cfg0.N, win0_2.index t (0 : Fin 2) = 0 ∧ win0_2.index t (1 : Fin 2) = t.val :=
  (by decide +kernel : ∀ t : Fin grid0.N, _)

/-- Window 3's block at point `t`. -/
theorem idx3 : ∀ t : Fin cfg0.N, win0_3.index t (0 : Fin 2) = 0 ∧ win0_3.index t (1 : Fin 2) = 0 :=
  (by decide +kernel : ∀ t : Fin grid0.N, _)

/-- Window 4's block at point `t`. -/
theorem idx4 : ∀ t : Fin cfg0.N, win0_4.index t (0 : Fin 2) = 0 ∧ win0_4.index t (1 : Fin 2) = t.val :=
  (by decide +kernel : ∀ t : Fin grid0.N, _)

/-- Window 5's block at point `t`. -/
theorem idx5 : ∀ t : Fin cfg0.N, win0_5.index t (0 : Fin 2) = 0 ∧ win0_5.index t (1 : Fin 2) = t.val :=
  (by decide +kernel : ∀ t : Fin grid0.N, _)

theorem iblk0_apply (c : Dev nD) (t : Fin cfg0.N) (p : Fin 512) (n : Fin 8192) :
    iblk m c 0 t (ix2 p n) = m ((c : Thread nD τ).loc main_arg0) (ix3 0 p n) := by
  obtain ⟨e0, e1⟩ := idx0 t
  have hv : ∀ i, V m c main_v0 i = shapeCast S512x8192 (m ((c : Thread nD τ).loc main_arg0)) shapeCasts_S1x512x8192_S512x8192 i := fun i => congrFun (V_main_v0 m c) i
  have he : ((cfg0.win 0).blk t).view.emb (ix2 p n) = ix2 p n := by
    funext a; apply Fin.ext
    match a with
    | ⟨0, _⟩ => show win0_0.index t (0 : Fin 2) * 512 + 1 * p.val = p.val; omega
    | ⟨1, _⟩ => show win0_0.index t (1 : Fin 2) * 8192 + 1 * n.val = n.val; omega
  show V m c main_v0 (((cfg0.win 0).blk t).view.emb (ix2 p n)) = _
  rw [he]
  refine (hv _).trans (shapeCast_apply _ _ (ix2 p n) (ix3 0 p n) ?_)
  rw [Shape.rowMajor_val_three, Shape.rowMajor_val_two]
  show (0 * 512 + p.val) * 8192 + n.val = p.val * 8192 + n.val
  omega

theorem iblk1_apply (c : Dev nD) (t : Fin cfg0.N) (p : Fin 4096) (n : Fin 512) (n' : Fin 8192) (hn : n'.val = 512 * t.val + n.val) :
    iblk m c 1 t (ix2 p n) = m ((c : Thread nD τ).loc main_arg1) (ix2 p n') := by
  obtain ⟨e0, e1⟩ := idx1 t
  have hv : ∀ i, V m c main_arg1 i = m ((c : Thread nD τ).loc main_arg1) (i) := fun i => congrFun (V_main_arg1 m c) i
  have he : ((cfg0.win 1).blk t).view.emb (ix2 p n) = ix2 p n' := by
    funext a; apply Fin.ext
    match a with
    | ⟨0, _⟩ => show win0_1.index t (0 : Fin 2) * 4096 + 1 * p.val = p.val; omega
    | ⟨1, _⟩ => show win0_1.index t (1 : Fin 2) * 512 + 1 * n.val = n'.val; omega
  show V m c main_arg1 (((cfg0.win 1).blk t).view.emb (ix2 p n)) = _
  rw [he]
  exact hv _

theorem iblk2_apply (c : Dev nD) (t : Fin cfg0.N) (p : Fin 128) (n : Fin 512) (n' : Fin 8192) (hn : n'.val = 512 * t.val + n.val) :
    iblk m c 2 t (ix2 p n) = m ((c : Thread nD τ).loc main_arg2) (ix2 p n') := by
  obtain ⟨e0, e1⟩ := idx2 t
  have hv : ∀ i, V m c main_arg2 i = m ((c : Thread nD τ).loc main_arg2) (i) := fun i => congrFun (V_main_arg2 m c) i
  have he : ((cfg0.win 2).blk t).view.emb (ix2 p n) = ix2 p n' := by
    funext a; apply Fin.ext
    match a with
    | ⟨0, _⟩ => show win0_2.index t (0 : Fin 2) * 128 + 1 * p.val = p.val; omega
    | ⟨1, _⟩ => show win0_2.index t (1 : Fin 2) * 512 + 1 * n.val = n'.val; omega
  show V m c main_arg2 (((cfg0.win 2).blk t).view.emb (ix2 p n)) = _
  rw [he]
  exact hv _

theorem iblk3_apply (c : Dev nD) (t : Fin cfg0.N) (p : Fin 8192) (n : Fin 16) :
    iblk m c 3 t (ix2 p n) = m ((c : Thread nD τ).loc main_arg3) (ix2 p n) := by
  obtain ⟨e0, e1⟩ := idx3 t
  have hv : ∀ i, V m c main_arg3 i = m ((c : Thread nD τ).loc main_arg3) (i) := fun i => congrFun (V_main_arg3 m c) i
  have he : ((cfg0.win 3).blk t).view.emb (ix2 p n) = ix2 p n := by
    funext a; apply Fin.ext
    match a with
    | ⟨0, _⟩ => show win0_3.index t (0 : Fin 2) * 8192 + 1 * p.val = p.val; omega
    | ⟨1, _⟩ => show win0_3.index t (1 : Fin 2) * 16 + 1 * n.val = n.val; omega
  show V m c main_arg3 (((cfg0.win 3).blk t).view.emb (ix2 p n)) = _
  rw [he]
  exact hv _

theorem iblk4_apply (c : Dev nD) (t : Fin cfg0.N) (p : Fin 16) (n : Fin 512) (n' : Fin 8192) (hn : n'.val = 512 * t.val + n.val) :
    iblk m c 4 t (ix2 p n) = m ((c : Thread nD τ).loc main_arg4) (ix2 p n') := by
  obtain ⟨e0, e1⟩ := idx4 t
  have hv : ∀ i, V m c main_arg4 i = m ((c : Thread nD τ).loc main_arg4) (i) := fun i => congrFun (V_main_arg4 m c) i
  have he : ((cfg0.win 4).blk t).view.emb (ix2 p n) = ix2 p n' := by
    funext a; apply Fin.ext
    match a with
    | ⟨0, _⟩ => show win0_4.index t (0 : Fin 2) * 16 + 1 * p.val = p.val; omega
    | ⟨1, _⟩ => show win0_4.index t (1 : Fin 2) * 512 + 1 * n.val = n'.val; omega
  show V m c main_arg4 (((cfg0.win 4).blk t).view.emb (ix2 p n)) = _
  rw [he]
  exact hv _

/-- The result, as an array. -/
def resV (c : Dev nD) : Buf (Elt Ideal) ((c : Thread nD τ).loc main_v1) := fun i =>
  result (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-- What a point leaves in the output window, at an index. -/
theorem outAt_apply (c : Dev nD) (t : Fin cfg0.N) (r n : Fin 512) (n' : Fin 8192) (hn : n'.val = 512 * t.val + n.val) :
    outAt m c t (ix2 r n) = resV m c (ix2 r n') := by
  unfold outAt hAll
  rw [outV_apply]
  show _ = result _ _ _ _ _ r n'
  unfold result
  refine congrArg₂ (· + ·) (Finset.sum_congr rfl fun K _ => ?_) (congrArg (Ideal.ofBits .f32 0x40000000#32 * ·) (Finset.sum_congr rfl fun j _ => ?_))
  · unfold wgt
    rw [iblk0_apply, iblk1_apply m c t _ n n' hn, iblk2_apply m c t _ n n' hn]
  · unfold lowH
    rw [hV_apply, iblk4_apply m c t j n n' hn]
    refine congrArg (· * _) (Finset.sum_congr rfl fun k _ => ?_)
    rw [iblk0_apply, iblk3_apply]

/-- What point `t` writes back is its block of the result. -/
theorem flushed5_eq (c : Dev nD) (t : Fin cfg0.N) :
    (dats m 0 c).flushed 5 t = ((cfg0.win 5).blk t).view.read (Elt Ideal) (resV m c) := by
  show (cfg0.win 5).cut (grid0.coords t) ((dats m 0 c).after 5 t) = _
  rw [after0_5]
  obtain ⟨e0, e1⟩ := idx5 t
  have hN : t.val < 16 := lt_of_lt_of_eq t.isLt (show cfg0.N = 16 from N_0)
  funext y
  have hy0 : (y 0).val < 512 := (y 0).isLt
  have hy1 : (y 1).val < 512 := (y 1).isLt
  have hl : (cfg0.win 5).xinj (grid0.coords t) y = ix2 (⟨(y 0).val, hy0⟩ : Fin 512) (⟨(y 1).val, hy1⟩ : Fin 512) := by
    funext a; apply Fin.ext
    match a with
    | ⟨0, _⟩ => rfl
    | ⟨1, _⟩ => rfl
  have hr : ((cfg0.win 5).blk t).view.emb y = ix2 (⟨(y 0).val, hy0⟩ : Fin 512) (⟨512 * t.val + (y 1).val, by omega⟩ : Fin 8192) := by
    funext a; apply Fin.ext
    match a with
    | ⟨0, _⟩ => show win0_5.index t (0 : Fin 2) * 512 + 1 * (y 0).val = (y 0).val; omega
    | ⟨1, _⟩ => show win0_5.index t (1 : Fin 2) * 512 + 1 * (y 1).val = 512 * t.val + (y 1).val; omega
  show outAt m c t ((cfg0.win 5).xinj (grid0.coords t) y) = resV m c (((cfg0.win 5).blk t).view.emb y)
  rw [hl, hr]
  exact outAt_apply m c t _ _ _ rfl

theorem mem_blk5 (t : Fin cfg0.N) (i : S512x8192.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v1).slice (win0_5.rect t)).set ↔ _
  rw [View.set_slice_whole, Rect.mem_set_unit]
  exact Iff.rfl

theorem flush5 : ∀ t : Fin cfg0.N, (cfg0.win 5).flush t = true :=
  (by decide +kernel : ∀ t : Fin grid0.N, win0_5.flush t = true)

/-- Every index of the result lies in some point's block. -/
theorem covered5 (i : S512x8192.Idx) : ∃ t : Fin cfg0.N, (cfg0.win 5).flush t = true ∧ i ∈ ((cfg0.win 5).blk t).view.set := by
  have hi0 : (i 0).val < 512 := (i 0).isLt
  have hi1 : (i 1).val < 8192 := (i 1).isLt
  refine ⟨⟨(i 1).val / 512, lt_of_lt_of_eq (by omega) N_0.symm⟩, flush5 _, ?_⟩
  rw [mem_blk5]
  obtain ⟨e0, e1⟩ := idx5 ⟨(i 1).val / 512, lt_of_lt_of_eq (by omega) N_0.symm⟩
  dsimp only at e1
  intro a
  match a with
  | ⟨0, _⟩ => show win0_5.index _ (0 : Fin 2) * 512 ≤ (i 0).val ∧ (i 0).val < win0_5.index _ (0 : Fin 2) * 512 + 512; omega
  | ⟨1, _⟩ => show win0_5.index _ (1 : Fin 2) * 512 ≤ (i 1).val ∧ (i 1).val < win0_5.index _ (1 : Fin 2) * 512 + 512; omega

/-- The result's array after the launch. -/
theorem final5 (c : Dev nD) : (dats m 0 c).arrAt 5 cfg0.N = resV m c :=
  (dats m 0 c).arrAt_eq_of_cover 5 _ (fun t _ => flushed5_eq m c t) covered5

/-- The launch: the result's array holds the result, and the arguments are unchanged. -/
theorem value : θ_run defs (onTc (τ := τ) (main (F := Ideal))) ⟨m, fun _ => 0, ρ⟩ fun r => ∀ c : Dev nD,
      r.2.mem ((c : Thread nD τ).loc main_v1) = resV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans (final5 m c), h.2 c⟩) (θ_run_and (run_main m ρ) (unchanged m ρ))

end Cert.KernelIdeal.Hand

end
-- ==== Proof.RefValue.lean ====
/- What the reference computes, at the reals: `Spec`'s result at every index. -/
module

public import proofs.«01_k».proof.Proof.Gen.ReferenceIdeal.Run
public import proofs.«01_k».proof.Proof.Spec
public import Idealize.ShloMosaic.Lib.Pipeline.Value
public import Idealize.ShloMosaic.Lib.IdealHost

@[expose] public section

set_option maxRecDepth 16384

noncomputable section

namespace Cert.ReferenceIdeal.Hand

open Idealize.ShloMosaic Idealize.ShloMosaic.TcCoe Idealize.SL.Sem Cert.ReferenceIdeal Cert.ReferenceIdeal.Gen Cert.ReferenceIdeal.Value
open Cert.KernelIdeal.Hand (lev levOf nib nib_lt wgt lowH low result sum_parity)
open ValueIdx (ix2 ix3)

/-- The codes of the even weight rows, and of the odd ones. -/
def codeLo (X : IVec S4096x8192 8) : IVec S4096x8192 32 :=
  andi (extui 32 X natLt_8_32) (broadcastInDim S4096x8192 ![] bcast_S_S4096x8192 (constantI S_ 32 15#32))
def codeHi (X : IVec S4096x8192 8) : IVec S4096x8192 32 :=
  Host.shrsi (extui 32 X natLt_8_32) (broadcastInDim S4096x8192 ![] bcast_S_S4096x8192 (constantI S_ 32 4#32))

/-- The choice among the 16 levels by the code's four bits. -/
def treeV (code : IVec S4096x8192 32) : FVec Ideal S4096x8192 .f32 :=
  select (cmpi .ne (andi code (broadcastInDim S4096x8192 ![] bcast_S_S4096x8192 (constantI S_ 32 8#32))) (broadcastInDim S4096x8192 ![] bcast_S_S4096x8192 (constantI S_ 32 0#32))) (select (cmpi .ne (andi code (broadcastInDim S4096x8192 ![] bcast_S_S4096x8192 (constantI S_ 32 4#32))) (broadcastInDim S4096x8192 ![] bcast_S_S4096x8192 (constantI S_ 32 0#32))) (select (cmpi .ne (andi code (broadcastInDim S4096x8192 ![] bcast_S_S4096x8192 (constantI S_ 32 2#32))) (broadcastInDim S4096x8192 ![] bcast_S_S4096x8192 (constantI S_ 32 0#32))) (select (cmpi .ne (andi code (broadcastInDim S4096x8192 ![] bcast_S_S4096x8192 (constantI S_ 32 1#32))) (broadcastInDim S4096x8192 ![] bcast_S_S4096x8192 (constantI S_ 32 0#32))) (broadcastInDim S4096x8192 ![] bcast_S_S4096x8192 (constant (F := Ideal) S_ .f32 0x3F800000#32)) (broadcastInDim S4096x8192 ![] bcast_S_S4096x8192 (constant (F := Ideal) S_ .f32 0x3F3913B3#32))) (select (cmpi .ne (andi code (broadcastInDim S4096x8192 ![] bcast_S_S4096x8192 (constantI S_ 32 1#32))) (broadcastInDim S4096x8192 ![] bcast_S_S4096x8192 (constantI S_ 32 0#32))) (broadcastInDim S4096x8192 ![] bcast_S_S4096x8192 (constant (F := Ideal) S_ .f32 0x3F1007AB#32)) (broadcastInDim S4096x8192 ![] bcast_S_S4096x8192 (constant (F := Ideal) S_ .f32 0x3EE1A4B8#32)))) (select (cmpi .ne (andi code (broadcastInDim S4096x8192 ![] bcast_S_S4096x8192 (constantI S_ 32 2#32))) (broadcastInDim S4096x8192 ![] bcast_S_S4096x8192 (constantI S_ 32 0#32))) (select (cmpi .ne (andi code (broadcastInDim S4096x8192 ![] bcast_S_S4096x8192 (constantI S_ 32 1#32))) (broadcastInDim S4096x8192 ![] bcast_S_S4096x8192 (constantI S_ 32 0#32))) (broadcastInDim S4096x8192 ![] bcast_S_S4096x8192 (constant (F := Ideal) S_ .f32 0x3EAD033A#32)) (broadcastInDim S4096x8192 ![] bcast_S_S4096x8192 (constant (F := Ideal) S_ .f32 0x3E7C04DD#32))) (select (cmpi .ne (andi code (broadcastInDim S4096x8192 ![] bcast_S_S4096x8192 (constantI S_ 32 1#32))) (broadcastInDim S4096x8192 ![] bcast_S_S4096x8192 (constantI S_ 32 0#32))) (broadcastInDim S4096x8192 ![] bcast_S_S4096x8192 (constant (F := Ideal) S_ .f32 0x3E24CAE3#32)) (broadcastInDim S4096x8192 ![] bcast_S_S4096x8192 (constant (F := Ideal) S_ .f32 0x3DA2FAFF#32))))) (select (cmpi .ne (andi code (broadcastInDim S4096x8192 ![] bcast_S_S4096x8192 (constantI S_ 32 4#32))) (broadcastInDim S4096x8192 ![] bcast_S_S4096x8192 (constantI S_ 32 0#32))) (select (cmpi .ne (andi code (broadcastInDim S4096x8192 ![] bcast_S_S4096x8192 (constantI S_ 32 2#32))) (broadcastInDim S4096x8192 ![] bcast_S_S4096x8192 (constantI S_ 32 0#32))) (select (cmpi .ne (andi code (broadcastInDim S4096x8192 ![] bcast_S_S4096x8192 (constantI S_ 32 1#32))) (broadcastInDim S4096x8192 ![] bcast_S_S4096x8192 (constantI S_ 32 0#32))) (broadcastInDim S4096x8192 ![] bcast_S_S4096x8192 (constant (F := Ideal) S_ .f32 0x00000000#32)) (broadcastInDim S4096x8192 ![] bcast_S_S4096x8192 (constant (F := Ideal) S_ .f32 0xBDBA7871#32))) (select (cmpi .ne (andi code (broadcastInDim S4096x8192 ![] bcast_S_S4096x8192 (constantI S_ 32 1#32))) (broadcastInDim S4096x8192 ![] bcast_S_S4096x8192 (constantI S_ 32 0#32))) (broadcastInDim S4096x8192 ![] bcast_S_S4096x8192 (constant (F := Ideal) S_ .f32 0xBE3D353F#32)) (broadcastInDim S4096x8192 ![] bcast_S_S4096x8192 (constant (F := Ideal) S_ .f32 0xBE91A24D#32)))) (select (cmpi .ne (andi code (broadcastInDim S4096x8192 ![] bcast_S_S4096x8192 (constantI S_ 32 2#32))) (broadcastInDim S4096x8192 ![] bcast_S_S4096x8192 (constantI S_ 32 0#32))) (select (cmpi .ne (andi code (broadcastInDim S4096x8192 ![] bcast_S_S4096x8192 (constantI S_ 32 1#32))) (broadcastInDim S4096x8192 ![] bcast_S_S4096x8192 (constantI S_ 32 0#32))) (broadcastInDim S4096x8192 ![] bcast_S_S4096x8192 (constant (F := Ideal) S_ .f32 0xBECA32A0#32)) (broadcastInDim S4096x8192 ![] bcast_S_S4096x8192 (constant (F := Ideal) S_ .f32 0xBF066B30#32))) (select (cmpi .ne (andi code (broadcastInDim S4096x8192 ![] bcast_S_S4096x8192 (constantI S_ 32 1#32))) (broadcastInDim S4096x8192 ![] bcast_S_S4096x8192 (constantI S_ 32 0#32))) (broadcastInDim S4096x8192 ![] bcast_S_S4096x8192 (constant (F := Ideal) S_ .f32 0xBF3239B1#32)) (broadcastInDim S4096x8192 ![] bcast_S_S4096x8192 (constant (F := Ideal) S_ .f32 0xBF800000#32)))))

/-- The same choice, of one code. -/
def treeS (w : BitVec 32) : EReal :=
  if IntOp.cmpi .ne (IntOp.andi w 8#32) 0#32 = 1#1 then (if IntOp.cmpi .ne (IntOp.andi w 4#32) 0#32 = 1#1 then (if IntOp.cmpi .ne (IntOp.andi w 2#32) 0#32 = 1#1 then (if IntOp.cmpi .ne (IntOp.andi w 1#32) 0#32 = 1#1 then Ideal.ofBits .f32 0x3F800000#32 else Ideal.ofBits .f32 0x3F3913B3#32) else (if IntOp.cmpi .ne (IntOp.andi w 1#32) 0#32 = 1#1 then Ideal.ofBits .f32 0x3F1007AB#32 else Ideal.ofBits .f32 0x3EE1A4B8#32)) else (if IntOp.cmpi .ne (IntOp.andi w 2#32) 0#32 = 1#1 then (if IntOp.cmpi .ne (IntOp.andi w 1#32) 0#32 = 1#1 then Ideal.ofBits .f32 0x3EAD033A#32 else Ideal.ofBits .f32 0x3E7C04DD#32) else (if IntOp.cmpi .ne (IntOp.andi w 1#32) 0#32 = 1#1 then Ideal.ofBits .f32 0x3E24CAE3#32 else Ideal.ofBits .f32 0x3DA2FAFF#32))) else (if IntOp.cmpi .ne (IntOp.andi w 4#32) 0#32 = 1#1 then (if IntOp.cmpi .ne (IntOp.andi w 2#32) 0#32 = 1#1 then (if IntOp.cmpi .ne (IntOp.andi w 1#32) 0#32 = 1#1 then Ideal.ofBits .f32 0x00000000#32 else Ideal.ofBits .f32 0xBDBA7871#32) else (if IntOp.cmpi .ne (IntOp.andi w 1#32) 0#32 = 1#1 then Ideal.ofBits .f32 0xBE3D353F#32 else Ideal.ofBits .f32 0xBE91A24D#32)) else (if IntOp.cmpi .ne (IntOp.andi w 2#32) 0#32 = 1#1 then (if IntOp.cmpi .ne (IntOp.andi w 1#32) 0#32 = 1#1 then Ideal.ofBits .f32 0xBECA32A0#32 else Ideal.ofBits .f32 0xBF066B30#32) else (if IntOp.cmpi .ne (IntOp.andi w 1#32) 0#32 = 1#1 then Ideal.ofBits .f32 0xBF3239B1#32 else Ideal.ofBits .f32 0xBF800000#32)))

theorem treeV_apply (code : IVec S4096x8192 32) (i : S4096x8192.Idx) : treeV code i = treeS (code i) := rfl

theorem treeS_lev : ∀ k : Fin 16, treeS (BitVec.ofNat 32 k.val) = lev k := by
  intro k
  fin_cases k <;> rfl

theorem low_code : ∀ k : Fin 256, IntOp.andi ((BitVec.ofNat 8 k.val).setWidth 32) 15#32 = BitVec.ofNat 32 (nib (BitVec.ofNat 8 k.val) 0).toNat := by
  decide +kernel

theorem high_code : ∀ k : Fin 256, IntOp.shrsi .host ((BitVec.ofNat 8 k.val).setWidth 32) 4#32 = BitVec.ofNat 32 (nib (BitVec.ofNat 8 k.val) 1).toNat := by
  decide +kernel

theorem nib_even (b : BitVec 8) (j : ℕ) : nib b (2 * j) = nib b 0 := by
  unfold nib
  rw [if_pos (by omega), if_pos (by omega)]

theorem nib_odd (b : BitVec 8) (j : ℕ) : nib b (2 * j + 1) = nib b 1 := by
  unfold nib
  rw [if_neg (by omega), if_neg (by omega)]

theorem lev_congr {a b : ℕ} (ha : a < 16) (hb : b < 16) (h : a = b) : lev ⟨a, ha⟩ = lev ⟨b, hb⟩ := by
  subst h; rfl

/-- The even rows' levels. -/
theorem treeLo (X : IVec S4096x8192 8) (i : S4096x8192.Idx) (j : ℕ) : treeV (codeLo X) i = levOf (X i) (2 * j) := by
  rw [treeV_apply]
  have h := low_code ⟨(X i).toNat, (X i).isLt⟩
  rw [show BitVec.ofNat 8 (X i).toNat = X i from (BitVec.ofNat_toNat 8 (X i)).trans (BitVec.setWidth_eq _)] at h
  refine (congrArg treeS (show codeLo X i = _ from h)).trans ?_
  refine (treeS_lev ⟨(nib (X i) 0).toNat, nib_lt _ _⟩).trans ?_
  exact lev_congr _ _ (congrArg BitVec.toNat (nib_even _ _).symm)

/-- The odd rows' levels. -/
theorem treeHi (X : IVec S4096x8192 8) (i : S4096x8192.Idx) (j : ℕ) : treeV (codeHi X) i = levOf (X i) (2 * j + 1) := by
  rw [treeV_apply]
  have h := high_code ⟨(X i).toNat, (X i).isLt⟩
  rw [show BitVec.ofNat 8 (X i).toNat = X i from (BitVec.ofNat_toNat 8 (X i)).trans (BitVec.setWidth_eq _)] at h
  refine (congrArg treeS (show codeHi X i = _ from h)).trans ?_
  refine (treeS_lev ⟨(nib (X i) 1).toNat, nib_lt _ _⟩).trans ?_
  exact lev_congr _ _ (congrArg BitVec.toNat (nib_odd _ _).symm)

/-- The dequantised rows of one parity. -/
def rows (T : FVec Ideal S4096x8192 .f32) (S : FVec Ideal S128x8192 .f32) : FVec Ideal S4096x8192 .bf16 :=
  shapeCast _ (mulf (shapeCast _ (truncf .bf16 T bitsLt_bf16_f32) shapeCasts_S4096x8192_S128x32x8192 : FVec Ideal S128x32x8192 .bf16) (broadcastInDim S128x32x8192 ![0, 1, 2] bcast_S128x1x8192_S128x32x8192_0_1_2 (broadcastInDim S128x1x8192 ![0, 2] bcast_S128x8192_S128x1x8192_0_2 (truncf .bf16 S bitsLt_bf16_f32)))) shapeCasts_S128x32x8192_S4096x8192

theorem rows_apply (T : FVec Ideal S4096x8192 .f32) (S : FVec Ideal S128x8192 .f32) (j : Fin 4096) (n : Fin 8192) :
    rows T S (ix2 j n) = T (ix2 j n) * S (ix2 ⟨j.val / 32, by omega⟩ n) := by
  unfold rows
  refine (shapeCast_apply _ _ (ix2 j n) (ix3 (⟨j.val / 32, by omega⟩ : Fin 128) (⟨j.val % 32, by omega⟩ : Fin 32) n) ?_).trans ?_
  · rw [Shape.rowMajor_val_three, Shape.rowMajor_val_two]
    show (j.val / 32 * 32 + j.val % 32) * 8192 + n.val = j.val * 8192 + n.val
    omega
  refine congrArg₂ (fun a b : EReal => a * b) ?_ ?_
  · refine shapeCast_apply (truncf .bf16 T bitsLt_bf16_f32) _ _ (ix2 j n) ?_
    rw [Shape.rowMajor_val_three, Shape.rowMajor_val_two]
    show j.val * 8192 + n.val = (j.val / 32 * 32 + j.val % 32) * 8192 + n.val
    omega
  · refine (broadcastInDim_apply _ _ _ _ (ix3 (⟨j.val / 32, by omega⟩ : Fin 128) (0 : Fin 1) n) ?_).trans ?_
    · intro a
      match a with
      | ⟨0, _⟩ => rfl
      | ⟨1, _⟩ => rfl
      | ⟨2, _⟩ => rfl
    · refine broadcastInDim_apply _ _ (truncf .bf16 S bitsLt_bf16_f32) _ (ix2 (⟨j.val / 32, by omega⟩ : Fin 128) n) ?_
      intro a
      match a with
      | ⟨0, _⟩ => rfl
      | ⟨1, _⟩ => rfl

/-- `x` as a matrix. -/
def xF (X : FVec Ideal S1x512x8192 .bf16) : FVec Ideal S512x8192 .bf16 := shapeCast _ X shapeCasts_S1x512x8192_S512x8192

theorem xF_apply (X : FVec Ideal S1x512x8192 .bf16) (r : Fin 512) (K : Fin 8192) : xF X (ix2 r K) = X (ix3 0 r K) := by
  refine shapeCast_apply X _ (ix2 r K) (ix3 0 r K) ?_
  rw [Shape.rowMajor_val_three, Shape.rowMajor_val_two]
  show (0 * 512 + r.val) * 8192 + K.val = r.val * 8192 + K.val
  omega

/-- Its columns by parity. -/
def xP (X : FVec Ideal S1x512x8192 .bf16) : FVec Ideal S2x512x4096 .bf16 :=
  transpose S2x512x4096 [2, 0, 1] (shapeCast S512x4096x2 (xF X) shapeCasts_S512x8192_S512x4096x2) transposes_S512x4096x2_S2x512x4096_2_0_1

theorem xP_apply (X : FVec Ideal S1x512x8192 .bf16) (q : Fin 2) (r : Fin 512) (j : Fin 4096) (K : Fin 8192) (hK : K.val = 2 * j.val + q.val) :
    xP X (ix3 q r j) = X (ix3 0 r K) := by
  unfold xP
  refine (transpose_apply _ _ _ _ (ix3 r j q) ?_).trans ?_
  · intro b
    match b with
    | ⟨0, _⟩ => rfl
    | ⟨1, _⟩ => rfl
    | ⟨2, _⟩ => rfl
  refine (shapeCast_apply _ _ (ix3 r j q) (ix2 r K) ?_).trans (xF_apply X r K)
  rw [Shape.rowMajor_val_three, Shape.rowMajor_val_two]
  show r.val * 8192 + K.val = (r.val * 4096 + j.val) * 2 + q.val
  omega

/-- The even columns. -/
def xE (X : FVec Ideal S1x512x8192 .bf16) : FVec Ideal S512x4096 .bf16 :=
  shapeCast _ (extractStridedSlice S1x512x4096 ![0, 0, 0] (xP X) slices_S2x512x4096_S1x512x4096_0_0_0) shapeCasts_S1x512x4096_S512x4096

theorem xE_apply (X : FVec Ideal S1x512x8192 .bf16) (r : Fin 512) (j : Fin 4096) (K : Fin 8192) (hK : K.val = 2 * j.val + 0) :
    xE X (ix2 r j) = X (ix3 0 r K) := by
  unfold xE
  refine (shapeCast_apply _ _ (ix2 r j) (ix3 0 r j) ?_).trans ?_
  · rw [Shape.rowMajor_val_three, Shape.rowMajor_val_two]
    show (0 * 512 + r.val) * 4096 + j.val = r.val * 4096 + j.val
    omega
  refine (extractStridedSlice_apply _ _ _ _ (ix3 (0 : Fin 2) r j) ?_).trans (xP_apply X 0 r j K hK)
  intro a
  match a with
  | ⟨0, _⟩ => rfl
  | ⟨1, _⟩ => show r.val = 0 + r.val; omega
  | ⟨2, _⟩ => show j.val = 0 + j.val; omega

/-- The odd columns. -/
def xO (X : FVec Ideal S1x512x8192 .bf16) : FVec Ideal S512x4096 .bf16 :=
  shapeCast _ (extractStridedSlice S1x512x4096 ![1, 0, 0] (xP X) slices_S2x512x4096_S1x512x4096_1_0_0) shapeCasts_S1x512x4096_S512x4096

theorem xO_apply (X : FVec Ideal S1x512x8192 .bf16) (r : Fin 512) (j : Fin 4096) (K : Fin 8192) (hK : K.val = 2 * j.val + 1) :
    xO X (ix2 r j) = X (ix3 0 r K) := by
  unfold xO
  refine (shapeCast_apply _ _ (ix2 r j) (ix3 0 r j) ?_).trans ?_
  · rw [Shape.rowMajor_val_three, Shape.rowMajor_val_two]
    show (0 * 512 + r.val) * 4096 + j.val = r.val * 4096 + j.val
    omega
  refine (extractStridedSlice_apply _ _ _ _ (ix3 (1 : Fin 2) r j) ?_).trans (xP_apply X 1 r j K hK)
  intro a
  match a with
  | ⟨0, _⟩ => rfl
  | ⟨1, _⟩ => show r.val = 0 + r.val; omega
  | ⟨2, _⟩ => show j.val = 0 + j.val; omega

/-- A matrix product on the host, at an index. -/
theorem dot_apply {M K N : ℕ} {φ₁ φ₂ : FTy} (l : FVec Ideal ⟨2, ![M, K]⟩ φ₁) (w : FVec Ideal ⟨2, ![K, N]⟩ φ₂) (r : Fin M) (n : Fin N) :
    Host.dotGeneral (F := Ideal) (DotDims.plain M K N) none l w (ix2 r n) = ∑ k : Fin K, l (ix2 r k) * w (ix2 k n) := by
  rw [← matmul_zero_eq_dotGeneral]
  refine (Ideal.matmul_plain_apply (M := M) (K := K) (N := N) none l w _ r n).trans ?_
  exact (congrArg (· + _) (show constant (F := Ideal) ⟨2, ![M, N]⟩ .f32 0x00000000#32 (ix2 r n) = 0 from Ideal.ofBits_zero_f32)).trans (zero_add _)

variable (m : (ℓ : Loc nD τ sig) → Buf (Elt Ideal) ℓ) (ρ : Dev nD → PrngReg)

/-- The low-rank intermediate. -/
def refH (X : FVec Ideal S1x512x8192 .bf16) (A : FVec Ideal S8192x16 .bf16) : FVec Ideal S512x16 .bf16 :=
  truncf .bf16 (Host.dotGeneral dot_S512x8192_S8192x16_S512x16_1_0_0_1_n_n none (xF X) A) bitsLt_bf16_f32

/-- The reference's result, in these pieces. -/
def refR (X : FVec Ideal S1x512x8192 .bf16) (W : IVec S4096x8192 8) (S : FVec Ideal S128x8192 .f32) (A : FVec Ideal S8192x16 .bf16)
    (B : FVec Ideal S16x8192 .bf16) : FVec Ideal S512x8192 .bf16 :=
  truncf .bf16 (addf (addf (Host.dotGeneral dot_S512x4096_S4096x8192_S512x8192_1_0_0_1_n_n none (xE X) (rows (treeV (codeLo W)) S))
      (Host.dotGeneral dot_S512x4096_S4096x8192_S512x8192_1_0_0_1_n_n none (xO X) (rows (treeV (codeHi W)) S)))
    (mulf (broadcastInDim S512x8192 ![] bcast_S_S512x8192 (constant S_ .f32 0x40000000#32))
      (Host.dotGeneral dot_S512x16_S16x8192_S512x8192_1_0_0_1_n_n none (refH X A) B))) bitsLt_bf16_f32

theorem res_eq (c : Dev nD) : res_main_v128 m c = refR (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold res_main_v128 refR refH xE xO xP xF rows treeV codeLo codeHi
  rfl

theorem refR_apply (X : FVec Ideal S1x512x8192 .bf16) (W : IVec S4096x8192 8) (S : FVec Ideal S128x8192 .f32) (A : FVec Ideal S8192x16 .bf16)
    (B : FVec Ideal S16x8192 .bf16) (r : Fin 512) (n : Fin 8192) : refR X W S A B (ix2 r n) = result X W S A B r n := by
  have e : refR X W S A B (ix2 r n)
      = ((Host.dotGeneral (F := Ideal) (DotDims.plain 512 4096 8192) none (xE X) (rows (treeV (codeLo W)) S) (ix2 r n)
        + Host.dotGeneral (F := Ideal) (DotDims.plain 512 4096 8192) none (xO X) (rows (treeV (codeHi W)) S) (ix2 r n))
        + Ideal.ofBits .f32 0x40000000#32 * Host.dotGeneral (F := Ideal) (DotDims.plain 512 16 8192) none (refH X A) B (ix2 r n) : EReal) := rfl
  rw [e, dot_apply, dot_apply, dot_apply]
  unfold result
  rw [sum_parity]
  refine congrArg₂ (fun a b : EReal => a + b) (congrArg₂ (fun a b : EReal => a + b) ?_ ?_) (congrArg (Ideal.ofBits .f32 0x40000000#32 * ·) ?_)
  · refine Finset.sum_congr rfl fun j _ => ?_
    rw [xE_apply X r j ⟨2 * j.val, by omega⟩ rfl, rows_apply, treeLo W (ix2 j n) j.val]
    unfold wgt
    refine congrArg (X (ix3 0 r ⟨2 * j.val, by omega⟩) * ·) (congrArg₂ (fun a b : EReal => a * b) ?_ ?_)
    · exact congrArg (fun q => levOf (W (ix2 q n)) (2 * j.val)) (Fin.ext (show j.val = 2 * j.val / 2 by omega))
    · exact congrArg (fun q => S (ix2 q n)) (Fin.ext (show j.val / 32 = 2 * j.val / 64 by omega))
  · refine Finset.sum_congr rfl fun j _ => ?_
    rw [xO_apply X r j ⟨2 * j.val + 1, by omega⟩ rfl, rows_apply, treeHi W (ix2 j n) j.val]
    unfold wgt
    refine congrArg (X (ix3 0 r ⟨2 * j.val + 1, by omega⟩) * ·) (congrArg₂ (fun a b : EReal => a * b) ?_ ?_)
    · exact congrArg (fun q => levOf (W (ix2 q n)) (2 * j.val + 1)) (Fin.ext (show j.val = (2 * j.val + 1) / 2 by omega))
    · exact congrArg (fun q => S (ix2 q n)) (Fin.ext (show j.val / 32 = (2 * j.val + 1) / 64 by omega))
  · unfold low
    refine Finset.sum_congr rfl fun j _ => congrArg (· * B (ix2 j n)) ?_
    refine (dot_apply (M := 512) (K := 8192) (N := 16) (xF X) A r j).trans ?_
    unfold lowH
    exact Finset.sum_congr rfl fun k _ => congrArg (· * A (ix2 k j)) (xF_apply X r k)

/-- The reference's result at every index. -/
theorem res_apply (c : Dev nD) (i : S512x8192.Idx) : res_main_v128 m c i
    = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (i 0) (i 1) := by
  rw [res_eq]
  have hi : i = ix2 (i 0) (i 1) := by
    funext a
    match a with
    | ⟨0, _⟩ => rfl
    | ⟨1, _⟩ => rfl
  exact (congrArg (refR _ _ _ _ _) hi).trans (refR_apply _ _ _ _ _ (i 0) (i 1))

end Cert.ReferenceIdeal.Hand

end
-- ==== Proof.lean ====
/- The claims: the kernel, and the kernel and the reference at the reals, run to the end, leave their arguments unchanged and
   every semaphore at zero; and at the reals the kernel's result is the reference's, element by element.

   The kernel's runs are in `HandFrame` and its copy `K/HandFrame`, the array it leaves in `HandValue`, the reference's array in
   `RefValue`; both arrays are the one of `Spec`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.K.HandFrame
public import proofs.«01_k».proof.Proof.HandValue
public import proofs.«01_k».proof.Proof.RefValue
public import Idealize.ShloMosaic.Lib.Quiescent

@[expose] public section

noncomputable section

namespace Cert.Proof

open Idealize.ShloMosaic Idealize.SL.Sem

/-- The kernel runs and ends at rest. -/
theorem kernel_frame : Cert.quiescent_Kernel (hKernel := Cert.Kernel.Gen.facts) :=
  fun m ρ _ => Cert.Kernel.Hand.frame m ρ

/-- The kernel at the reals runs and ends at rest. -/
theorem kernelIdeal_frame : Cert.quiescent_KernelIdeal (hKernelIdeal := Cert.KernelIdeal.Gen.facts) :=
  fun m ρ _ => Cert.KernelIdeal.Hand.frame m ρ

/-- The reference at the reals runs and ends at rest: it has no semaphore. -/
theorem referenceIdeal_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems rfl r.2⟩) (Cert.ReferenceIdeal.Value.run m ρ)

/-- At the reals the two results are equal. -/
theorem equal : Cert.algebraic_KernelIdeal_ReferenceIdeal (hKernelIdeal := Cert.KernelIdeal.Gen.facts)
    (hReferenceIdeal := Cert.ReferenceIdeal.Gen.facts) := by
  intro m ρ m' ρ' _ hm
  refine ⟨fun c => Cert.KernelIdeal.Hand.resV m c, Cert.KernelIdeal.Hand.value m ρ, ?_⟩
  refine (θ_run Cert.ReferenceIdeal.defs _ _).mono (fun r h c => ⟨(h c).1.trans ?_, (h c).2⟩) (Cert.ReferenceIdeal.Value.run m' ρ')
  funext i
  obtain ⟨h0, h1, h2, h3, h4⟩ := hm c
  refine (Cert.ReferenceIdeal.Hand.res_apply m' c i).trans ?_
  rw [h0, h1, h2, h3, h4]
  rfl

theorem claim : Cert.Claim :=
  ⟨Cert.Kernel.Gen.facts, Cert.KernelIdeal.Gen.facts, Cert.ReferenceIdeal.Gen.facts,
    kernel_frame, kernelIdeal_frame, referenceIdeal_frame, trivial, equal⟩

end Cert.Proof

end
